-- ==== Defs.lean ====
def Pre_Kernel [hPre_pre : Cert.Pre_pre.Facts] (m : (ℓ : Loc Cert.Kernel.nD Cert.Kernel.τ Cert.Kernel.sig) → Buf (Elt Bits) ℓ) : Prop :=
  ∀ c : Dev Cert.Kernel.nD,
    (Cert.Pre_pre.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateIdeal_finite [hPre_finite : Cert.Pre_finite.Facts] (m : (ℓ : Loc Cert.GateIdeal.nD Cert.GateIdeal.τ Cert.GateIdeal.sig) → Buf (Elt Ideal) ℓ) : Prop :=
  ∀ c : Dev Cert.GateIdeal.nD,
    (Cert.Pre_finite.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2))) = (fun _ => 1#1)

def Pre_GateRefIdeal (m : (ℓ : Loc Cert.GateRefIdeal.nD Cert.GateRefIdeal.τ Cert.GateRefIdeal.sig) → Buf (Elt Ideal) ℓ) : Prop :=
  True

def Pre_GateRefIdeal_finite [hPre_finite : Cert.Pre_finite.Facts] (m : (ℓ : Loc Cert.GateRefIdeal.nD Cert.GateRefIdeal.τ Cert.GateRefIdeal.sig) → Buf (Elt Ideal) ℓ) : Prop :=
  ∀ c : Dev Cert.GateRefIdeal.nD,
    (Cert.Pre_finite.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2))) = (fun _ => 1#1)

def Pre_Experts [hPre_ranges : Cert.Pre_ranges.Facts] (m : (ℓ : Loc Cert.Experts.nD Cert.Experts.τ Cert.Experts.sig) → Buf (Elt Bits) ℓ) : Prop :=
  ∀ c : Dev Cert.Experts.nD,
    (Cert.Pre_ranges.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6)) (m ((c.tc : Thread Cert.Experts.nD Cert.Experts.τ).loc Cert.Experts.main_arg7))) = (fun _ => 1#1)

def Pre_ExpertsIdeal [hPre_ranges : Cert.Pre_ranges.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_ranges.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7))) = (fun _ => 1#1)

def Pre_ExpertsIdeal_tables [hPre_tables : Cert.Pre_tables.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_tables.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7))) = (fun _ => 1#1)

def Pre_ExpertsRefIdeal (m : (ℓ : Loc Cert.ExpertsRefIdeal.nD Cert.ExpertsRefIdeal.τ Cert.ExpertsRefIdeal.sig) → Buf (Elt Ideal) ℓ) : Prop :=
  True

def Pre_ExpertsRefIdeal_tables [hPre_tables : Cert.Pre_tables.Facts] (m : (ℓ : Loc Cert.ExpertsRefIdeal.nD Cert.ExpertsRefIdeal.τ Cert.ExpertsRefIdeal.sig) → Buf (Elt Ideal) ℓ) : Prop :=
  ∀ c : Dev Cert.ExpertsRefIdeal.nD,
    (Cert.Pre_tables.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4)) (m ((c.tc : Thread Cert.ExpertsRefIdeal.nD Cert.ExpertsRefIdeal.τ).loc Cert.ExpertsRefIdeal.main_arg5)) (m ((c.tc : Thread Cert.ExpertsRefIdeal.nD Cert.ExpertsRefIdeal.τ).loc Cert.ExpertsRefIdeal.main_arg6)) (m ((c.tc : Thread Cert.ExpertsRefIdeal.nD Cert.ExpertsRefIdeal.τ).loc Cert.ExpertsRefIdeal.main_arg7))) = (fun _ => 1#1)

def quiescent_Kernel [hKernel : Cert.Kernel.Facts] [hPre_pre : Cert.Pre_pre.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2))
      ∧ r.2.sem = fun _ => 0)

def quiescent_GateIdeal_pre_finite [hGateIdeal : Cert.GateIdeal.Facts] [hPre_finite : Cert.Pre_finite.Facts] : Prop :=
  ∀ (m : (ℓ : Loc Cert.GateIdeal.nD Cert.GateIdeal.τ Cert.GateIdeal.sig) → Buf (Elt Ideal) ℓ) (g : Dev Cert.GateIdeal.nD → PrngReg), Pre_GateIdeal_finite m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2))
      ∧ r.2.sem = fun _ => 0)

def quiescent_GateRefIdeal_pre_finite [hGateRefIdeal : Cert.GateRefIdeal.Facts] [hPre_finite : Cert.Pre_finite.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal_finite m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2))
      ∧ r.2.sem = fun _ => 0)

def quiescent_Experts [hExperts : Cert.Experts.Facts] [hPre_ranges : Cert.Pre_ranges.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6)
      ∧ r.2.mem ((c.tc : Thread Cert.Experts.nD Cert.Experts.τ).loc Cert.Experts.main_arg7) = m ((c.tc : Thread Cert.Experts.nD Cert.Experts.τ).loc Cert.Experts.main_arg7))
      ∧ r.2.sem = fun _ => 0)

def quiescent_ExpertsIdeal [hExpertsIdeal : Cert.ExpertsIdeal.Facts] [hPre_ranges : Cert.Pre_ranges.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
      ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7))
      ∧ r.2.sem = fun _ => 0)

def quiescent_ExpertsIdeal_pre_tables [hExpertsIdeal : Cert.ExpertsIdeal.Facts] [hPre_tables : Cert.Pre_tables.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal_tables m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
      ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7))
      ∧ r.2.sem = fun _ => 0)

def quiescent_ExpertsRefIdeal [hExpertsRefIdeal : Cert.ExpertsRefIdeal.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5)
      ∧ r.2.mem ((c.tc : Thread Cert.ExpertsRefIdeal.nD Cert.ExpertsRefIdeal.τ).loc Cert.ExpertsRefIdeal.main_arg6) = m ((c.tc : Thread Cert.ExpertsRefIdeal.nD Cert.ExpertsRefIdeal.τ).loc Cert.ExpertsRefIdeal.main_arg6)
      ∧ r.2.mem ((c.tc : Thread Cert.ExpertsRefIdeal.nD Cert.ExpertsRefIdeal.τ).loc Cert.ExpertsRefIdeal.main_arg7) = m ((c.tc : Thread Cert.ExpertsRefIdeal.nD Cert.ExpertsRefIdeal.τ).loc Cert.ExpertsRefIdeal.main_arg7))
      ∧ r.2.sem = fun _ => 0)

def quiescent_ExpertsRefIdeal_pre_tables [hExpertsRefIdeal : Cert.ExpertsRefIdeal.Facts] [hPre_tables : Cert.Pre_tables.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal_tables m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5)
      ∧ r.2.mem ((c.tc : Thread Cert.ExpertsRefIdeal.nD Cert.ExpertsRefIdeal.τ).loc Cert.ExpertsRefIdeal.main_arg6) = m ((c.tc : Thread Cert.ExpertsRefIdeal.nD Cert.ExpertsRefIdeal.τ).loc Cert.ExpertsRefIdeal.main_arg6)
      ∧ r.2.mem ((c.tc : Thread Cert.ExpertsRefIdeal.nD Cert.ExpertsRefIdeal.τ).loc Cert.ExpertsRefIdeal.main_arg7) = m ((c.tc : Thread Cert.ExpertsRefIdeal.nD Cert.ExpertsRefIdeal.τ).loc Cert.ExpertsRefIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Gate_GateIdeal : Prop :=
  IdealRules.named_const.Statement Cert.GateIdeal.κ "mask" .f32 0xF149F2CA#32 ⊥

def algebraic_GateIdeal_GateRefIdeal_pre_finite [hGateIdeal : Cert.GateIdeal.Facts] [hGateRefIdeal : Cert.GateRefIdeal.Facts] [hPre_finite : Cert.Pre_finite.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal_finite m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)) →
    ∃ (v0 : (c : Dev Cert.GateIdeal.nD) → Buf (Elt Ideal) ((c.tc : Thread Cert.GateIdeal.nD Cert.GateIdeal.τ).loc Cert.GateIdeal.main_v2_1)) (v1 : (c : Dev Cert.GateIdeal.nD) → Buf (Elt Ideal) ((c.tc : Thread Cert.GateIdeal.nD Cert.GateIdeal.τ).loc Cert.GateIdeal.main_v2_3)) (v2 : (c : Dev Cert.GateIdeal.nD) → Buf (Elt Ideal) ((c.tc : Thread Cert.GateIdeal.nD Cert.GateIdeal.τ).loc Cert.GateIdeal.main_v2_4)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v2_1) = v0 c
          ∧ r.2.mem ((c.tc : Thread Cert.GateIdeal.nD Cert.GateIdeal.τ).loc Cert.GateIdeal.main_v2_3) = v1 c
          ∧ r.2.mem ((c.tc : Thread Cert.GateIdeal.nD Cert.GateIdeal.τ).loc Cert.GateIdeal.main_v2_4) = v2 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v72) = v0 c
          ∧ r.2.mem ((c.tc : Thread Cert.GateRefIdeal.nD Cert.GateRefIdeal.τ).loc Cert.GateRefIdeal.main_v76) = v1 c
          ∧ r.2.mem ((c.tc : Thread Cert.GateRefIdeal.nD Cert.GateRefIdeal.τ).loc Cert.GateRefIdeal.main_v77) = v2 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2))

def preserves_Experts_ExpertsIdeal : Prop :=
  IdealRules.named_const.Statement Cert.ExpertsIdeal.κ "half_root" .f32 0x3F3504F3#32 (((Real.sqrt 2)⁻¹ : ℝ) : EReal)

def algebraic_ExpertsIdeal_ExpertsRefIdeal_on_used_pre_tables [hExpertsIdeal : Cert.ExpertsIdeal.Facts] [hExpertsRefIdeal : Cert.ExpertsRefIdeal.Facts] [hPre_tables : Cert.Pre_tables.Facts] [hOn_used : Cert.On_used.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal_tables m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)
      ∧ m' ((c.tc : Thread Cert.ExpertsRefIdeal.nD Cert.ExpertsRefIdeal.τ).loc Cert.ExpertsRefIdeal.main_arg4) = m ((c.tc : Thread Cert.ExpertsIdeal.nD Cert.ExpertsIdeal.τ).loc Cert.ExpertsIdeal.main_arg4)
      ∧ m' ((c.tc : Thread Cert.ExpertsRefIdeal.nD Cert.ExpertsRefIdeal.τ).loc Cert.ExpertsRefIdeal.main_arg5) = m ((c.tc : Thread Cert.ExpertsIdeal.nD Cert.ExpertsIdeal.τ).loc Cert.ExpertsIdeal.main_arg5)
      ∧ m' ((c.tc : Thread Cert.ExpertsRefIdeal.nD Cert.ExpertsRefIdeal.τ).loc Cert.ExpertsRefIdeal.main_arg6) = m ((c.tc : Thread Cert.ExpertsIdeal.nD Cert.ExpertsIdeal.τ).loc Cert.ExpertsIdeal.main_arg6)
      ∧ m' ((c.tc : Thread Cert.ExpertsRefIdeal.nD Cert.ExpertsRefIdeal.τ).loc Cert.ExpertsRefIdeal.main_arg7) = m ((c.tc : Thread Cert.ExpertsIdeal.nD Cert.ExpertsIdeal.τ).loc Cert.ExpertsIdeal.main_arg7)) →
    ∃ (v0 : (c : Dev Cert.ExpertsIdeal.nD) → Buf (Elt Ideal) ((c.tc : Thread Cert.ExpertsIdeal.nD Cert.ExpertsIdeal.τ).loc Cert.ExpertsIdeal.main_v2)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          (∀ i : (⟨2, ![6144, 768]⟩ : Shape).Idx, (Cert.On_used.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7))) i = 1#1 → r.2.mem ((c.tc : Thread Cert.ExpertsIdeal.nD Cert.ExpertsIdeal.τ).loc Cert.ExpertsIdeal.main_v2) i = v0 c i)
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
          ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          (∀ i : (⟨2, ![6144, 768]⟩ : Shape).Idx, (Cert.On_used.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7))) i = 1#1 → r.2.mem ((c.tc : Thread Cert.ExpertsRefIdeal.nD Cert.ExpertsRefIdeal.τ).loc Cert.ExpertsRefIdeal.main_v283) i = v0 c i)
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3)
          ∧ r.2.mem ((c.tc : Thread Cert.ExpertsRefIdeal.nD Cert.ExpertsRefIdeal.τ).loc Cert.ExpertsRefIdeal.main_arg4) = m' ((c.tc : Thread Cert.ExpertsRefIdeal.nD Cert.ExpertsRefIdeal.τ).loc Cert.ExpertsRefIdeal.main_arg4)
          ∧ r.2.mem ((c.tc : Thread Cert.ExpertsRefIdeal.nD Cert.ExpertsRefIdeal.τ).loc Cert.ExpertsRefIdeal.main_arg5) = m' ((c.tc : Thread Cert.ExpertsRefIdeal.nD Cert.ExpertsRefIdeal.τ).loc Cert.ExpertsRefIdeal.main_arg5)
          ∧ r.2.mem ((c.tc : Thread Cert.ExpertsRefIdeal.nD Cert.ExpertsRefIdeal.τ).loc Cert.ExpertsRefIdeal.main_arg6) = m' ((c.tc : Thread Cert.ExpertsRefIdeal.nD Cert.ExpertsRefIdeal.τ).loc Cert.ExpertsRefIdeal.main_arg6)
          ∧ r.2.mem ((c.tc : Thread Cert.ExpertsRefIdeal.nD Cert.ExpertsRefIdeal.τ).loc Cert.ExpertsRefIdeal.main_arg7) = m' ((c.tc : Thread Cert.ExpertsRefIdeal.nD Cert.ExpertsRefIdeal.τ).loc Cert.ExpertsRefIdeal.main_arg7))

def Claim : Prop :=
  ∃ (hKernel : Cert.Kernel.Facts) (hKernelIdeal : Cert.KernelIdeal.Facts) (hReferenceIdeal : Cert.ReferenceIdeal.Facts) (hGate : Cert.Gate.Facts) (hGateIdeal : Cert.GateIdeal.Facts) (hGateRefIdeal : Cert.GateRefIdeal.Facts) (hExperts : Cert.Experts.Facts) (hExpertsIdeal : Cert.ExpertsIdeal.Facts) (hExpertsRefIdeal : Cert.ExpertsRefIdeal.Facts) (hPre_pre : Cert.Pre_pre.Facts) (hPre_finite : Cert.Pre_finite.Facts) (hPre_ranges : Cert.Pre_ranges.Facts) (hPre_tables : Cert.Pre_tables.Facts) (hOn_used : Cert.On_used.Facts),
    quiescent_Kernel (hKernel := hKernel) (hPre_pre := hPre_pre)
    ∧ quiescent_KernelIdeal (hKernelIdeal := hKernelIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ quiescent_Gate (hGate := hGate)
    ∧ quiescent_GateIdeal (hGateIdeal := hGateIdeal)
    ∧ quiescent_GateIdeal_pre_finite (hGateIdeal := hGateIdeal) (hPre_finite := hPre_finite)
    ∧ quiescent_GateRefIdeal (hGateRefIdeal := hGateRefIdeal)
    ∧ quiescent_GateRefIdeal_pre_finite (hGateRefIdeal := hGateRefIdeal) (hPre_finite := hPre_finite)
    ∧ quiescent_Experts (hExperts := hExperts) (hPre_ranges := hPre_ranges)
    ∧ quiescent_ExpertsIdeal (hExpertsIdeal := hExpertsIdeal) (hPre_ranges := hPre_ranges)
    ∧ quiescent_ExpertsIdeal_pre_tables (hExpertsIdeal := hExpertsIdeal) (hPre_tables := hPre_tables)
    ∧ quiescent_ExpertsRefIdeal (hExpertsRefIdeal := hExpertsRefIdeal)
    ∧ quiescent_ExpertsRefIdeal_pre_tables (hExpertsRefIdeal := hExpertsRefIdeal) (hPre_tables := hPre_tables)
    ∧ preserves_Kernel_KernelIdeal
    ∧ algebraic_KernelIdeal_ReferenceIdeal (hKernelIdeal := hKernelIdeal) (hReferenceIdeal := hReferenceIdeal) (hPre_pre := hPre_pre)
    ∧ preserves_Gate_GateIdeal
    ∧ algebraic_GateIdeal_GateRefIdeal_pre_finite (hGateIdeal := hGateIdeal) (hGateRefIdeal := hGateRefIdeal) (hPre_finite := hPre_finite)
    ∧ preserves_Experts_ExpertsIdeal
    ∧ algebraic_ExpertsIdeal_ExpertsRefIdeal_on_used_pre_tables (hExpertsIdeal := hExpertsIdeal) (hExpertsRefIdeal := hExpertsRefIdeal) (hPre_tables := hPre_tables) (hOn_used := hOn_used)
-- ==== On_used.lean ====
abbrev S24 : Shape := ⟨1, ![24]⟩
abbrev S6144x768 : Shape := ⟨2, ![6144, 768]⟩
abbrev S8x3072x768 : Shape := ⟨3, ![8, 3072, 768]⟩
abbrev S8x3072 : Shape := ⟨2, ![8, 3072]⟩
abbrev S8x768x3072 : Shape := ⟨3, ![8, 768, 3072]⟩
abbrev S8x768 : Shape := ⟨2, ![8, 768]⟩
abbrev S24x1 : Shape := ⟨2, ![24, 1]⟩
abbrev S1 : Shape := ⟨1, ![1]⟩
abbrev S_ : Shape := ⟨0, ![]⟩
abbrev S24x256 : Shape := ⟨2, ![24, 256]⟩
abbrev S6144 : Shape := ⟨1, ![6144]⟩
abbrev S6144x1 : Shape := ⟨2, ![6144, 1]⟩

class Facts : Prop where
  bcast_S24_S24x1_0 : S24.BroadcastsInDim S24x1 (![0] : Fin 1 → Fin S24x1.rank)
  slices_S24_S1_0 : S24.Slices ![0] S1
  shapeCasts_S1_S_ : S1.ShapeCasts S_
  bcast_S_S24x1 : S_.BroadcastsInDim S24x1 (![] : Fin 0 → Fin S24x1.rank)
  bcast_S24x1_S24x256_0_1 : S24x1.BroadcastsInDim S24x256 (![0, 1] : Fin 2 → Fin S24x256.rank)
  shapeCasts_S24x256_S6144 : S24x256.ShapeCasts S6144
  bcast_S6144_S6144x1_0 : S6144.BroadcastsInDim S6144x1 (![0] : Fin 1 → Fin S6144x1.rank)
  bcast_S6144x1_S6144x768_0_1 : S6144x1.BroadcastsInDim S6144x768 (![0, 1] : Fin 2 → Fin S6144x768.rank)

variable [Facts]

def fn {F : FTy → Type} [FloatOps F] (main_arg0 : IVec S24 32) (main_arg1 : IVec S24 32) (main_arg2 : IVec S24 32) (main_arg3 : FVec F S6144x768 .f32) (main_arg4 : FVec F S8x3072x768 .f32) (main_arg5 : FVec F S8x3072 .f32) (main_arg6 : FVec F S8x768x3072 .f32) (main_arg7 : FVec F S8x768 .f32) : IVec S6144x768 1 :=
  let main_v0 : IVec S24 32 := iotaInDim S24 32 0
  let main_v1 : IVec S24x1 32 := broadcastInDim S24x1 ![0] bcast_S24_S24x1_0 main_v0
  let main_v2 : IVec S1 32 := (extractStridedSlice S1 ![0] · slices_S24_S1_0) main_arg2
  let main_v3 : IVec S_ 32 := shapeCast S_ main_v2 shapeCasts_S1_S_
  let main_v4 : IVec S24x1 32 := broadcastInDim S24x1 ![] bcast_S_S24x1 main_v3
  let main_v5 : IVec S24x1 1 := cmpi .slt main_v1 main_v4
  let main_v6 : IVec S24x256 1 := broadcastInDim S24x256 ![0, 1] bcast_S24x1_S24x256_0_1 main_v5
  let main_v7 : IVec S6144 1 := shapeCast S6144 main_v6 shapeCasts_S24x256_S6144
  let main_v8 : IVec S6144x1 1 := broadcastInDim S6144x1 ![0] bcast_S6144_S6144x1_0 main_v7
  let main_v9 : IVec S6144x768 1 := broadcastInDim S6144x768 ![0, 1] bcast_S6144x1_S6144x768_0_1 main_v8
  main_v9
-- ==== Pre_finite.lean ====
abbrev S1x2048x768 : Shape := ⟨3, ![1, 2048, 768]⟩
abbrev S8x768 : Shape := ⟨2, ![8, 768]⟩
abbrev S8 : Shape := ⟨1, ![8]⟩
abbrev S_ : Shape := ⟨0, ![]⟩

class Facts : Prop where
  bcast_S_S1x2048x768 : S_.BroadcastsInDim S1x2048x768 (![] : Fin 0 → Fin S1x2048x768.rank)
  reducesTo_S1x2048x768_S_d0_1_2 : S1x2048x768.ReducesTo [0, 1, 2] S_
  h_S_ : 0 < S_.numel
  bcast_S_S8x768 : S_.BroadcastsInDim S8x768 (![] : Fin 0 → Fin S8x768.rank)
  reducesTo_S8x768_S_d0_1 : S8x768.ReducesTo [0, 1] S_
  bcast_S_S8 : S_.BroadcastsInDim S8 (![] : Fin 0 → Fin S8.rank)
  reducesTo_S8_S_d0 : S8.ReducesTo [0] S_

variable [Facts]

def fn {F : FTy → Type} [FloatOps F] (main_arg0 : FVec F S1x2048x768 .f32) (main_arg1 : FVec F S8x768 .f32) (main_arg2 : FVec F S8 .f32) : IVec S_ 1 :=
  let main_v0 : FVec F S1x2048x768 .f32 := Host.absf main_arg0
  let main_cst : FVec F S_ .f32 := constant S_ .f32 0x7F800000#32
  let main_v1 : FVec F S1x2048x768 .f32 := broadcastInDim S1x2048x768 ![] bcast_S_S1x2048x768 main_cst
  let main_v2 : IVec S1x2048x768 1 := cmpf .olt main_v0 main_v1
  let main_c : IVec S_ 1 := constantI S_ 1 1#1
  let main_v3 : IVec S_ 1 := (fun x v => Host.reduce IntOp.andi x v reducesTo_S1x2048x768_S_d0_1_2 h_S_) main_v2 main_c
  let main_v4 : FVec F S8x768 .f32 := Host.absf main_arg1
  let main_cst_0 : FVec F S_ .f32 := constant S_ .f32 0x7F800000#32
  let main_v5 : FVec F S8x768 .f32 := broadcastInDim S8x768 ![] bcast_S_S8x768 main_cst_0
  let main_v6 : IVec S8x768 1 := cmpf .olt main_v4 main_v5
  let main_c_1 : IVec S_ 1 := constantI S_ 1 1#1
  let main_v7 : IVec S_ 1 := (fun x v => Host.reduce IntOp.andi x v reducesTo_S8x768_S_d0_1 h_S_) main_v6 main_c_1
  let main_v8 : IVec S_ 1 := andi main_v3 main_v7
  let main_v9 : FVec F S8 .f32 := Host.absf main_arg2
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  main_v13
-- ==== Pre_pre.lean ====
abbrev S6144x768 : Shape := ⟨2, ![6144, 768]⟩
abbrev S2x2048 : Shape := ⟨2, ![2, 2048]⟩
abbrev S_ : Shape := ⟨0, ![]⟩

class Facts : Prop where
  bcast_S_S2x2048 : S_.BroadcastsInDim S2x2048 (![] : Fin 0 → Fin S2x2048.rank)
  reducesTo_S2x2048_S_d0_1 : S2x2048.ReducesTo [0, 1] S_
  h_S_ : 0 < S_.numel

variable [Facts]

def fn {F : FTy → Type} [FloatOps F] (main_arg0 : FVec F S6144x768 .f32) (main_arg1 : IVec S2x2048 32) (main_arg2 : FVec F S2x2048 .f32) : IVec S_ 1 :=
  let main_c : IVec S_ 32 := constantI S_ 32 0#32
  let main_v0 : IVec S2x2048 32 := broadcastInDim S2x2048 ![] bcast_S_S2x2048 main_c
  let main_v1 : IVec S2x2048 1 := cmpi .sge main_arg1 main_v0
  let main_c_0 : IVec S_ 32 := constantI S_ 32 6144#32
  let main_v2 : IVec S2x2048 32 := broadcastInDim S2x2048 ![] bcast_S_S2x2048 main_c_0
  let main_v3 : IVec S2x2048 1 := cmpi .slt main_arg1 main_v2
  let main_v4 : IVec S2x2048 1 := andi main_v1 main_v3
  let main_c_1 : IVec S_ 1 := constantI S_ 1 1#1
  let main_v5 : IVec S_ 1 := (fun x v => Host.reduce IntOp.andi x v reducesTo_S2x2048_S_d0_1 h_S_) main_v4 main_c_1
  main_v5
-- ==== Pre_ranges.lean ====
abbrev S24 : Shape := ⟨1, ![24]⟩
abbrev S6144x768 : Shape := ⟨2, ![6144, 768]⟩
abbrev S8x3072x768 : Shape := ⟨3, ![8, 3072, 768]⟩
abbrev S8x3072 : Shape := ⟨2, ![8, 3072]⟩
abbrev S8x768x3072 : Shape := ⟨3, ![8, 768, 3072]⟩
abbrev S8x768 : Shape := ⟨2, ![8, 768]⟩
abbrev S_ : Shape := ⟨0, ![]⟩

class Facts : Prop where
  bcast_S_S24 : S_.BroadcastsInDim S24 (![] : Fin 0 → Fin S24.rank)
  reducesTo_S24_S_d0 : S24.ReducesTo [0] S_
  h_S_ : 0 < S_.numel

variable [Facts]

def fn {F : FTy → Type} [FloatOps F] (main_arg0 : IVec S24 32) (main_arg1 : IVec S24 32) (main_arg2 : IVec S24 32) (main_arg3 : FVec F S6144x768 .f32) (main_arg4 : FVec F S8x3072x768 .f32) (main_arg5 : FVec F S8x3072 .f32) (main_arg6 : FVec F S8x768x3072 .f32) (main_arg7 : FVec F S8x768 .f32) : IVec S_ 1 :=
  let main_c : IVec S_ 32 := constantI S_ 32 0#32
  let main_v0 : IVec S24 32 := broadcastInDim S24 ![] bcast_S_S24 main_c
  let main_v1 : IVec S24 1 := cmpi .sge main_arg0 main_v0
  let main_c_0 : IVec S_ 32 := constantI S_ 32 24#32
  let main_v2 : IVec S24 32 := broadcastInDim S24 ![] bcast_S_S24 main_c_0
  let main_v3 : IVec S24 1 := cmpi .slt main_arg0 main_v2
  let main_v4 : IVec S24 1 := andi main_v1 main_v3
  let main_c_1 : IVec S_ 1 := constantI S_ 1 1#1
  let main_v5 : IVec S_ 1 := (fun x v => Host.reduce IntOp.andi x v reducesTo_S24_S_d0 h_S_) main_v4 main_c_1
  let main_c_2 : IVec S_ 32 := constantI S_ 32 0#32
  let main_v6 : IVec S24 32 := broadcastInDim S24 ![] bcast_S_S24 main_c_2
  let main_v7 : IVec S24 1 := cmpi .sge main_arg1 main_v6
  let main_c_3 : IVec S_ 32 := constantI S_ 32 8#32
  let main_v8 : IVec S24 32 := broadcastInDim S24 ![] bcast_S_S24 main_c_3
  let main_v9 : IVec S24 1 := cmpi .slt main_arg1 main_v8
  let main_v10 : IVec S24 1 := andi main_v7 main_v9
  let main_c_4 : IVec S_ 1 := constantI S_ 1 1#1
  let main_v11 : IVec S_ 1 := (fun x v => Host.reduce IntOp.andi x v reducesTo_S24_S_d0 h_S_) main_v10 main_c_4
  let main_v12 : IVec S_ 1 := andi main_v5 main_v11
  main_v12
-- ==== Pre_tables.lean ====
abbrev S24 : Shape := ⟨1, ![24]⟩
abbrev S6144x768 : Shape := ⟨2, ![6144, 768]⟩
abbrev S8x3072x768 : Shape := ⟨3, ![8, 3072, 768]⟩
abbrev S8x3072 : Shape := ⟨2, ![8, 3072]⟩
abbrev S8x768x3072 : Shape := ⟨3, ![8, 768, 3072]⟩
abbrev S8x768 : Shape := ⟨2, ![8, 768]⟩
abbrev S1 : Shape := ⟨1, ![1]⟩
abbrev S_ : Shape := ⟨0, ![]⟩

class Facts : Prop where
  slices_S24_S1_0 : S24.Slices ![0] S1
  shapeCasts_S1_S_ : S1.ShapeCasts S_
  bcast_S_S24 : S_.BroadcastsInDim S24 (![] : Fin 0 → Fin S24.rank)
  reducesTo_S24_S_d0 : S24.ReducesTo [0] S_
  h_S_ : 0 < S_.numel

variable [Facts]

def fn_part1 {F : FTy → Type} [FloatOps F] (main_v9 : IVec S_ 1) (main_v17 : IVec S_ 1) : IVec S_ 1 :=
  let main_v18 : IVec S_ 1 := andi main_v9 main_v17
  main_v18

def fn {F : FTy → Type} [FloatOps F] (main_arg0 : IVec S24 32) (main_arg1 : IVec S24 32) (main_arg2 : IVec S24 32) (main_arg3 : FVec F S6144x768 .f32) (main_arg4 : FVec F S8x3072x768 .f32) (main_arg5 : FVec F S8x3072 .f32) (main_arg6 : FVec F S8x768x3072 .f32) (main_arg7 : FVec F S8x768 .f32) : IVec S_ 1 :=
  let main_v0 : IVec S1 32 := (extractStridedSlice S1 ![0] · slices_S24_S1_0) main_arg2
  let main_v1 : IVec S_ 32 := shapeCast S_ main_v0 shapeCasts_S1_S_
  let main_c : IVec S_ 32 := constantI S_ 32 1#32
  let main_v2 : IVec S_ 1 := cmpi .sge main_v1 main_c
  let main_c_0 : IVec S_ 32 := constantI S_ 32 0#32
  let main_v3 : IVec S24 32 := broadcastInDim S24 ![] bcast_S_S24 main_c_0
  let main_v4 : IVec S24 1 := cmpi .sge main_arg1 main_v3
  let main_c_1 : IVec S_ 32 := constantI S_ 32 8#32
  let main_v5 : IVec S24 32 := broadcastInDim S24 ![] bcast_S_S24 main_c_1
  let main_v6 : IVec S24 1 := cmpi .slt main_arg1 main_v5
  let main_v7 : IVec S24 1 := andi main_v4 main_v6
  let main_c_2 : IVec S_ 1 := constantI S_ 1 1#1
  let main_v8 : IVec S_ 1 := (fun x v => Host.reduce IntOp.andi x v reducesTo_S24_S_d0 h_S_) main_v7 main_c_2
  let main_v9 : IVec S_ 1 := andi main_v2 main_v8
  let main_v10 : IVec S24 32 := iotaInDim S24 32 0
  let main_v11 : IVec S1 32 := (extractStridedSlice S1 ![0] · slices_S24_S1_0) main_arg2
  let main_v12 : IVec S_ 32 := shapeCast S_ main_v11 shapeCasts_S1_S_
  let main_c_3 : IVec S_ 32 := constantI S_ 32 1#32
  let main_v13 : IVec S_ 32 := subi main_v12 main_c_3
  let main_v14 : IVec S24 32 := broadcastInDim S24 ![] bcast_S_S24 main_v13
  let main_v15 : IVec S24 32 := minsi main_v10 main_v14
  let main_v16 : IVec S24 1 := cmpi .eq main_arg0 main_v15
  let main_c_4 : IVec S_ 1 := constantI S_ 1 1#1
  let main_v17 : IVec S_ 1 := (fun x v => Host.reduce IntOp.andi x v reducesTo_S24_S_d0 h_S_) main_v16 main_c_4
  fn_part1 (F := F) main_v9 main_v17
-- ==== Kernel.lean ====
abbrev S6144x768 : Shape := ⟨2, ![6144, 768]⟩
abbrev S2x2048 : Shape := ⟨2, ![2, 2048]⟩
abbrev S2x32x64 : Shape := ⟨3, ![2, 32, 64]⟩
abbrev S32x2x64 : Shape := ⟨3, ![32, 2, 64]⟩
abbrev S2048x768 : Shape := ⟨2, ![2048, 768]⟩
abbrev S64 : Shape := ⟨1, ![64]⟩
abbrev S64x768 : Shape := ⟨2, ![64, 768]⟩
abbrev S_ : Shape := ⟨0, ![]⟩
abbrev S1x1x64 : Shape := ⟨3, ![1, 1, 64]⟩
abbrev S64x128 : Shape := ⟨2, ![64, 128]⟩
abbrev S6144x128 : Shape := ⟨2, ![6144, 128]⟩
abbrev S16 : Shape := ⟨1, ![16]⟩
abbrev S1x16 : Shape := ⟨2, ![1, 16]⟩

abbrev nBuf : Table → Nat
  | .hbm => 8
  | .local .scVector .vmem => 6
  | _ => 0

abbrev bufTy : (tb : Table) → Fin (nBuf tb) → BufTy
  | .hbm, ⟨0, _⟩ => ⟨S6144x768, .f32⟩
  | .hbm, ⟨1, _⟩ => ⟨S2x2048, .i32⟩
  | .hbm, ⟨2, _⟩ => ⟨S2x2048, .f32⟩
  | .hbm, ⟨3, _⟩ => ⟨S2x32x64, .i32⟩
  | .hbm, ⟨4, _⟩ => ⟨S32x2x64, .i32⟩
  | .hbm, ⟨5, _⟩ => ⟨S2x32x64, .f32⟩
  | .hbm, ⟨6, _⟩ => ⟨S32x2x64, .f32⟩
  | .hbm, ⟨7, _⟩ => ⟨S2048x768, .f32⟩
  | .local .scVector .vmem, ⟨0, _⟩ => ⟨S64, .i32⟩
  | .local .scVector .vmem, ⟨1, _⟩ => ⟨S64, .i32⟩
  | .local .scVector .vmem, ⟨2, _⟩ => ⟨S64x768, .f32⟩
  | .local .scVector .vmem, ⟨3, _⟩ => ⟨S64x768, .f32⟩
  | .local .scVector .vmem, ⟨4, _⟩ => ⟨S64, .f32⟩
  | .local .scVector .vmem, ⟨5, _⟩ => ⟨S64, .f32⟩
  | _, _ => ⟨S6144x768, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 7 → Bool
  | ⟨0, _⟩ => false
  | ⟨1, _⟩ => false
  | ⟨2, _⟩ => false
  | ⟨3, _⟩ => false
  | ⟨4, _⟩ => false
  | ⟨5, _⟩ => false
  | ⟨6, _⟩ => false
  | _ => false

abbrev sig : RefSig :=
  ofTables nBuf rfl bufTy 4 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_arg0_scv : Ref sig .scVector := ⟨.hbm, 0, rfl⟩
abbrev main_v1_scv : Ref sig .scVector := ⟨.hbm, 4, rfl⟩
abbrev main_v3_scv : Ref sig .scVector := ⟨.hbm, 6, rfl⟩
abbrev main_v4_scv : Ref sig .scVector := ⟨.hbm, 7, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let c0_i32_98_r0 : BitVec 32 := 0#32
  ![v1.toNat, 0, 0]
def k0_off2 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32 : BitVec 32 := 1#32
  let c0_i32_98_r1 : BitVec 32 := 0#32
  ![v1.toNat, 1, 0]
@[reducible] def k0_t1_loop : Scf.Loop 32 :=
  let c0_i32_94 : BitVec 32 := 0#32
  let c64_i32_95 : BitVec 32 := 64#32
  let v51 : BitVec 32 := Scalar.addi c0_i32_94 c64_i32_95
  let c1_i32_96 : BitVec 32 := 1#32
  ⟨c0_i32_94, v51, c1_i32_96⟩

def k0_chk1 (v54 : IVec S16 32) : Prop :=
  (∀ a x, ((![v54] : Fin 1 → IVec S16 32) a x).toNat < S64.size a) ∧
  (∀ a x, ((![v54] : Fin 1 → IVec S16 32) a x).toNat < S64.size a)
theorem k0_idx1_inb : ∀ (v54 : IVec S16 32) (k0_hw1 : k0_chk1 v54), ∀ a x, ((![v54] : Fin 1 → IVec S16 32) a x).toNat < S64.size a := fun v54 k0_hw1 => k0_hw1.1
theorem k0_idx2_inb : ∀ (v54 : IVec S16 32) (k0_hw1 : k0_chk1 v54), ∀ a x, ((![v54] : Fin 1 → IVec S16 32) a x).toNat < S64.size a := fun v54 k0_hw1 => k0_hw1.2
def k0_off3 (k0_t1 : Fin k0_t1_loop.trips) : Fin 2 → Nat :=
  let c0_i32_94 : BitVec 32 := 0#32
  let c1_i32_96 : BitVec 32 := 1#32
  let arg14 : BitVec 32 := Scf.iv c0_i32_94 c1_i32_96 k0_t1
  let v57 : Index := Scalar.indexCast arg14
  let c0 : Index := 0#32
  ![v57.toNat, 0]
def k0_off4 (k0_t1 : Fin k0_t1_loop.trips) : Fin 2 → Nat :=
  let c0_i32_94 : BitVec 32 := 0#32
  let c1_i32_96 : BitVec 32 := 1#32
  let arg14 : BitVec 32 := Scf.iv c0_i32_94 c1_i32_96 k0_t1
  let v66 : Index := Scalar.indexCast arg14
  let c16 : Index := 16#32
  ![v66.toNat, 16]
def k0_off5 (k0_t1 : Fin k0_t1_loop.trips) : Fin 2 → Nat :=
  let c0_i32_94 : BitVec 32 := 0#32
  let c1_i32_96 : BitVec 32 := 1#32
  let arg14 : BitVec 32 := Scf.iv c0_i32_94 c1_i32_96 k0_t1
  let v75 : Index := Scalar.indexCast arg14
  let c32 : Index := 32#32
  ![v75.toNat, 32]
def k0_off6 (k0_t1 : Fin k0_t1_loop.trips) : Fin 2 → Nat :=
  let c0_i32_94 : BitVec 32 := 0#32
  let c1_i32_96 : BitVec 32 := 1#32
  let arg14 : BitVec 32 := Scf.iv c0_i32_94 c1_i32_96 k0_t1
  let v84 : Index := Scalar.indexCast arg14
  let c48 : Index := 48#32
  ![v84.toNat, 48]
def k0_off7 (k0_t1 : Fin k0_t1_loop.trips) : Fin 2 → Nat :=
  let c0_i32_94 : BitVec 32 := 0#32
  let c1_i32_96 : BitVec 32 := 1#32
  let arg14 : BitVec 32 := Scf.iv c0_i32_94 c1_i32_96 k0_t1
  let v93 : Index := Scalar.indexCast arg14
  let c64 : Index := 64#32
  ![v93.toNat, 64]
def k0_off8 (k0_t1 : Fin k0_t1_loop.trips) : Fin 2 → Nat :=
  let c0_i32_94 : BitVec 32 := 0#32
  let c1_i32_96 : BitVec 32 := 1#32
  let arg14 : BitVec 32 := Scf.iv c0_i32_94 c1_i32_96 k0_t1
  let v102 : Index := Scalar.indexCast arg14
  let c80 : Index := 80#32
  ![v102.toNat, 80]
def k0_off9 (k0_t1 : Fin k0_t1_loop.trips) : Fin 2 → Nat :=
  let c0_i32_94 : BitVec 32 := 0#32
  let c1_i32_96 : BitVec 32 := 1#32
  let arg14 : BitVec 32 := Scf.iv c0_i32_94 c1_i32_96 k0_t1
  let v111 : Index := Scalar.indexCast arg14
  let c96 : Index := 96#32
  ![v111.toNat, 96]
def k0_off10 (k0_t1 : Fin k0_t1_loop.trips) : Fin 2 → Nat :=
  let c0_i32_94 : BitVec 32 := 0#32
  let c1_i32_96 : BitVec 32 := 1#32
  let arg14 : BitVec 32 := Scf.iv c0_i32_94 c1_i32_96 k0_t1
  let v120 : Index := Scalar.indexCast arg14
  let c112 : Index := 112#32
  ![v120.toNat, 112]
def k0_off11 (k0_t1 : Fin k0_t1_loop.trips) : Fin 2 → Nat :=
  let c0_i32_94 : BitVec 32 := 0#32
  let c1_i32_96 : BitVec 32 := 1#32
  let arg14 : BitVec 32 := Scf.iv c0_i32_94 c1_i32_96 k0_t1
  let v129 : Index := Scalar.indexCast arg14
  let c128 : Index := 128#32
  ![v129.toNat, 128]
def k0_off12 (k0_t1 : Fin k0_t1_loop.trips) : Fin 2 → Nat :=
  let c0_i32_94 : BitVec 32 := 0#32
  let c1_i32_96 : BitVec 32 := 1#32
  let arg14 : BitVec 32 := Scf.iv c0_i32_94 c1_i32_96 k0_t1
  let v138 : Index := Scalar.indexCast arg14
  let c144 : Index := 144#32
  ![v138.toNat, 144]
def k0_off13 (k0_t1 : Fin k0_t1_loop.trips) : Fin 2 → Nat :=
  let c0_i32_94 : BitVec 32 := 0#32
  let c1_i32_96 : BitVec 32 := 1#32
  let arg14 : BitVec 32 := Scf.iv c0_i32_94 c1_i32_96 k0_t1
  let v147 : Index := Scalar.indexCast arg14
  let c160 : Index := 160#32
  ![v147.toNat, 160]
def k0_off14 (k0_t1 : Fin k0_t1_loop.trips) : Fin 2 → Nat :=
  let c0_i32_94 : BitVec 32 := 0#32
  let c1_i32_96 : BitVec 32 := 1#32
  let arg14 : BitVec 32 := Scf.iv c0_i32_94 c1_i32_96 k0_t1
  let v156 : Index := Scalar.indexCast arg14
  let c176 : Index := 176#32
  ![v156.toNat, 176]
def k0_off15 (k0_t1 : Fin k0_t1_loop.trips) : Fin 2 → Nat :=
  let c0_i32_94 : BitVec 32 := 0#32
  let c1_i32_96 : BitVec 32 := 1#32
  let arg14 : BitVec 32 := Scf.iv c0_i32_94 c1_i32_96 k0_t1
  let v165 : Index := Scalar.indexCast arg14
  let c192 : Index := 192#32
  ![v165.toNat, 192]
def k0_off16 (k0_t1 : Fin k0_t1_loop.trips) : Fin 2 → Nat :=
  let c0_i32_94 : BitVec 32 := 0#32
  let c1_i32_96 : BitVec 32 := 1#32
  let arg14 : BitVec 32 := Scf.iv c0_i32_94 c1_i32_96 k0_t1
  let v174 : Index := Scalar.indexCast arg14
  let c208 : Index := 208#32
  ![v174.toNat, 208]
def k0_off17 (k0_t1 : Fin k0_t1_loop.trips) : Fin 2 → Nat :=
  let c0_i32_94 : BitVec 32 := 0#32
  let c1_i32_96 : BitVec 32 := 1#32
  let arg14 : BitVec 32 := Scf.iv c0_i32_94 c1_i32_96 k0_t1
  let v183 : Index := Scalar.indexCast arg14
  let c224 : Index := 224#32
  ![v183.toNat, 224]
def k0_off18 (k0_t1 : Fin k0_t1_loop.trips) : Fin 2 → Nat :=
  let c0_i32_94 : BitVec 32 := 0#32
  let c1_i32_96 : BitVec 32 := 1#32
  let arg14 : BitVec 32 := Scf.iv c0_i32_94 c1_i32_96 k0_t1
  let v192 : Index := Scalar.indexCast arg14
  let c240 : Index := 240#32
  ![v192.toNat, 240]
def k0_off19 (k0_t1 : Fin k0_t1_loop.trips) : Fin 2 → Nat :=
  let c0_i32_94 : BitVec 32 := 0#32
  let c1_i32_96 : BitVec 32 := 1#32
  let arg14 : BitVec 32 := Scf.iv c0_i32_94 c1_i32_96 k0_t1
  let v201 : Index := Scalar.indexCast arg14
  let c256 : Index := 256#32
  ![v201.toNat, 256]
def k0_off20 (k0_t1 : Fin k0_t1_loop.trips) : Fin 2 → Nat :=
  let c0_i32_94 : BitVec 32 := 0#32
  let c1_i32_96 : BitVec 32 := 1#32
  let arg14 : BitVec 32 := Scf.iv c0_i32_94 c1_i32_96 k0_t1
  let v210 : Index := Scalar.indexCast arg14
  let c272 : Index := 272#32
  ![v210.toNat, 272]
def k0_off21 (k0_t1 : Fin k0_t1_loop.trips) : Fin 2 → Nat :=
  let c0_i32_94 : BitVec 32 := 0#32
  let c1_i32_96 : BitVec 32 := 1#32
  let arg14 : BitVec 32 := Scf.iv c0_i32_94 c1_i32_96 k0_t1
  let v219 : Index := Scalar.indexCast arg14
  let c288 : Index := 288#32
  ![v219.toNat, 288]
def k0_off22 (k0_t1 : Fin k0_t1_loop.trips) : Fin 2 → Nat :=
  let c0_i32_94 : BitVec 32 := 0#32
  let c1_i32_96 : BitVec 32 := 1#32
  let arg14 : BitVec 32 := Scf.iv c0_i32_94 c1_i32_96 k0_t1
  let v228 : Index := Scalar.indexCast arg14
  let c304 : Index := 304#32
  ![v228.toNat, 304]
def k0_off23 (k0_t1 : Fin k0_t1_loop.trips) : Fin 2 → Nat :=
  let c0_i32_94 : BitVec 32 := 0#32
  let c1_i32_96 : BitVec 32 := 1#32
  let arg14 : BitVec 32 := Scf.iv c0_i32_94 c1_i32_96 k0_t1
  let v237 : Index := Scalar.indexCast arg14
  let c320 : Index := 320#32
  ![v237.toNat, 320]
def k0_off24 (k0_t1 : Fin k0_t1_loop.trips) : Fin 2 → Nat :=
  let c0_i32_94 : BitVec 32 := 0#32
  let c1_i32_96 : BitVec 32 := 1#32
  let arg14 : BitVec 32 := Scf.iv c0_i32_94 c1_i32_96 k0_t1
  let v246 : Index := Scalar.indexCast arg14
  let c336 : Index := 336#32
  ![v246.toNat, 336]
def k0_off25 (k0_t1 : Fin k0_t1_loop.trips) : Fin 2 → Nat :=
  let c0_i32_94 : BitVec 32 := 0#32
  let c1_i32_96 : BitVec 32 := 1#32
  let arg14 : BitVec 32 := Scf.iv c0_i32_94 c1_i32_96 k0_t1
  let v255 : Index := Scalar.indexCast arg14
  let c352 : Index := 352#32
  ![v255.toNat, 352]
def k0_off26 (k0_t1 : Fin k0_t1_loop.trips) : Fin 2 → Nat :=
  let c0_i32_94 : BitVec 32 := 0#32
  let c1_i32_96 : BitVec 32 := 1#32
  let arg14 : BitVec 32 := Scf.iv c0_i32_94 c1_i32_96 k0_t1
  let v264 : Index := Scalar.indexCast arg14
  let c368 : Index := 368#32
  ![v264.toNat, 368]
def k0_off27 (k0_t1 : Fin k0_t1_loop.trips) : Fin 2 → Nat :=
  let c0_i32_94 : BitVec 32 := 0#32
  let c1_i32_96 : BitVec 32 := 1#32
  let arg14 : BitVec 32 := Scf.iv c0_i32_94 c1_i32_96 k0_t1
  let v273 : Index := Scalar.indexCast arg14
  let c384 : Index := 384#32
  ![v273.toNat, 384]
def k0_off28 (k0_t1 : Fin k0_t1_loop.trips) : Fin 2 → Nat :=
  let c0_i32_94 : BitVec 32 := 0#32
  let c1_i32_96 : BitVec 32 := 1#32
  let arg14 : BitVec 32 := Scf.iv c0_i32_94 c1_i32_96 k0_t1
  let v282 : Index := Scalar.indexCast arg14
  let c400 : Index := 400#32
  ![v282.toNat, 400]
def k0_off29 (k0_t1 : Fin k0_t1_loop.trips) : Fin 2 → Nat :=
  let c0_i32_94 : BitVec 32 := 0#32
  let c1_i32_96 : BitVec 32 := 1#32
  let arg14 : BitVec 32 := Scf.iv c0_i32_94 c1_i32_96 k0_t1
  let v291 : Index := Scalar.indexCast arg14
  let c416 : Index := 416#32
  ![v291.toNat, 416]
def k0_off30 (k0_t1 : Fin k0_t1_loop.trips) : Fin 2 → Nat :=
  let c0_i32_94 : BitVec 32 := 0#32
  let c1_i32_96 : BitVec 32 := 1#32
  let arg14 : BitVec 32 := Scf.iv c0_i32_94 c1_i32_96 k0_t1
  let v300 : Index := Scalar.indexCast arg14
  let c432 : Index := 432#32
  ![v300.toNat, 432]
def k0_off31 (k0_t1 : Fin k0_t1_loop.trips) : Fin 2 → Nat :=
  let c0_i32_94 : BitVec 32 := 0#32
  let c1_i32_96 : BitVec 32 := 1#32
  let arg14 : BitVec 32 := Scf.iv c0_i32_94 c1_i32_96 k0_t1
  let v309 : Index := Scalar.indexCast arg14
  let c448 : Index := 448#32
  ![v309.toNat, 448]
def k0_off32 (k0_t1 : Fin k0_t1_loop.trips) : Fin 2 → Nat :=
  let c0_i32_94 : BitVec 32 := 0#32
  let c1_i32_96 : BitVec 32 := 1#32
  let arg14 : BitVec 32 := Scf.iv c0_i32_94 c1_i32_96 k0_t1
  let v318 : Index := Scalar.indexCast arg14
  let c464 : Index := 464#32
  ![v318.toNat, 464]
def k0_off33 (k0_t1 : Fin k0_t1_loop.trips) : Fin 2 → Nat :=
  let c0_i32_94 : BitVec 32 := 0#32
  let c1_i32_96 : BitVec 32 := 1#32
  let arg14 : BitVec 32 := Scf.iv c0_i32_94 c1_i32_96 k0_t1
  let v327 : Index := Scalar.indexCast arg14
  let c480 : Index := 480#32
  ![v327.toNat, 480]
def k0_off34 (k0_t1 : Fin k0_t1_loop.trips) : Fin 2 → Nat :=
  let c0_i32_94 : BitVec 32 := 0#32
  let c1_i32_96 : BitVec 32 := 1#32
  let arg14 : BitVec 32 := Scf.iv c0_i32_94 c1_i32_96 k0_t1
  let v336 : Index := Scalar.indexCast arg14
  let c496 : Index := 496#32
  ![v336.toNat, 496]
def k0_off35 (k0_t1 : Fin k0_t1_loop.trips) : Fin 2 → Nat :=
  let c0_i32_94 : BitVec 32 := 0#32
  let c1_i32_96 : BitVec 32 := 1#32
  let arg14 : BitVec 32 := Scf.iv c0_i32_94 c1_i32_96 k0_t1
  let v345 : Index := Scalar.indexCast arg14
  let c512 : Index := 512#32
  ![v345.toNat, 512]
def k0_off36 (k0_t1 : Fin k0_t1_loop.trips) : Fin 2 → Nat :=
  let c0_i32_94 : BitVec 32 := 0#32
  let c1_i32_96 : BitVec 32 := 1#32
  let arg14 : BitVec 32 := Scf.iv c0_i32_94 c1_i32_96 k0_t1
  let v354 : Index := Scalar.indexCast arg14
  let c528 : Index := 528#32
  ![v354.toNat, 528]
def k0_off37 (k0_t1 : Fin k0_t1_loop.trips) : Fin 2 → Nat :=
  let c0_i32_94 : BitVec 32 := 0#32
  let c1_i32_96 : BitVec 32 := 1#32
  let arg14 : BitVec 32 := Scf.iv c0_i32_94 c1_i32_96 k0_t1
  let v363 : Index := Scalar.indexCast arg14
  let c544 : Index := 544#32
  ![v363.toNat, 544]
def k0_off38 (k0_t1 : Fin k0_t1_loop.trips) : Fin 2 → Nat :=
  let c0_i32_94 : BitVec 32 := 0#32
  let c1_i32_96 : BitVec 32 := 1#32
  let arg14 : BitVec 32 := Scf.iv c0_i32_94 c1_i32_96 k0_t1
  let v372 : Index := Scalar.indexCast arg14
  let c560 : Index := 560#32
  ![v372.toNat, 560]
def k0_off39 (k0_t1 : Fin k0_t1_loop.trips) : Fin 2 → Nat :=
  let c0_i32_94 : BitVec 32 := 0#32
  let c1_i32_96 : BitVec 32 := 1#32
  let arg14 : BitVec 32 := Scf.iv c0_i32_94 c1_i32_96 k0_t1
  let v381 : Index := Scalar.indexCast arg14
  let c576 : Index := 576#32
  ![v381.toNat, 576]
def k0_off40 (k0_t1 : Fin k0_t1_loop.trips) : Fin 2 → Nat :=
  let c0_i32_94 : BitVec 32 := 0#32
  let c1_i32_96 : BitVec 32 := 1#32
  let arg14 : BitVec 32 := Scf.iv c0_i32_94 c1_i32_96 k0_t1
  let v390 : Index := Scalar.indexCast arg14
  let c592 : Index := 592#32
  ![v390.toNat, 592]
def k0_off41 (k0_t1 : Fin k0_t1_loop.trips) : Fin 2 → Nat :=
  let c0_i32_94 : BitVec 32 := 0#32
  let c1_i32_96 : BitVec 32 := 1#32
  let arg14 : BitVec 32 := Scf.iv c0_i32_94 c1_i32_96 k0_t1
  let v399 : Index := Scalar.indexCast arg14
  let c608 : Index := 608#32
  ![v399.toNat, 608]
def k0_off42 (k0_t1 : Fin k0_t1_loop.trips) : Fin 2 → Nat :=
  let c0_i32_94 : BitVec 32 := 0#32
  let c1_i32_96 : BitVec 32 := 1#32
  let arg14 : BitVec 32 := Scf.iv c0_i32_94 c1_i32_96 k0_t1
  let v408 : Index := Scalar.indexCast arg14
  let c624 : Index := 624#32
  ![v408.toNat, 624]
def k0_off43 (k0_t1 : Fin k0_t1_loop.trips) : Fin 2 → Nat :=
  let c0_i32_94 : BitVec 32 := 0#32
  let c1_i32_96 : BitVec 32 := 1#32
  let arg14 : BitVec 32 := Scf.iv c0_i32_94 c1_i32_96 k0_t1
  let v417 : Index := Scalar.indexCast arg14
  let c640 : Index := 640#32
  ![v417.toNat, 640]
def k0_off44 (k0_t1 : Fin k0_t1_loop.trips) : Fin 2 → Nat :=
  let c0_i32_94 : BitVec 32 := 0#32
  let c1_i32_96 : BitVec 32 := 1#32
  let arg14 : BitVec 32 := Scf.iv c0_i32_94 c1_i32_96 k0_t1
  let v426 : Index := Scalar.indexCast arg14
  let c656 : Index := 656#32
  ![v426.toNat, 656]
def k0_off45 (k0_t1 : Fin k0_t1_loop.trips) : Fin 2 → Nat :=
  let c0_i32_94 : BitVec 32 := 0#32
  let c1_i32_96 : BitVec 32 := 1#32
  let arg14 : BitVec 32 := Scf.iv c0_i32_94 c1_i32_96 k0_t1
  let v435 : Index := Scalar.indexCast arg14
  let c672 : Index := 672#32
  ![v435.toNat, 672]
def k0_off46 (k0_t1 : Fin k0_t1_loop.trips) : Fin 2 → Nat :=
  let c0_i32_94 : BitVec 32 := 0#32
  let c1_i32_96 : BitVec 32 := 1#32
  let arg14 : BitVec 32 := Scf.iv c0_i32_94 c1_i32_96 k0_t1
  let v444 : Index := Scalar.indexCast arg14
  let c688 : Index := 688#32
  ![v444.toNat, 688]
def k0_off47 (k0_t1 : Fin k0_t1_loop.trips) : Fin 2 → Nat :=
  let c0_i32_94 : BitVec 32 := 0#32
  let c1_i32_96 : BitVec 32 := 1#32
  let arg14 : BitVec 32 := Scf.iv c0_i32_94 c1_i32_96 k0_t1
  let v453 : Index := Scalar.indexCast arg14
  let c704 : Index := 704#32
  ![v453.toNat, 704]
def k0_off48 (k0_t1 : Fin k0_t1_loop.trips) : Fin 2 → Nat :=
  let c0_i32_94 : BitVec 32 := 0#32
  let c1_i32_96 : BitVec 32 := 1#32
  let arg14 : BitVec 32 := Scf.iv c0_i32_94 c1_i32_96 k0_t1
  let v462 : Index := Scalar.indexCast arg14
  let c720 : Index := 720#32
  ![v462.toNat, 720]
def k0_off49 (k0_t1 : Fin k0_t1_loop.trips) : Fin 2 → Nat :=
  let c0_i32_94 : BitVec 32 := 0#32
  let c1_i32_96 : BitVec 32 := 1#32
  let arg14 : BitVec 32 := Scf.iv c0_i32_94 c1_i32_96 k0_t1
  let v471 : Index := Scalar.indexCast arg14
  let c736 : Index := 736#32
  ![v471.toNat, 736]
def k0_off50 (k0_t1 : Fin k0_t1_loop.trips) : Fin 2 → Nat :=
  let c0_i32_94 : BitVec 32 := 0#32
  let c1_i32_96 : BitVec 32 := 1#32
  let arg14 : BitVec 32 := Scf.iv c0_i32_94 c1_i32_96 k0_t1
  let v480 : Index := Scalar.indexCast arg14
  let c752 : Index := 752#32
  ![v480.toNat, 752]
def k0_off51 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c0_i32_98_r4 : BitVec 32 := 0#32
  ![v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S6144x768 : Shape := ⟨2, ![6144, 768]⟩
abbrev S2x2048 : Shape := ⟨2, ![2, 2048]⟩
abbrev S1x2048 : Shape := ⟨2, ![1, 2048]⟩
abbrev S2048 : Shape := ⟨1, ![2048]⟩
abbrev S_ : Shape := ⟨0, ![]⟩
abbrev S2048x1 : Shape := ⟨2, ![2048, 1]⟩
abbrev S2048x768 : Shape := ⟨2, ![2048, 768]⟩

abbrev nBuf : Space → Nat
  | .hbm => 36
  | .vmem => 0
  | .smem => 0
  | _ => 0

abbrev bufTy : (tb : Table) → Fin (tcTables nBuf tb) → BufTy
  | .hbm, ⟨0, _⟩ => ⟨S6144x768, .f32⟩
  | .hbm, ⟨1, _⟩ => ⟨S2x2048, .i32⟩
  | .hbm, ⟨2, _⟩ => ⟨S2x2048, .f32⟩
  | .hbm, ⟨3, _⟩ => ⟨S1x2048, .i32⟩
  | .hbm, ⟨4, _⟩ => ⟨S2048, .i32⟩
  | .hbm, ⟨5, _⟩ => ⟨S_, .i32⟩
  | .hbm, ⟨6, _⟩ => ⟨S2048, .i32⟩
  | .hbm, ⟨7, _⟩ => ⟨S2048, .i1⟩
  | .hbm, ⟨8, _⟩ => ⟨S_, .i32⟩
  | .hbm, ⟨9, _⟩ => ⟨S2048, .i32⟩
  | .hbm, ⟨10, _⟩ => ⟨S2048, .i32⟩
  | .hbm, ⟨11, _⟩ => ⟨S2048, .i32⟩
  | .hbm, ⟨12, _⟩ => ⟨S2048x1, .i32⟩
  | .hbm, ⟨13, _⟩ => ⟨S2048x768, .f32⟩
  | .hbm, ⟨14, _⟩ => ⟨S1x2048, .f32⟩
  | .hbm, ⟨15, _⟩ => ⟨S2048, .f32⟩
  | .hbm, ⟨16, _⟩ => ⟨S2048x1, .f32⟩
  | .hbm, ⟨17, _⟩ => ⟨S2048x768, .f32⟩
  | .hbm, ⟨18, _⟩ => ⟨S2048x768, .f32⟩
  | .hbm, ⟨19, _⟩ => ⟨S1x2048, .i32⟩
  | .hbm, ⟨20, _⟩ => ⟨S2048, .i32⟩
  | .hbm, ⟨21, _⟩ => ⟨S_, .i32⟩
  | .hbm, ⟨22, _⟩ => ⟨S2048, .i32⟩
  | .hbm, ⟨23, _⟩ => ⟨S2048, .i1⟩
  | .hbm, ⟨24, _⟩ => ⟨S_, .i32⟩
  | .hbm, ⟨25, _⟩ => ⟨S2048, .i32⟩
  | .hbm, ⟨26, _⟩ => ⟨S2048, .i32⟩
  | .hbm, ⟨27, _⟩ => ⟨S2048, .i32⟩
  | .hbm, ⟨28, _⟩ => ⟨S2048x1, .i32⟩
  | .hbm, ⟨29, _⟩ => ⟨S2048x768, .f32⟩
  | .hbm, ⟨30, _⟩ => ⟨S1x2048, .f32⟩
  | .hbm, ⟨31, _⟩ => ⟨S2048, .f32⟩
  | .hbm, ⟨32, _⟩ => ⟨S2048x1, .f32⟩
  | .hbm, ⟨33, _⟩ => ⟨S2048x768, .f32⟩
  | .hbm, ⟨34, _⟩ => ⟨S2048x768, .f32⟩
  | .hbm, ⟨35, _⟩ => ⟨S2048x768, .f32⟩
  | _, _ => ⟨S6144x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_c_1 : Ref sig .tc := ⟨.hbm, 21, rfl⟩
abbrev main_v16 : Ref sig .tc := ⟨.hbm, 22, rfl⟩
abbrev main_v17 : Ref sig .tc := ⟨.hbm, 23, rfl⟩
abbrev main_c_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩

abbrev nD : Nat := 1
abbrev τ : Topo := Topo.v7x

variable {F : FTy → Type} [FloatOps F]
-- ==== Gate.lean ====
abbrev S1x2048x768 : Shape := ⟨3, ![1, 2048, 768]⟩
abbrev S8x768 : Shape := ⟨2, ![8, 768]⟩
abbrev S8 : Shape := ⟨1, ![8]⟩
abbrev S2048x768 : Shape := ⟨2, ![2048, 768]⟩
abbrev S8x1 : Shape := ⟨2, ![8, 1]⟩
abbrev S2x2048 : Shape := ⟨2, ![2, 2048]⟩
abbrev S3x24 : Shape := ⟨2, ![3, 24]⟩
abbrev S1x1 : Shape := ⟨2, ![1, 1]⟩
abbrev S8x2048 : Shape := ⟨2, ![8, 2048]⟩
abbrev S2048 : Shape := ⟨1, ![2048]⟩
abbrev S1x2048 : Shape := ⟨2, ![1, 2048]⟩
abbrev S1x8x1 : Shape := ⟨3, ![1, 8, 1]⟩
abbrev S1 : Shape := ⟨1, ![1]⟩
abbrev S1x1x1 : Shape := ⟨3, ![1, 1, 1]⟩
abbrev S8x2047 : Shape := ⟨2, ![8, 2047]⟩
abbrev S8x2 : Shape := ⟨2, ![8, 2]⟩
abbrev S8x2046 : Shape := ⟨2, ![8, 2046]⟩
abbrev S8x4 : Shape := ⟨2, ![8, 4]⟩
abbrev S8x2044 : Shape := ⟨2, ![8, 2044]⟩
abbrev S8x8 : Shape := ⟨2, ![8, 8]⟩
abbrev S8x2040 : Shape := ⟨2, ![8, 2040]⟩
abbrev S8x16 : Shape := ⟨2, ![8, 16]⟩
abbrev S8x2032 : Shape := ⟨2, ![8, 2032]⟩
abbrev S8x32 : Shape := ⟨2, ![8, 32]⟩
abbrev S8x2016 : Shape := ⟨2, ![8, 2016]⟩
abbrev S8x64 : Shape := ⟨2, ![8, 64]⟩
abbrev S8x1984 : Shape := ⟨2, ![8, 1984]⟩
abbrev S8x128 : Shape := ⟨2, ![8, 128]⟩
abbrev S8x1920 : Shape := ⟨2, ![8, 1920]⟩
abbrev S8x256 : Shape := ⟨2, ![8, 256]⟩
abbrev S8x1792 : Shape := ⟨2, ![8, 1792]⟩
abbrev S8x512 : Shape := ⟨2, ![8, 512]⟩
abbrev S8x1536 : Shape := ⟨2, ![8, 1536]⟩
abbrev S8x1024 : Shape := ⟨2, ![8, 1024]⟩
abbrev S7x1 : Shape := ⟨2, ![7, 1]⟩
abbrev S2x1 : Shape := ⟨2, ![2, 1]⟩
abbrev S6x1 : Shape := ⟨2, ![6, 1]⟩
abbrev S4x1 : Shape := ⟨2, ![4, 1]⟩
abbrev S1x24 : Shape := ⟨2, ![1, 24]⟩
abbrev S8x24 : Shape := ⟨2, ![8, 24]⟩
abbrev S24 : Shape := ⟨1, ![24]⟩

abbrev nBuf : Space → Nat
  | .hbm => 10
  | .vmem => 7
  | .smem => 1
  | _ => 0

abbrev bufTy : (tb : Table) → Fin (tcTables nBuf tb) → BufTy
  | .hbm, ⟨0, _⟩ => ⟨S1x2048x768, .f32⟩
  | .hbm, ⟨1, _⟩ => ⟨S8x768, .f32⟩
  | .hbm, ⟨2, _⟩ => ⟨S8, .f32⟩
  | .hbm, ⟨3, _⟩ => ⟨S2048x768, .f32⟩
  | .hbm, ⟨4, _⟩ => ⟨S8x1, .f32⟩
  | .hbm, ⟨5, _⟩ => ⟨S2x2048, .i32⟩
  | .hbm, ⟨6, _⟩ => ⟨S2x2048, .f32⟩
  | .hbm, ⟨7, _⟩ => ⟨S3x24, .i32⟩
  | .hbm, ⟨8, _⟩ => ⟨S1x1, .f32⟩
  | .hbm, ⟨9, _⟩ => ⟨S8x1, .f32⟩
  | .local _ .vmem, ⟨0, _⟩ => ⟨S2048x768, .f32⟩
  | .local _ .vmem, ⟨1, _⟩ => ⟨S8x768, .f32⟩
  | .local _ .vmem, ⟨2, _⟩ => ⟨S8x1, .f32⟩
  | .local _ .vmem, ⟨3, _⟩ => ⟨S2x2048, .i32⟩
  | .local _ .vmem, ⟨4, _⟩ => ⟨S2x2048, .f32⟩
  | .local _ .vmem, ⟨5, _⟩ => ⟨S3x24, .i32⟩
  | .local _ .vmem, ⟨6, _⟩ => ⟨S8x1, .f32⟩
  | .local _ .smem, ⟨0, _⟩ => ⟨S1x1, .f32⟩
  | _, _ => ⟨S1x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev main_v2_4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg7_0 : Ref sig .tc := ⟨.vmem, 6, rfl⟩
abbrev cc0_stg6_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S2048x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x2048 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x24 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .smem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== GateIdeal.lean ====
variable {F : FTy → Type} [FloatOps F] [Named F]
def κ : String → Option EReal := fun
  | "mask" => some ⊥
  | _ => none
-- ==== GateRefIdeal.lean ====
abbrev S1x2048x768 : Shape := ⟨3, ![1, 2048, 768]⟩
abbrev S8x768 : Shape := ⟨2, ![8, 768]⟩
abbrev S8 : Shape := ⟨1, ![8]⟩
abbrev S2048x768 : Shape := ⟨2, ![2048, 768]⟩
abbrev S768x8 : Shape := ⟨2, ![768, 8]⟩
abbrev S2048x8 : Shape := ⟨2, ![2048, 8]⟩
abbrev S1x8 : Shape := ⟨2, ![1, 8]⟩
abbrev S2048x2 : Shape := ⟨2, ![2048, 2]⟩
abbrev S_ : Shape := ⟨0, ![]⟩
abbrev S2048 : Shape := ⟨1, ![2048]⟩
abbrev S2048x1 : Shape := ⟨2, ![2048, 1]⟩
abbrev S1 : Shape := ⟨1, ![1]⟩
abbrev S2x2048 : Shape := ⟨2, ![2, 2048]⟩
abbrev S1x1 : Shape := ⟨2, ![1, 1]⟩
abbrev S8x1 : Shape := ⟨2, ![8, 1]⟩

abbrev nBuf : Space → Nat
  | .hbm => 109
  | .vmem => 0
  | .smem => 0
  | _ => 0

abbrev bufTy : (tb : Table) → Fin (tcTables nBuf tb) → BufTy
  | .hbm, ⟨0, _⟩ => ⟨S1x2048x768, .f32⟩
  | .hbm, ⟨1, _⟩ => ⟨S8x768, .f32⟩
  | .hbm, ⟨2, _⟩ => ⟨S8, .f32⟩
  | .hbm, ⟨3, _⟩ => ⟨S2048x768, .f32⟩
  | .hbm, ⟨4, _⟩ => ⟨S768x8, .f32⟩
  | .hbm, ⟨5, _⟩ => ⟨S2048x8, .f32⟩
  | .hbm, ⟨6, _⟩ => ⟨S1x8, .f32⟩
  | .hbm, ⟨7, _⟩ => ⟨S2048x8, .f32⟩
  | .hbm, ⟨8, _⟩ => ⟨S2048x8, .f32⟩
  | .hbm, ⟨9, _⟩ => ⟨S2048x2, .f32⟩
  | .hbm, ⟨10, _⟩ => ⟨S2048x2, .i32⟩
  | .hbm, ⟨11, _⟩ => ⟨S_, .f32⟩
  | .hbm, ⟨12, _⟩ => ⟨S2048, .f32⟩
  | .hbm, ⟨13, _⟩ => ⟨S_, .f32⟩
  | .hbm, ⟨14, _⟩ => ⟨S2048, .f32⟩
  | .hbm, ⟨15, _⟩ => ⟨S2048, .f32⟩
  | .hbm, ⟨16, _⟩ => ⟨S2048x1, .f32⟩
  | .hbm, ⟨17, _⟩ => ⟨S2048x2, .f32⟩
  | .hbm, ⟨18, _⟩ => ⟨S2048x2, .f32⟩
  | .hbm, ⟨19, _⟩ => ⟨S2048x2, .f32⟩
  | .hbm, ⟨20, _⟩ => ⟨S_, .f32⟩
  | .hbm, ⟨21, _⟩ => ⟨S2048, .f32⟩
  | .hbm, ⟨22, _⟩ => ⟨S2048x1, .f32⟩
  | .hbm, ⟨23, _⟩ => ⟨S2048x2, .f32⟩
  | .hbm, ⟨24, _⟩ => ⟨S2048x2, .f32⟩
  | .hbm, ⟨25, _⟩ => ⟨S_, .i32⟩
  | .hbm, ⟨26, _⟩ => ⟨S2048x2, .i32⟩
  | .hbm, ⟨27, _⟩ => ⟨S2048x2, .i1⟩
  | .hbm, ⟨28, _⟩ => ⟨S2048x2, .f32⟩
  | .hbm, ⟨29, _⟩ => ⟨S_, .f32⟩
  | .hbm, ⟨30, _⟩ => ⟨S_, .f32⟩
  | .hbm, ⟨31, _⟩ => ⟨S_, .i32⟩
  | .hbm, ⟨32, _⟩ => ⟨S2048x2, .i32⟩
  | .hbm, ⟨33, _⟩ => ⟨S2048x2, .i1⟩
  | .hbm, ⟨34, _⟩ => ⟨S2048x2, .f32⟩
  | .hbm, ⟨35, _⟩ => ⟨S_, .f32⟩
  | .hbm, ⟨36, _⟩ => ⟨S_, .f32⟩
  | .hbm, ⟨37, _⟩ => ⟨S_, .i32⟩
  | .hbm, ⟨38, _⟩ => ⟨S2048x2, .i32⟩
  | .hbm, ⟨39, _⟩ => ⟨S2048x2, .i1⟩
  | .hbm, ⟨40, _⟩ => ⟨S2048x2, .f32⟩
  | .hbm, ⟨41, _⟩ => ⟨S_, .f32⟩
  | .hbm, ⟨42, _⟩ => ⟨S_, .f32⟩
  | .hbm, ⟨43, _⟩ => ⟨S_, .i32⟩
  | .hbm, ⟨44, _⟩ => ⟨S2048x2, .i32⟩
  | .hbm, ⟨45, _⟩ => ⟨S2048x2, .i1⟩
  | .hbm, ⟨46, _⟩ => ⟨S2048x2, .f32⟩
  | .hbm, ⟨47, _⟩ => ⟨S_, .f32⟩
  | .hbm, ⟨48, _⟩ => ⟨S_, .f32⟩
  | .hbm, ⟨49, _⟩ => ⟨S_, .i32⟩
  | .hbm, ⟨50, _⟩ => ⟨S2048x2, .i32⟩
  | .hbm, ⟨51, _⟩ => ⟨S2048x2, .i1⟩
  | .hbm, ⟨52, _⟩ => ⟨S2048x2, .f32⟩
  | .hbm, ⟨53, _⟩ => ⟨S_, .f32⟩
  | .hbm, ⟨54, _⟩ => ⟨S_, .f32⟩
  | .hbm, ⟨55, _⟩ => ⟨S_, .i32⟩
  | .hbm, ⟨56, _⟩ => ⟨S2048x2, .i32⟩
  | .hbm, ⟨57, _⟩ => ⟨S2048x2, .i1⟩
  | .hbm, ⟨58, _⟩ => ⟨S2048x2, .f32⟩
  | .hbm, ⟨59, _⟩ => ⟨S_, .f32⟩
  | .hbm, ⟨60, _⟩ => ⟨S_, .f32⟩
  | .hbm, ⟨61, _⟩ => ⟨S_, .i32⟩
  | .hbm, ⟨62, _⟩ => ⟨S2048x2, .i32⟩
  | .hbm, ⟨63, _⟩ => ⟨S2048x2, .i1⟩
  | .hbm, ⟨64, _⟩ => ⟨S2048x2, .f32⟩
  | .hbm, ⟨65, _⟩ => ⟨S_, .f32⟩
  | .hbm, ⟨66, _⟩ => ⟨S_, .f32⟩
  | .hbm, ⟨67, _⟩ => ⟨S_, .i32⟩
  | .hbm, ⟨68, _⟩ => ⟨S2048x2, .i32⟩
  | .hbm, ⟨69, _⟩ => ⟨S2048x2, .i1⟩
  | .hbm, ⟨70, _⟩ => ⟨S2048x2, .f32⟩
  | .hbm, ⟨71, _⟩ => ⟨S_, .f32⟩
  | .hbm, ⟨72, _⟩ => ⟨S_, .f32⟩
  | .hbm, ⟨73, _⟩ => ⟨S1, .f32⟩
  | .hbm, ⟨74, _⟩ => ⟨S1, .f32⟩
  | .hbm, ⟨75, _⟩ => ⟨S1, .f32⟩
  | .hbm, ⟨76, _⟩ => ⟨S1, .f32⟩
  | .hbm, ⟨77, _⟩ => ⟨S1, .f32⟩
  | .hbm, ⟨78, _⟩ => ⟨S1, .f32⟩
  | .hbm, ⟨79, _⟩ => ⟨S1, .f32⟩
  | .hbm, ⟨80, _⟩ => ⟨S1, .f32⟩
  | .hbm, ⟨81, _⟩ => ⟨S8, .f32⟩
  | .hbm, ⟨82, _⟩ => ⟨S_, .f32⟩
  | .hbm, ⟨83, _⟩ => ⟨S2048, .f32⟩
  | .hbm, ⟨84, _⟩ => ⟨S_, .f32⟩
  | .hbm, ⟨85, _⟩ => ⟨S2048, .f32⟩
  | .hbm, ⟨86, _⟩ => ⟨S2048, .f32⟩
  | .hbm, ⟨87, _⟩ => ⟨S2048x1, .f32⟩
  | .hbm, ⟨88, _⟩ => ⟨S2048x8, .f32⟩
  | .hbm, ⟨89, _⟩ => ⟨S2048x8, .f32⟩
  | .hbm, ⟨90, _⟩ => ⟨S2048x8, .f32⟩
  | .hbm, ⟨91, _⟩ => ⟨S_, .f32⟩
  | .hbm, ⟨92, _⟩ => ⟨S2048, .f32⟩
  | .hbm, ⟨93, _⟩ => ⟨S2048x1, .f32⟩
  | .hbm, ⟨94, _⟩ => ⟨S2048x8, .f32⟩
  | .hbm, ⟨95, _⟩ => ⟨S2048x8, .f32⟩
  | .hbm, ⟨96, _⟩ => ⟨S_, .f32⟩
  | .hbm, ⟨97, _⟩ => ⟨S8, .f32⟩
  | .hbm, ⟨98, _⟩ => ⟨S_, .f32⟩
  | .hbm, ⟨99, _⟩ => ⟨S8, .f32⟩
  | .hbm, ⟨100, _⟩ => ⟨S8, .f32⟩
  | .hbm, ⟨101, _⟩ => ⟨S2x2048, .f32⟩
  | .hbm, ⟨102, _⟩ => ⟨S8, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S1x1, .f32⟩
  | .hbm, ⟨108, _⟩ => ⟨S8x1, .f32⟩
  | _, _ => ⟨S1x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_values : Ref sig .tc := ⟨.hbm, 9, rfl⟩
abbrev main_indices : Ref sig .tc := ⟨.hbm, 10, rfl⟩
abbrev main_cst : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_c_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_c_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_c_7 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_8 : Ref sig .tc := ⟨.hbm, 47, rfl⟩
abbrev main_v32 : Ref sig .tc := ⟨.hbm, 48, rfl⟩
abbrev main_c_9 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_10 : Ref sig .tc := ⟨.hbm, 53, rfl⟩
abbrev main_v36 : Ref sig .tc := ⟨.hbm, 54, rfl⟩
abbrev main_c_11 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_12 : Ref sig .tc := ⟨.hbm, 59, rfl⟩
abbrev main_v40 : Ref sig .tc := ⟨.hbm, 60, rfl⟩
abbrev main_c_13 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_14 : Ref sig .tc := ⟨.hbm, 65, rfl⟩
abbrev main_v44 : Ref sig .tc := ⟨.hbm, 66, rfl⟩
abbrev main_c_15 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_16 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_17 : Ref sig .tc := ⟨.hbm, 82, rfl⟩
abbrev main_v58 : Ref sig .tc := ⟨.hbm, 83, rfl⟩
abbrev main_cst_18 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_19 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_cst_20 : Ref sig .tc := ⟨.hbm, 96, rfl⟩
abbrev main_v69 : Ref sig .tc := ⟨.hbm, 97, rfl⟩
abbrev main_cst_21 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_22 : Ref sig .tc := ⟨.hbm, 103, rfl⟩
abbrev main_v74 : Ref sig .tc := ⟨.hbm, 104, rfl⟩
abbrev main_cst_23 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩

abbrev nD : Nat := 1
abbrev τ : Topo := Topo.v7x

variable {F : FTy → Type} [FloatOps F]
-- ==== Experts.lean ====
abbrev S24 : Shape := ⟨1, ![24]⟩
abbrev S6144x768 : Shape := ⟨2, ![6144, 768]⟩
abbrev S8x3072x768 : Shape := ⟨3, ![8, 3072, 768]⟩
abbrev S8x3072 : Shape := ⟨2, ![8, 3072]⟩
abbrev S8x768x3072 : Shape := ⟨3, ![8, 768, 3072]⟩
abbrev S8x768 : Shape := ⟨2, ![8, 768]⟩
abbrev S8x1x3072 : Shape := ⟨3, ![8, 1, 3072]⟩
abbrev S8x1x768 : Shape := ⟨3, ![8, 1, 768]⟩
abbrev S256x768 : Shape := ⟨2, ![256, 768]⟩
abbrev S1 : Shape := ⟨1, ![1]⟩
abbrev S1x3072x768 : Shape := ⟨3, ![1, 3072, 768]⟩
abbrev S1x1x3072 : Shape := ⟨3, ![1, 1, 3072]⟩
abbrev S1x768x3072 : Shape := ⟨3, ![1, 768, 3072]⟩
abbrev S1x1x768 : Shape := ⟨3, ![1, 1, 768]⟩
abbrev S3072x768 : Shape := ⟨2, ![3072, 768]⟩
abbrev S256x3072 : Shape := ⟨2, ![256, 3072]⟩
abbrev S1x3072 : Shape := ⟨2, ![1, 3072]⟩
abbrev S768x3072 : Shape := ⟨2, ![768, 3072]⟩
abbrev S1x768 : Shape := ⟨2, ![1, 768]⟩

abbrev nBuf : Space → Nat
  | .hbm => 8
  | .vmem => 12
  | .smem => 3
  | _ => 0

abbrev bufTy : (tb : Table) → Fin (tcTables nBuf tb) → BufTy
  | .hbm, ⟨0, _⟩ => ⟨S6144x768, .f32⟩
  | .hbm, ⟨1, _⟩ => ⟨S8x3072x768, .f32⟩
  | .hbm, ⟨2, _⟩ => ⟨S8x3072, .f32⟩
  | .hbm, ⟨3, _⟩ => ⟨S8x768x3072, .f32⟩
  | .hbm, ⟨4, _⟩ => ⟨S8x768, .f32⟩
  | .hbm, ⟨5, _⟩ => ⟨S8x1x3072, .f32⟩
  | .hbm, ⟨6, _⟩ => ⟨S8x1x768, .f32⟩
  | .hbm, ⟨7, _⟩ => ⟨S6144x768, .f32⟩
  | .local _ .vmem, ⟨0, _⟩ => ⟨S256x768, .f32⟩
  | .local _ .vmem, ⟨1, _⟩ => ⟨S256x768, .f32⟩
  | .local _ .vmem, ⟨2, _⟩ => ⟨S1x3072x768, .f32⟩
  | .local _ .vmem, ⟨3, _⟩ => ⟨S1x3072x768, .f32⟩
  | .local _ .vmem, ⟨4, _⟩ => ⟨S1x1x3072, .f32⟩
  | .local _ .vmem, ⟨5, _⟩ => ⟨S1x1x3072, .f32⟩
  | .local _ .vmem, ⟨6, _⟩ => ⟨S1x768x3072, .f32⟩
  | .local _ .vmem, ⟨7, _⟩ => ⟨S1x768x3072, .f32⟩
  | .local _ .vmem, ⟨8, _⟩ => ⟨S1x1x768, .f32⟩
  | .local _ .vmem, ⟨9, _⟩ => ⟨S1x1x768, .f32⟩
  | .local _ .vmem, ⟨10, _⟩ => ⟨S256x768, .f32⟩
  | .local _ .vmem, ⟨11, _⟩ => ⟨S256x768, .f32⟩
  | .local _ .smem, ⟨0, _⟩ => ⟨S24, .i32⟩
  | .local _ .smem, ⟨1, _⟩ => ⟨S24, .i32⟩
  | .local _ .smem, ⟨2, _⟩ => ⟨S24, .i32⟩
  | _, _ => ⟨S6144x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg3 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_arg7 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![24], ![false]⟩

abbrev pre0 : Pipeline.Prefetch sig := ⟨3, ![main_arg0.idx, main_arg1.idx, main_arg2.idx], fun | 0 => main_arg0.names | 1 => main_arg1.names | 2 => main_arg2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def cc0_transform_0 (k0_off1_inb : ∀ i : grid0.Coords, ∀ a, (k0_off1 i) a + S1.size a ≤ S24.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S24) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S24.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S24) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S24.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S24) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S24.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S24) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S24.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S24) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S24.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S24) ![v0.toNat] S1.size (k0_off1_inb i)) numel1_S1
  let c0_i32 : BitVec 32 := 0#32
  let c0_i32_0 : BitVec 32 := 0#32
  ![v1.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3072x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x768x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ExpertsIdeal.lean ====
variable {F : FTy → Type} [FloatOps F] [Named F]
def κ : String → Option EReal := fun
  | "half_root" => some (((Real.sqrt 2)⁻¹ : ℝ) : EReal)
  | _ => none
-- ==== ExpertsRefIdeal.lean ====
abbrev S24 : Shape := ⟨1, ![24]⟩
abbrev S6144x768 : Shape := ⟨2, ![6144, 768]⟩
abbrev S8x3072x768 : Shape := ⟨3, ![8, 3072, 768]⟩
abbrev S8x3072 : Shape := ⟨2, ![8, 3072]⟩
abbrev S8x768x3072 : Shape := ⟨3, ![8, 768, 3072]⟩
abbrev S8x768 : Shape := ⟨2, ![8, 768]⟩
abbrev S24x1 : Shape := ⟨2, ![24, 1]⟩
abbrev S24x256 : Shape := ⟨2, ![24, 256]⟩
abbrev S6144 : Shape := ⟨1, ![6144]⟩
abbrev S_ : Shape := ⟨0, ![]⟩
abbrev S1x3072x768 : Shape := ⟨3, ![1, 3072, 768]⟩
abbrev S3072x768 : Shape := ⟨2, ![3072, 768]⟩
abbrev S768x3072 : Shape := ⟨2, ![768, 3072]⟩
abbrev S6144x3072 : Shape := ⟨2, ![6144, 3072]⟩
abbrev S1x3072 : Shape := ⟨2, ![1, 3072]⟩
abbrev S3072 : Shape := ⟨1, ![3072]⟩
abbrev S1x768x3072 : Shape := ⟨3, ![1, 768, 3072]⟩
abbrev S1x768 : Shape := ⟨2, ![1, 768]⟩
abbrev S768 : Shape := ⟨1, ![768]⟩
abbrev S6144x1 : Shape := ⟨2, ![6144, 1]⟩

abbrev nBuf : Space → Nat
  | .hbm => 325
  | .vmem => 0
  | .smem => 0
  | _ => 0

abbrev hbmTy0_0 (i : Nat) : BufTy := match i % 128 with
  | 0 => ⟨S24, .i32⟩
  | 1 => ⟨S24, .i32⟩
  | 2 => ⟨S24, .i32⟩
  | 3 => ⟨S6144x768, .f32⟩
  | 4 => ⟨S8x3072x768, .f32⟩
  | 5 => ⟨S8x3072, .f32⟩
  | 6 => ⟨S8x768x3072, .f32⟩
  | 7 => ⟨S8x768, .f32⟩
  | 8 => ⟨S24x1, .i32⟩
  | 9 => ⟨S24x256, .i32⟩
  | 10 => ⟨S6144, .i32⟩
  | 11 => ⟨S_, .f32⟩
  | 12 => ⟨S6144x768, .f32⟩
  | 13 => ⟨S_, .i32⟩
  | 14 => ⟨S6144, .i32⟩
  | 15 => ⟨S6144, .i1⟩
  | 16 => ⟨S6144, .f32⟩
  | 17 => ⟨S1x3072x768, .f32⟩
  | 18 => ⟨S3072x768, .f32⟩
  | 19 => ⟨S768x3072, .f32⟩
  | 20 => ⟨S6144x3072, .f32⟩
  | 21 => ⟨S1x3072, .f32⟩
  | 22 => ⟨S3072, .f32⟩
  | 23 => ⟨S1x3072, .f32⟩
  | 24 => ⟨S6144x3072, .f32⟩
  | 25 => ⟨S6144x3072, .f32⟩
  | 26 => ⟨S_, .f32⟩
  | 27 => ⟨S6144x3072, .f32⟩
  | 28 => ⟨S6144x3072, .f32⟩
  | 29 => ⟨S_, .f32⟩
  | 30 => ⟨S_, .f32⟩
  | 31 => ⟨S_, .f32⟩
  | 32 => ⟨S6144x3072, .f32⟩
  | 33 => ⟨S6144x3072, .f32⟩
  | 34 => ⟨S6144x3072, .f32⟩
  | 35 => ⟨S_, .f32⟩
  | 36 => ⟨S6144x3072, .f32⟩
  | 37 => ⟨S6144x3072, .f32⟩
  | 38 => ⟨S6144x3072, .f32⟩
  | 39 => ⟨S1x768x3072, .f32⟩
  | 40 => ⟨S768x3072, .f32⟩
  | 41 => ⟨S3072x768, .f32⟩
  | 42 => ⟨S6144x768, .f32⟩
  | 43 => ⟨S1x768, .f32⟩
  | 44 => ⟨S768, .f32⟩
  | 45 => ⟨S1x768, .f32⟩
  | 46 => ⟨S6144x768, .f32⟩
  | 47 => ⟨S6144x768, .f32⟩
  | 48 => ⟨S6144x1, .f32⟩
  | 49 => ⟨S6144x768, .f32⟩
  | 50 => ⟨S6144x768, .f32⟩
  | 51 => ⟨S6144x768, .f32⟩
  | 52 => ⟨S_, .i32⟩
  | 53 => ⟨S6144, .i32⟩
  | 54 => ⟨S6144, .i1⟩
  | 55 => ⟨S6144, .f32⟩
  | 56 => ⟨S1x3072x768, .f32⟩
  | 57 => ⟨S3072x768, .f32⟩
  | 58 => ⟨S768x3072, .f32⟩
  | 59 => ⟨S6144x3072, .f32⟩
  | 60 => ⟨S1x3072, .f32⟩
  | 61 => ⟨S3072, .f32⟩
  | 62 => ⟨S1x3072, .f32⟩
  | 63 => ⟨S6144x3072, .f32⟩
  | 64 => ⟨S6144x3072, .f32⟩
  | 65 => ⟨S_, .f32⟩
  | 66 => ⟨S6144x3072, .f32⟩
  | 67 => ⟨S6144x3072, .f32⟩
  | 68 => ⟨S_, .f32⟩
  | 69 => ⟨S_, .f32⟩
  | 70 => ⟨S_, .f32⟩
  | 71 => ⟨S6144x3072, .f32⟩
  | 72 => ⟨S6144x3072, .f32⟩
  | 73 => ⟨S6144x3072, .f32⟩
  | 74 => ⟨S_, .f32⟩
  | 75 => ⟨S6144x3072, .f32⟩
  | 76 => ⟨S6144x3072, .f32⟩
  | 77 => ⟨S6144x3072, .f32⟩
  | 78 => ⟨S1x768x3072, .f32⟩
  | 79 => ⟨S768x3072, .f32⟩
  | 80 => ⟨S3072x768, .f32⟩
  | 81 => ⟨S6144x768, .f32⟩
  | 82 => ⟨S1x768, .f32⟩
  | 83 => ⟨S768, .f32⟩
  | 84 => ⟨S1x768, .f32⟩
  | 85 => ⟨S6144x768, .f32⟩
  | 86 => ⟨S6144x768, .f32⟩
  | 87 => ⟨S6144x1, .f32⟩
  | 88 => ⟨S6144x768, .f32⟩
  | 89 => ⟨S6144x768, .f32⟩
  | 90 => ⟨S6144x768, .f32⟩
  | 91 => ⟨S_, .i32⟩
  | 92 => ⟨S6144, .i32⟩
  | 93 => ⟨S6144, .i1⟩
  | 94 => ⟨S6144, .f32⟩
  | 95 => ⟨S1x3072x768, .f32⟩
  | 96 => ⟨S3072x768, .f32⟩
  | 97 => ⟨S768x3072, .f32⟩
  | 98 => ⟨S6144x3072, .f32⟩
  | 99 => ⟨S1x3072, .f32⟩
  | 100 => ⟨S3072, .f32⟩
  | 101 => ⟨S1x3072, .f32⟩
  | 102 => ⟨S6144x3072, .f32⟩
  | 103 => ⟨S6144x3072, .f32⟩
  | 104 => ⟨S_, .f32⟩
  | 105 => ⟨S6144x3072, .f32⟩
  | 106 => ⟨S6144x3072, .f32⟩
  | 107 => ⟨S_, .f32⟩
  | 108 => ⟨S_, .f32⟩
  | 109 => ⟨S_, .f32⟩
  | 110 => ⟨S6144x3072, .f32⟩
  | 111 => ⟨S6144x3072, .f32⟩
  | 112 => ⟨S6144x3072, .f32⟩
  | 113 => ⟨S_, .f32⟩
  | 114 => ⟨S6144x3072, .f32⟩
  | 115 => ⟨S6144x3072, .f32⟩
  | 116 => ⟨S6144x3072, .f32⟩
  | 117 => ⟨S1x768x3072, .f32⟩
  | 118 => ⟨S768x3072, .f32⟩
  | 119 => ⟨S3072x768, .f32⟩
  | 120 => ⟨S6144x768, .f32⟩
  | 121 => ⟨S1x768, .f32⟩
  | 122 => ⟨S768, .f32⟩
  | 123 => ⟨S1x768, .f32⟩
  | 124 => ⟨S6144x768, .f32⟩
  | 125 => ⟨S6144x768, .f32⟩
  | 126 => ⟨S6144x1, .f32⟩
  | 127 => ⟨S6144x768, .f32⟩
  | _ => ⟨S24, .i32⟩

abbrev hbmTy0_1 (i : Nat) : BufTy := match i % 128 with
  | 0 => ⟨S6144x768, .f32⟩
  | 1 => ⟨S6144x768, .f32⟩
  | 2 => ⟨S_, .i32⟩
  | 3 => ⟨S6144, .i32⟩
  | 4 => ⟨S6144, .i1⟩
  | 5 => ⟨S6144, .f32⟩
  | 6 => ⟨S1x3072x768, .f32⟩
  | 7 => ⟨S3072x768, .f32⟩
  | 8 => ⟨S768x3072, .f32⟩
  | 9 => ⟨S6144x3072, .f32⟩
  | 10 => ⟨S1x3072, .f32⟩
  | 11 => ⟨S3072, .f32⟩
  | 12 => ⟨S1x3072, .f32⟩
  | 13 => ⟨S6144x3072, .f32⟩
  | 14 => ⟨S6144x3072, .f32⟩
  | 15 => ⟨S_, .f32⟩
  | 16 => ⟨S6144x3072, .f32⟩
  | 17 => ⟨S6144x3072, .f32⟩
  | 18 => ⟨S_, .f32⟩
  | 19 => ⟨S_, .f32⟩
  | 20 => ⟨S_, .f32⟩
  | 21 => ⟨S6144x3072, .f32⟩
  | 22 => ⟨S6144x3072, .f32⟩
  | 23 => ⟨S6144x3072, .f32⟩
  | 24 => ⟨S_, .f32⟩
  | 25 => ⟨S6144x3072, .f32⟩
  | 26 => ⟨S6144x3072, .f32⟩
  | 27 => ⟨S6144x3072, .f32⟩
  | 28 => ⟨S1x768x3072, .f32⟩
  | 29 => ⟨S768x3072, .f32⟩
  | 30 => ⟨S3072x768, .f32⟩
  | 31 => ⟨S6144x768, .f32⟩
  | 32 => ⟨S1x768, .f32⟩
  | 33 => ⟨S768, .f32⟩
  | 34 => ⟨S1x768, .f32⟩
  | 35 => ⟨S6144x768, .f32⟩
  | 36 => ⟨S6144x768, .f32⟩
  | 37 => ⟨S6144x1, .f32⟩
  | 38 => ⟨S6144x768, .f32⟩
  | 39 => ⟨S6144x768, .f32⟩
  | 40 => ⟨S6144x768, .f32⟩
  | 41 => ⟨S_, .i32⟩
  | 42 => ⟨S6144, .i32⟩
  | 43 => ⟨S6144, .i1⟩
  | 44 => ⟨S6144, .f32⟩
  | 45 => ⟨S1x3072x768, .f32⟩
  | 46 => ⟨S3072x768, .f32⟩
  | 47 => ⟨S768x3072, .f32⟩
  | 48 => ⟨S6144x3072, .f32⟩
  | 49 => ⟨S1x3072, .f32⟩
  | 50 => ⟨S3072, .f32⟩
  | 51 => ⟨S1x3072, .f32⟩
  | 52 => ⟨S6144x3072, .f32⟩
  | 53 => ⟨S6144x3072, .f32⟩
  | 54 => ⟨S_, .f32⟩
  | 55 => ⟨S6144x3072, .f32⟩
  | 56 => ⟨S6144x3072, .f32⟩
  | 57 => ⟨S_, .f32⟩
  | 58 => ⟨S_, .f32⟩
  | 59 => ⟨S_, .f32⟩
  | 60 => ⟨S6144x3072, .f32⟩
  | 61 => ⟨S6144x3072, .f32⟩
  | 62 => ⟨S6144x3072, .f32⟩
  | 63 => ⟨S_, .f32⟩
  | 64 => ⟨S6144x3072, .f32⟩
  | 65 => ⟨S6144x3072, .f32⟩
  | 66 => ⟨S6144x3072, .f32⟩
  | 67 => ⟨S1x768x3072, .f32⟩
  | 68 => ⟨S768x3072, .f32⟩
  | 69 => ⟨S3072x768, .f32⟩
  | 70 => ⟨S6144x768, .f32⟩
  | 71 => ⟨S1x768, .f32⟩
  | 72 => ⟨S768, .f32⟩
  | 73 => ⟨S1x768, .f32⟩
  | 74 => ⟨S6144x768, .f32⟩
  | 75 => ⟨S6144x768, .f32⟩
  | 76 => ⟨S6144x1, .f32⟩
  | 77 => ⟨S6144x768, .f32⟩
  | 78 => ⟨S6144x768, .f32⟩
  | 79 => ⟨S6144x768, .f32⟩
  | 80 => ⟨S_, .i32⟩
  | 81 => ⟨S6144, .i32⟩
  | 82 => ⟨S6144, .i1⟩
  | 83 => ⟨S6144, .f32⟩
  | 84 => ⟨S1x3072x768, .f32⟩
  | 85 => ⟨S3072x768, .f32⟩
  | 86 => ⟨S768x3072, .f32⟩
  | 87 => ⟨S6144x3072, .f32⟩
  | 88 => ⟨S1x3072, .f32⟩
  | 89 => ⟨S3072, .f32⟩
  | 90 => ⟨S1x3072, .f32⟩
  | 91 => ⟨S6144x3072, .f32⟩
  | 92 => ⟨S6144x3072, .f32⟩
  | 93 => ⟨S_, .f32⟩
  | 94 => ⟨S6144x3072, .f32⟩
  | 95 => ⟨S6144x3072, .f32⟩
  | 96 => ⟨S_, .f32⟩
  | 97 => ⟨S_, .f32⟩
  | 98 => ⟨S_, .f32⟩
  | 99 => ⟨S6144x3072, .f32⟩
  | 100 => ⟨S6144x3072, .f32⟩
  | 101 => ⟨S6144x3072, .f32⟩
  | 102 => ⟨S_, .f32⟩
  | 103 => ⟨S6144x3072, .f32⟩
  | 104 => ⟨S6144x3072, .f32⟩
  | 105 => ⟨S6144x3072, .f32⟩
  | 106 => ⟨S1x768x3072, .f32⟩
  | 107 => ⟨S768x3072, .f32⟩
  | 108 => ⟨S3072x768, .f32⟩
  | 109 => ⟨S6144x768, .f32⟩
  | 110 => ⟨S1x768, .f32⟩
  | 111 => ⟨S768, .f32⟩
  | 112 => ⟨S1x768, .f32⟩
  | 113 => ⟨S6144x768, .f32⟩
  | 114 => ⟨S6144x768, .f32⟩
  | 115 => ⟨S6144x1, .f32⟩
  | 116 => ⟨S6144x768, .f32⟩
  | 117 => ⟨S6144x768, .f32⟩
  | 118 => ⟨S6144x768, .f32⟩
  | 119 => ⟨S_, .i32⟩
  | 120 => ⟨S6144, .i32⟩
  | 121 => ⟨S6144, .i1⟩
  | 122 => ⟨S6144, .f32⟩
  | 123 => ⟨S1x3072x768, .f32⟩
  | 124 => ⟨S3072x768, .f32⟩
  | 125 => ⟨S768x3072, .f32⟩
  | 126 => ⟨S6144x3072, .f32⟩
  | 127 => ⟨S1x3072, .f32⟩
  | _ => ⟨S24, .i32⟩

abbrev hbmTy0_2 (i : Nat) : BufTy := match i % 128 with
  | 0 => ⟨S3072, .f32⟩
  | 1 => ⟨S1x3072, .f32⟩
  | 2 => ⟨S6144x3072, .f32⟩
  | 3 => ⟨S6144x3072, .f32⟩
  | 4 => ⟨S_, .f32⟩
  | 5 => ⟨S6144x3072, .f32⟩
  | 6 => ⟨S6144x3072, .f32⟩
  | 7 => ⟨S_, .f32⟩
  | 8 => ⟨S_, .f32⟩
  | 9 => ⟨S_, .f32⟩
  | 10 => ⟨S6144x3072, .f32⟩
  | 11 => ⟨S6144x3072, .f32⟩
  | 12 => ⟨S6144x3072, .f32⟩
  | 13 => ⟨S_, .f32⟩
  | 14 => ⟨S6144x3072, .f32⟩
  | 15 => ⟨S6144x3072, .f32⟩
  | 16 => ⟨S6144x3072, .f32⟩
  | 17 => ⟨S1x768x3072, .f32⟩
  | 18 => ⟨S768x3072, .f32⟩
  | 19 => ⟨S3072x768, .f32⟩
  | 20 => ⟨S6144x768, .f32⟩
  | 21 => ⟨S1x768, .f32⟩
  | 22 => ⟨S768, .f32⟩
  | 23 => ⟨S1x768, .f32⟩
  | 24 => ⟨S6144x768, .f32⟩
  | 25 => ⟨S6144x768, .f32⟩
  | 26 => ⟨S6144x1, .f32⟩
  | 27 => ⟨S6144x768, .f32⟩
  | 28 => ⟨S6144x768, .f32⟩
  | 29 => ⟨S6144x768, .f32⟩
  | 30 => ⟨S_, .i32⟩
  | 31 => ⟨S6144, .i32⟩
  | 32 => ⟨S6144, .i1⟩
  | 33 => ⟨S6144, .f32⟩
  | 34 => ⟨S1x3072x768, .f32⟩
  | 35 => ⟨S3072x768, .f32⟩
  | 36 => ⟨S768x3072, .f32⟩
  | 37 => ⟨S6144x3072, .f32⟩
  | 38 => ⟨S1x3072, .f32⟩
  | 39 => ⟨S3072, .f32⟩
  | 40 => ⟨S1x3072, .f32⟩
  | 41 => ⟨S6144x3072, .f32⟩
  | 42 => ⟨S6144x3072, .f32⟩
  | 43 => ⟨S_, .f32⟩
  | 44 => ⟨S6144x3072, .f32⟩
  | 45 => ⟨S6144x3072, .f32⟩
  | 46 => ⟨S_, .f32⟩
  | 47 => ⟨S_, .f32⟩
  | 48 => ⟨S_, .f32⟩
  | 49 => ⟨S6144x3072, .f32⟩
  | 50 => ⟨S6144x3072, .f32⟩
  | 51 => ⟨S6144x3072, .f32⟩
  | 52 => ⟨S_, .f32⟩
  | 53 => ⟨S6144x3072, .f32⟩
  | 54 => ⟨S6144x3072, .f32⟩
  | 55 => ⟨S6144x3072, .f32⟩
  | 56 => ⟨S1x768x3072, .f32⟩
  | 57 => ⟨S768x3072, .f32⟩
  | 58 => ⟨S3072x768, .f32⟩
  | 59 => ⟨S6144x768, .f32⟩
  | 60 => ⟨S1x768, .f32⟩
  | 61 => ⟨S768, .f32⟩
  | 62 => ⟨S1x768, .f32⟩
  | 63 => ⟨S6144x768, .f32⟩
  | 64 => ⟨S6144x768, .f32⟩
  | 65 => ⟨S6144x1, .f32⟩
  | 66 => ⟨S6144x768, .f32⟩
  | 67 => ⟨S6144x768, .f32⟩
  | 68 => ⟨S6144x768, .f32⟩
  | _ => ⟨S24, .i32⟩

abbrev hbmTy (i : Nat) : BufTy := match i / 128 with
  | 0 => hbmTy0_0 i
  | 1 => hbmTy0_1 i
  | 2 => hbmTy0_2 i
  | _ => ⟨S24, .i32⟩

abbrev bufTy : (tb : Table) → Fin (tcTables nBuf tb) → BufTy
  | .hbm, ⟨i, _⟩ => hbmTy i
  | _, _ => ⟨S24, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_0 : Ref sig .tc := ⟨.hbm, 26, rfl⟩
abbrev main_v16 : Ref sig .tc := ⟨.hbm, 27, rfl⟩
abbrev main_v17 : Ref sig .tc := ⟨.hbm, 28, rfl⟩
abbrev main_cst_1 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_2 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_c_3 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_4 : Ref sig .tc := ⟨.hbm, 65, rfl⟩
abbrev main_v51 : Ref sig .tc := ⟨.hbm, 66, rfl⟩
abbrev main_v52 : Ref sig .tc := ⟨.hbm, 67, rfl⟩
abbrev main_cst_5 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_6 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_c_7 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_cst_8 : Ref sig .tc := ⟨.hbm, 104, rfl⟩
abbrev main_v86 : Ref sig .tc := ⟨.hbm, 105, rfl⟩
abbrev main_v87 : Ref sig .tc := ⟨.hbm, 106, rfl⟩
abbrev main_cst_9 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_cst_10 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_c_11 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_cst_12 : Ref sig .tc := ⟨.hbm, 143, rfl⟩
abbrev main_v121 : Ref sig .tc := ⟨.hbm, 144, rfl⟩
abbrev main_v122 : Ref sig .tc := ⟨.hbm, 145, rfl⟩
abbrev main_cst_13 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_cst_14 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩
abbrev main_v134 : Ref sig .tc := ⟨.hbm, 159, rfl⟩
abbrev main_v135 : Ref sig .tc := ⟨.hbm, 160, rfl⟩
abbrev main_v136 : Ref sig .tc := ⟨.hbm, 161, rfl⟩
abbrev main_v137 : Ref sig .tc := ⟨.hbm, 162, rfl⟩
abbrev main_v138 : Ref sig .tc := ⟨.hbm, 163, rfl⟩
abbrev main_v139 : Ref sig .tc := ⟨.hbm, 164, rfl⟩
abbrev main_v140 : Ref sig .tc := ⟨.hbm, 165, rfl⟩
abbrev main_v141 : Ref sig .tc := ⟨.hbm, 166, rfl⟩
abbrev main_v142 : Ref sig .tc := ⟨.hbm, 167, rfl⟩
abbrev main_v143 : Ref sig .tc := ⟨.hbm, 168, rfl⟩
abbrev main_c_15 : Ref sig .tc := ⟨.hbm, 169, rfl⟩
abbrev main_v144 : Ref sig .tc := ⟨.hbm, 170, rfl⟩
abbrev main_v145 : Ref sig .tc := ⟨.hbm, 171, rfl⟩
abbrev main_v146 : Ref sig .tc := ⟨.hbm, 172, rfl⟩
abbrev main_v147 : Ref sig .tc := ⟨.hbm, 173, rfl⟩
abbrev main_v148 : Ref sig .tc := ⟨.hbm, 174, rfl⟩
abbrev main_v149 : Ref sig .tc := ⟨.hbm, 175, rfl⟩
abbrev main_v150 : Ref sig .tc := ⟨.hbm, 176, rfl⟩
abbrev main_v151 : Ref sig .tc := ⟨.hbm, 177, rfl⟩
abbrev main_v152 : Ref sig .tc := ⟨.hbm, 178, rfl⟩
abbrev main_v153 : Ref sig .tc := ⟨.hbm, 179, rfl⟩
abbrev main_v154 : Ref sig .tc := ⟨.hbm, 180, rfl⟩
abbrev main_v155 : Ref sig .tc := ⟨.hbm, 181, rfl⟩
abbrev main_cst_16 : Ref sig .tc := ⟨.hbm, 182, rfl⟩
abbrev main_v156 : Ref sig .tc := ⟨.hbm, 183, rfl⟩
abbrev main_v157 : Ref sig .tc := ⟨.hbm, 184, rfl⟩
abbrev main_cst_17 : Ref sig .tc := ⟨.hbm, 185, rfl⟩
abbrev main_v158 : Ref sig .tc := ⟨.hbm, 186, rfl⟩
abbrev main_v159 : Ref sig .tc := ⟨.hbm, 187, rfl⟩
abbrev main_v160 : Ref sig .tc := ⟨.hbm, 188, rfl⟩
abbrev main_v161 : Ref sig .tc := ⟨.hbm, 189, rfl⟩
abbrev main_v162 : Ref sig .tc := ⟨.hbm, 190, rfl⟩
abbrev main_cst_18 : Ref sig .tc := ⟨.hbm, 191, rfl⟩
abbrev main_v163 : Ref sig .tc := ⟨.hbm, 192, rfl⟩
abbrev main_v164 : Ref sig .tc := ⟨.hbm, 193, rfl⟩
abbrev main_v165 : Ref sig .tc := ⟨.hbm, 194, rfl⟩
abbrev main_v166 : Ref sig .tc := ⟨.hbm, 195, rfl⟩
abbrev main_v167 : Ref sig .tc := ⟨.hbm, 196, rfl⟩
abbrev main_v168 : Ref sig .tc := ⟨.hbm, 197, rfl⟩
abbrev main_v169 : Ref sig .tc := ⟨.hbm, 198, rfl⟩
abbrev main_v170 : Ref sig .tc := ⟨.hbm, 199, rfl⟩
abbrev main_v171 : Ref sig .tc := ⟨.hbm, 200, rfl⟩
abbrev main_v172 : Ref sig .tc := ⟨.hbm, 201, rfl⟩
abbrev main_v173 : Ref sig .tc := ⟨.hbm, 202, rfl⟩
abbrev main_v174 : Ref sig .tc := ⟨.hbm, 203, rfl⟩
abbrev main_v175 : Ref sig .tc := ⟨.hbm, 204, rfl⟩
abbrev main_v176 : Ref sig .tc := ⟨.hbm, 205, rfl⟩
abbrev main_v177 : Ref sig .tc := ⟨.hbm, 206, rfl⟩
abbrev main_v178 : Ref sig .tc := ⟨.hbm, 207, rfl⟩
abbrev main_c_19 : Ref sig .tc := ⟨.hbm, 208, rfl⟩
abbrev main_v179 : Ref sig .tc := ⟨.hbm, 209, rfl⟩
abbrev main_v180 : Ref sig .tc := ⟨.hbm, 210, rfl⟩
abbrev main_v181 : Ref sig .tc := ⟨.hbm, 211, rfl⟩
abbrev main_v182 : Ref sig .tc := ⟨.hbm, 212, rfl⟩
abbrev main_v183 : Ref sig .tc := ⟨.hbm, 213, rfl⟩
abbrev main_v184 : Ref sig .tc := ⟨.hbm, 214, rfl⟩
abbrev main_v185 : Ref sig .tc := ⟨.hbm, 215, rfl⟩
abbrev main_v186 : Ref sig .tc := ⟨.hbm, 216, rfl⟩
abbrev main_v187 : Ref sig .tc := ⟨.hbm, 217, rfl⟩
abbrev main_v188 : Ref sig .tc := ⟨.hbm, 218, rfl⟩
abbrev main_v189 : Ref sig .tc := ⟨.hbm, 219, rfl⟩
abbrev main_v190 : Ref sig .tc := ⟨.hbm, 220, rfl⟩
abbrev main_cst_20 : Ref sig .tc := ⟨.hbm, 221, rfl⟩
abbrev main_v191 : Ref sig .tc := ⟨.hbm, 222, rfl⟩
abbrev main_v192 : Ref sig .tc := ⟨.hbm, 223, rfl⟩
abbrev main_cst_21 : Ref sig .tc := ⟨.hbm, 224, rfl⟩
abbrev main_v193 : Ref sig .tc := ⟨.hbm, 225, rfl⟩
abbrev main_v194 : Ref sig .tc := ⟨.hbm, 226, rfl⟩
abbrev main_v195 : Ref sig .tc := ⟨.hbm, 227, rfl⟩
abbrev main_v196 : Ref sig .tc := ⟨.hbm, 228, rfl⟩
abbrev main_v197 : Ref sig .tc := ⟨.hbm, 229, rfl⟩
abbrev main_cst_22 : Ref sig .tc := ⟨.hbm, 230, rfl⟩
abbrev main_v198 : Ref sig .tc := ⟨.hbm, 231, rfl⟩
abbrev main_v199 : Ref sig .tc := ⟨.hbm, 232, rfl⟩
abbrev main_v200 : Ref sig .tc := ⟨.hbm, 233, rfl⟩
abbrev main_v201 : Ref sig .tc := ⟨.hbm, 234, rfl⟩
abbrev main_v202 : Ref sig .tc := ⟨.hbm, 235, rfl⟩
abbrev main_v203 : Ref sig .tc := ⟨.hbm, 236, rfl⟩
abbrev main_v204 : Ref sig .tc := ⟨.hbm, 237, rfl⟩
abbrev main_v205 : Ref sig .tc := ⟨.hbm, 238, rfl⟩
abbrev main_v206 : Ref sig .tc := ⟨.hbm, 239, rfl⟩
abbrev main_v207 : Ref sig .tc := ⟨.hbm, 240, rfl⟩
abbrev main_v208 : Ref sig .tc := ⟨.hbm, 241, rfl⟩
abbrev main_v209 : Ref sig .tc := ⟨.hbm, 242, rfl⟩
abbrev main_v210 : Ref sig .tc := ⟨.hbm, 243, rfl⟩
abbrev main_v211 : Ref sig .tc := ⟨.hbm, 244, rfl⟩
abbrev main_v212 : Ref sig .tc := ⟨.hbm, 245, rfl⟩
abbrev main_v213 : Ref sig .tc := ⟨.hbm, 246, rfl⟩
abbrev main_c_23 : Ref sig .tc := ⟨.hbm, 247, rfl⟩
abbrev main_v214 : Ref sig .tc := ⟨.hbm, 248, rfl⟩
abbrev main_v215 : Ref sig .tc := ⟨.hbm, 249, rfl⟩
abbrev main_v216 : Ref sig .tc := ⟨.hbm, 250, rfl⟩
abbrev main_v217 : Ref sig .tc := ⟨.hbm, 251, rfl⟩
abbrev main_v218 : Ref sig .tc := ⟨.hbm, 252, rfl⟩
abbrev main_v219 : Ref sig .tc := ⟨.hbm, 253, rfl⟩
abbrev main_v220 : Ref sig .tc := ⟨.hbm, 254, rfl⟩
abbrev main_v221 : Ref sig .tc := ⟨.hbm, 255, rfl⟩
abbrev main_v222 : Ref sig .tc := ⟨.hbm, 256, rfl⟩
abbrev main_v223 : Ref sig .tc := ⟨.hbm, 257, rfl⟩
abbrev main_v224 : Ref sig .tc := ⟨.hbm, 258, rfl⟩
abbrev main_v225 : Ref sig .tc := ⟨.hbm, 259, rfl⟩
abbrev main_cst_24 : Ref sig .tc := ⟨.hbm, 260, rfl⟩
abbrev main_v226 : Ref sig .tc := ⟨.hbm, 261, rfl⟩
abbrev main_v227 : Ref sig .tc := ⟨.hbm, 262, rfl⟩
abbrev main_cst_25 : Ref sig .tc := ⟨.hbm, 263, rfl⟩
abbrev main_v228 : Ref sig .tc := ⟨.hbm, 264, rfl⟩
abbrev main_v229 : Ref sig .tc := ⟨.hbm, 265, rfl⟩
abbrev main_v230 : Ref sig .tc := ⟨.hbm, 266, rfl⟩
abbrev main_v231 : Ref sig .tc := ⟨.hbm, 267, rfl⟩
abbrev main_v232 : Ref sig .tc := ⟨.hbm, 268, rfl⟩
abbrev main_cst_26 : Ref sig .tc := ⟨.hbm, 269, rfl⟩
abbrev main_v233 : Ref sig .tc := ⟨.hbm, 270, rfl⟩
abbrev main_v234 : Ref sig .tc := ⟨.hbm, 271, rfl⟩
abbrev main_v235 : Ref sig .tc := ⟨.hbm, 272, rfl⟩
abbrev main_v236 : Ref sig .tc := ⟨.hbm, 273, rfl⟩
abbrev main_v237 : Ref sig .tc := ⟨.hbm, 274, rfl⟩
abbrev main_v238 : Ref sig .tc := ⟨.hbm, 275, rfl⟩
abbrev main_v239 : Ref sig .tc := ⟨.hbm, 276, rfl⟩
abbrev main_v240 : Ref sig .tc := ⟨.hbm, 277, rfl⟩
abbrev main_v241 : Ref sig .tc := ⟨.hbm, 278, rfl⟩
abbrev main_v242 : Ref sig .tc := ⟨.hbm, 279, rfl⟩
abbrev main_v243 : Ref sig .tc := ⟨.hbm, 280, rfl⟩
abbrev main_v244 : Ref sig .tc := ⟨.hbm, 281, rfl⟩
abbrev main_v245 : Ref sig .tc := ⟨.hbm, 282, rfl⟩
abbrev main_v246 : Ref sig .tc := ⟨.hbm, 283, rfl⟩
abbrev main_v247 : Ref sig .tc := ⟨.hbm, 284, rfl⟩
abbrev main_v248 : Ref sig .tc := ⟨.hbm, 285, rfl⟩
abbrev main_c_27 : Ref sig .tc := ⟨.hbm, 286, rfl⟩
abbrev main_v249 : Ref sig .tc := ⟨.hbm, 287, rfl⟩
abbrev main_v250 : Ref sig .tc := ⟨.hbm, 288, rfl⟩
abbrev main_v251 : Ref sig .tc := ⟨.hbm, 289, rfl⟩
abbrev main_v252 : Ref sig .tc := ⟨.hbm, 290, rfl⟩
abbrev main_v253 : Ref sig .tc := ⟨.hbm, 291, rfl⟩
abbrev main_v254 : Ref sig .tc := ⟨.hbm, 292, rfl⟩
abbrev main_v255 : Ref sig .tc := ⟨.hbm, 293, rfl⟩
abbrev main_v256 : Ref sig .tc := ⟨.hbm, 294, rfl⟩
abbrev main_v257 : Ref sig .tc := ⟨.hbm, 295, rfl⟩
abbrev main_v258 : Ref sig .tc := ⟨.hbm, 296, rfl⟩
abbrev main_v259 : Ref sig .tc := ⟨.hbm, 297, rfl⟩
abbrev main_v260 : Ref sig .tc := ⟨.hbm, 298, rfl⟩
abbrev main_cst_28 : Ref sig .tc := ⟨.hbm, 299, rfl⟩
abbrev main_v261 : Ref sig .tc := ⟨.hbm, 300, rfl⟩
abbrev main_v262 : Ref sig .tc := ⟨.hbm, 301, rfl⟩
abbrev main_cst_29 : Ref sig .tc := ⟨.hbm, 302, rfl⟩
abbrev main_v263 : Ref sig .tc := ⟨.hbm, 303, rfl⟩
abbrev main_v264 : Ref sig .tc := ⟨.hbm, 304, rfl⟩
abbrev main_v265 : Ref sig .tc := ⟨.hbm, 305, rfl⟩
abbrev main_v266 : Ref sig .tc := ⟨.hbm, 306, rfl⟩
abbrev main_v267 : Ref sig .tc := ⟨.hbm, 307, rfl⟩
abbrev main_cst_30 : Ref sig .tc := ⟨.hbm, 308, rfl⟩
abbrev main_v268 : Ref sig .tc := ⟨.hbm, 309, rfl⟩
abbrev main_v269 : Ref sig .tc := ⟨.hbm, 310, rfl⟩
abbrev main_v270 : Ref sig .tc := ⟨.hbm, 311, rfl⟩
abbrev main_v271 : Ref sig .tc := ⟨.hbm, 312, rfl⟩
abbrev main_v272 : Ref sig .tc := ⟨.hbm, 313, rfl⟩
abbrev main_v273 : Ref sig .tc := ⟨.hbm, 314, rfl⟩
abbrev main_v274 : Ref sig .tc := ⟨.hbm, 315, rfl⟩
abbrev main_v275 : Ref sig .tc := ⟨.hbm, 316, rfl⟩
abbrev main_v276 : Ref sig .tc := ⟨.hbm, 317, rfl⟩
abbrev main_v277 : Ref sig .tc := ⟨.hbm, 318, rfl⟩
abbrev main_v278 : Ref sig .tc := ⟨.hbm, 319, rfl⟩
abbrev main_v279 : Ref sig .tc := ⟨.hbm, 320, rfl⟩
abbrev main_v280 : Ref sig .tc := ⟨.hbm, 321, rfl⟩
abbrev main_v281 : Ref sig .tc := ⟨.hbm, 322, rfl⟩
abbrev main_v282 : Ref sig .tc := ⟨.hbm, 323, rfl⟩
abbrev main_v283 : Ref sig .tc := ⟨.hbm, 324, rfl⟩

abbrev nD : Nat := 1
abbrev τ : Topo := Topo.v7x

variable {F : FTy → Type} [FloatOps F]
-- ==== Proof.Combine.Base.lean ====
/-
  The combine step on the SparseCores, seen as the launch theorem sees it: the program's configuration, the ghost state,
  the launch memory's arrays, and the values: what the call leaves in its result, as a function of the expert outputs,
  the slot numbers and the routing weights. Everything here is over any float instance `F`.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Value
public import Idealize.ShloMosaic.Lib.Tactic
public import Idealize.ShloMosaic.Lib.ShareLeaves
public import Idealize.ShloMosaic.Lib.ValueIdxCore
public import Idealize.ShloMosaic.Lib.Writes
public import proofs.«01_k».proof.Proof.Gen.KernelIdeal
public import proofs.«01_k».proof.Proof.Gen.KernelIdeal.Skeleton

@[expose] public section

noncomputable section

namespace Cert.Proof.Combine

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nSub_eq : (K (F := F)).nSub 0 = 16 := rfl
theorem nCore_eq : (K (F := F)).nCore 0 = 2 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the launch's handshakes beside the transfers' counters -/

abbrev UH : Type := URounds (GSem nD τ sig) ℕ
abbrev UU : Type := UH × Counters

abbrev MM (F : FTy → Type) := MT nD τ sig (HIx 1) (Elt F) ℕ UU ℕ

local notation "𝕄" => MM F

abbrev EH : Emb UH (MM F) := embL

/-! ## The arrays -/

abbrev fLoc (d : Dev nD) : Loc nD τ sig := (SparseCore.T d).loc main_arg0
abbrev ciLoc (d : Dev nD) : Loc nD τ sig := (SparseCore.T d).loc main_arg1
abbrev wtLoc (d : Dev nD) : Loc nD τ sig := (SparseCore.T d).loc main_arg2
abbrev c3Loc (d : Dev nD) : Loc nD τ sig := (SparseCore.T d).loc main_v1
abbrev w3Loc (d : Dev nD) : Loc nD τ sig := (SparseCore.T d).loc main_v3
abbrev oLoc (d : Dev nD) : Loc nD τ sig := (SparseCore.T d).loc main_v4

abbrev fV : Memref sig .scVector .hbm S6144x768 .f32 := Memref.whole main_arg0_scv
abbrev cV3 : Memref sig .scVector .hbm S32x2x64 .i32 := Memref.whole main_v1_scv
abbrev wV3 : Memref sig .scVector .hbm S32x2x64 .f32 := Memref.whole main_v3_scv
abbrev oV : Memref sig .scVector .hbm S2048x768 .f32 := Memref.whole main_v4_scv
abbrev i0V : Memref sig .scVector .vmem S64 .i32 := Memref.whole cc0_scratch0
abbrev i1V : Memref sig .scVector .vmem S64 .i32 := Memref.whole cc0_scratch1
abbrev r0V : Memref sig .scVector .vmem S64x768 .f32 := Memref.whole cc0_scratch2
abbrev r1V : Memref sig .scVector .vmem S64x768 .f32 := Memref.whole cc0_scratch3
abbrev w0V : Memref sig .scVector .vmem S64 .f32 := Memref.whole cc0_scratch4
abbrev w1V : Memref sig .scVector .vmem S64 .f32 := Memref.whole cc0_scratch5

/-! ## Values -/

variable [FloatOps F]

/-- One element of the combined row: the two expert rows' elements weighted and added. -/
def mix (x y a b : F .f32) : F .f32 := FloatOps.addf (FloatOps.mulf a x) (FloatOps.mulf b y)

/-- A row block of which row `t` is combined in its first `16 * n` columns, the other elements as they were. -/
def rowMix (x y : F .f32) (f g : S64x768.Idx → F .f32) (t n : ℕ) : S64x768.Idx → F .f32 :=
  fun p => if (p 0).val = t ∧ (p 1).val < 16 * n then mix x y (f p) (g p) else f p

/-- A row block of which the first `t` rows are combined. -/
def rowsMix (u v : S64.Idx → F .f32) (f g : S64x768.Idx → F .f32) (t : ℕ) : S64x768.Idx → F .f32 :=
  fun p => if (p 0).val < t then mix (u (ix1 (p 0))) (v (ix1 (p 0))) (f p) (g p) else f p

/-- A row block of which the first `128 * n` columns hold the rows `r` names of `tab`. -/
def colsOf (tab : S6144x768.Idx → F .f32) (r : Fin 64 → Fin 6144) (old : S64x768.Idx → F .f32) (n : ℕ) : S64x768.Idx → F .f32 :=
  fun p => if (p 1).val < 128 * n then tab (ix2 (r (p 0)) (p 1)) else old p

omit [FloatOps F] in
theorem colsOf_zero (tab : S6144x768.Idx → F .f32) (r : Fin 64 → Fin 6144) (old : S64x768.Idx → F .f32) : colsOf tab r old 0 = old :=
  funext fun p => if_neg (by omega)
omit [FloatOps F] in
theorem colsOf_six (tab : S6144x768.Idx → F .f32) (r : Fin 64 → Fin 6144) (old : S64x768.Idx → F .f32) :
    colsOf tab r old 6 = fun p => tab (ix2 (r (p 0)) (p 1)) :=
  funext fun p => if_pos (by have h : (p 1).val < 768 := (p 1).isLt; omega)

theorem rowsMix_zero (u v : S64.Idx → F .f32) (f g : S64x768.Idx → F .f32) : rowsMix u v f g 0 = f :=
  funext fun p => if_neg (by omega)

theorem rowMix_zero (x y : F .f32) (f g : S64x768.Idx → F .f32) (t : ℕ) : rowMix x y f g t 0 = f :=
  funext fun p => if_neg (by omega)

/-- Combining row `t` after the first `t` rows is combining the first `t + 1`. -/
theorem rowMix_rowsMix (u v : S64.Idx → F .f32) (f g : S64x768.Idx → F .f32) (t : ℕ) (ht : t < 64) :
    rowMix (u (ix1 ⟨t, ht⟩)) (v (ix1 ⟨t, ht⟩)) (rowsMix u v f g t) g t 48 = rowsMix u v f g (t + 1) := by
  funext p
  have h1 : (p 1).val < 768 := (p 1).isLt
  unfold rowMix rowsMix
  by_cases h : (p 0).val = t
  · have e : p 0 = (⟨t, ht⟩ : Fin 64) := Fin.ext h
    rw [if_pos ⟨h, by omega⟩, if_neg (by omega), if_pos (by omega), e]
  · rw [if_neg (fun q => h q.1)]
    by_cases h2 : (p 0).val < t
    · rw [if_pos h2, if_pos (by omega)]
    · rw [if_neg h2, if_neg (by omega)]

end Cert.Proof.Combine

end
-- ==== Proof.Combine.Chunk.lean ====
/-
  One chunk of the combine loop: sixteen lanes of row `t` of the first row buffer are read, the same lanes of the second,
  the lanes are weighted and added, and the result is stored over the first buffer's. What the store leaves is the row
  combined in sixteen more columns.
-/
module

public import proofs.«01_k».proof.Proof.Combine.Base

@[expose] public section

noncomputable section

namespace Cert.Proof.Combine

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MM F

abbrev cOf (L : grid0.Coords) : Fin τ.nSC := (L 0).castLE hcore0
abbrev jOf (L : grid0.Coords) : Fin τ.nSub := (L 1).castLE hsub0

/-- The chunk's payload: the sixteen lanes read of each buffer, weighted and added. -/
def lanes (u v : Vec F S16 .f32) (a b : Vec F S1x16 .f32) : FVec F S16 .f32 :=
  addf (mulf (shapeCast S16 a shapeCasts_S1x16_S16) u) (mulf (shapeCast S16 b shapeCasts_S1x16_S16) v)

theorem lanes_apply (x y : F .f32) (a b : Vec F S1x16 .f32) (j : S1x16.Idx) :
    shapeCast S1x16 (lanes (fun _ => x) (fun _ => y) a b) shapeCasts_S16_S1x16 j = mix x y (a j) (b j) := by
  have e : Shape.reshapeEquiv shapeCasts_S1x16_S16 (Shape.reshapeEquiv shapeCasts_S16_S1x16 j) = j := by
    rw [Shape.reshapeEquiv_reshapeEquiv, Shape.reshapeEquiv_self]
  show mix x y (a (Shape.reshapeEquiv shapeCasts_S1x16_S16 (Shape.reshapeEquiv shapeCasts_S16_S1x16 j))) (b (Shape.reshapeEquiv shapeCasts_S1x16_S16 (Shape.reshapeEquiv shapeCasts_S16_S1x16 j))) = _
  rw [e]

abbrev laneRect (off : Fin 2 → ℕ) (inb : ∀ a, off a + S1x16.size a ≤ S64x768.size a) : Rect S64x768 :=
  Rect.unit (s := S64x768) off S1x16.size inb

/-- What the chunk's store leaves in the first row buffer. -/
theorem chunk_write (x y : F .f32) (f g : S64x768.Idx → F .f32) (t n : ℕ) (off : Fin 2 → ℕ)
    (inb : ∀ a, off a + S1x16.size a ≤ S64x768.size a) (h0 : off 0 = t) (h1 : off 1 = 16 * n) :
    ((r0V).access (laneRect off inb)).write (Elt F) (rowMix x y f g t n)
        (shapeCast S1x16 (lanes (fun _ => x) (fun _ => y)
          ((r0V).view.readAt (Elt F) (laneRect off inb).toLoadRect (rowMix x y f g t n))
          ((r1V).view.readAt (Elt F) (laneRect off inb).toLoadRect g)) shapeCasts_S16_S1x16) Finset.univ
      = rowMix x y f g t (n + 1) := by
  funext p
  by_cases hp : (p 0).val = t ∧ 16 * n ≤ (p 1).val ∧ (p 1).val < 16 * (n + 1)
  · obtain ⟨hp0, hp1, hp2⟩ := hp
    have hj : (p 1).val - 16 * n < 16 := by omega
    let j : S1x16.Idx := ix2 (⟨0, by decide⟩ : Fin 1) (⟨(p 1).val - 16 * n, hj⟩ : Fin 16)
    have e : (laneRect off inb).emb j = p := by
      funext a
      match a with
      | 0 => exact Fin.ext (by rw [Rect.emb_apply]; show off 0 + 1 * 0 = _; omega)
      | 1 => exact Fin.ext (by rw [Rect.emb_apply]; show off 1 + 1 * ((p 1).val - 16 * n) = _; omega)
    have e' : ((r0V).access (laneRect off inb)).emb j = p := e
    conv_lhs => rw [← e', View.write_emb_of_mem _ _ (Finset.mem_univ j)]
    rw [show ∀ (h : Elt F .f32 = Elt F .f32) (q : Elt F .f32), cast h q = q from fun _ _ => rfl, lanes_apply]
    have ea : (r0V).view.readAt (Elt F) (laneRect off inb).toLoadRect (rowMix x y f g t n) j = rowMix x y f g t n ((laneRect off inb).emb j) := rfl
    have eb : (r1V).view.readAt (Elt F) (laneRect off inb).toLoadRect g j = g ((laneRect off inb).emb j) := rfl
    rw [ea, eb, e]
    unfold rowMix
    rw [if_neg (by omega), if_pos ⟨hp0, hp2⟩]
  · rw [View.write_of_not_mem]
    · unfold rowMix
      by_cases hq : (p 0).val = t ∧ (p 1).val < 16 * n
      · rw [if_pos hq, if_pos ⟨hq.1, by omega⟩]
      · rw [if_neg hq, if_neg (by omega)]
    · intro hm
      obtain ⟨j, -, e⟩ := Finset.mem_map.mp hm
      have e : (laneRect off inb).emb j = p := e
      apply hp
      have q0 : (p 0).val = off 0 + 1 * (j 0).val := by rw [← e, Rect.emb_apply]; rfl
      have q1 : (p 1).val = off 1 + 1 * (j 1).val := by rw [← e, Rect.emb_apply]; rfl
      have b0 : (j 0).val < 1 := (j 0).isLt
      have b1 : (j 1).val < 16 := (j 1).isLt
      omega

variable (d : Dev nD) (L : grid0.Coords)

/-- The row buffers of the tile, each at its contents. -/
abbrev p0 (f : S64x768.Idx → F .f32) : sProp 𝕄 := (r0V).view.loc (V d (cOf L) (jOf L)) ↦{fullShare} f
abbrev p1 (f : S64x768.Idx → F .f32) : sProp 𝕄 := (r1V).view.loc (V d (cOf L) (jOf L)) ↦{fullShare} f

/-- One chunk at the head of a program: the row is combined in sixteen more columns. -/
theorem chunk_step {α : Type} (x y : F .f32) (f g : S64x768.Idx → F .f32) (t n : ℕ) (off : Fin 2 → ℕ)
    {inb : ∀ a, off a + S1x16.size a ≤ S64x768.size a} (hoff : off = ![t, 16 * n])
    {pay : Vec F S1x16 .f32 → Vec F S1x16 .f32 → FVec F S16 .f32} (hpay : pay = lanes (fun _ => x) (fun _ => y))
    {hl0 : (r0V).view.LoadsAt (laneRect off inb).toLoadRect} {hl1 : (r1V).view.LoadsAt (laneRect off inb).toLoadRect}
    {hs : ((r0V).access (laneRect off inb)).Stores Finset.univ} {hm}
    {k : PUnit → Prog (TpuEff nD τ sig (Elt F) Λ₀ (.scVector (cOf L) (jOf L))) α} {Q : α → sProp 𝕄} :
    iprop(p0 d L (rowMix x y f g t n) ∗ p1 d L g)
      ⊢ iprop(((p0 d L (rowMix x y f g t (n + 1)) ∗ p1 d L g) -∗ wp frame (wpE (defs₀ (F := F)) 𝒱₀ (V d (cOf L) (jOf L)) none) Set.univ (k ⟨⟩) Q)
        -∗ wp frame (wpE (defs₀ (F := F)) 𝒱₀ (V d (cOf L) (jOf L)) none) Set.univ
          (do
            let a : Vec F S1x16 .f32 ← Prog.lift (.load r0V (laneRect off inb).toLoadRect hl0)
            let b : Vec F S1x16 .f32 ← Prog.lift (.load r1V (laneRect off inb).toLoadRect hl1)
            let _ : Vec F S1x16 .f32 ← Prog.lift (.load r0V (laneRect off inb).toLoadRect hl0)
            let q ← Prog.lift (.store r0V (laneRect off inb) (shapeCast S1x16 (pay a b) shapeCasts_S16_S1x16) Finset.univ hs hm)
            k q) Q) := by
  subst hpay
  have h0 : off 0 = t := by rw [hoff]; rfl
  have h1 : off 1 = 16 * n := by rw [hoff]; rfl
  iintro ⟨H0, H1⟩ Hk
  iapply (wp_load 𝒱₀ (V d (cOf L) (jOf L)) none Set.univ (m := r0V) (S := Finset.univ) (Finset.subset_univ _)) $$ H0; iintro H0
  iapply (wp_load 𝒱₀ (V d (cOf L) (jOf L)) none Set.univ (m := r1V) (S := Finset.univ) (Finset.subset_univ _)) $$ H1; iintro H1
  iapply (wp_load 𝒱₀ (V d (cOf L) (jOf L)) none Set.univ (m := r0V) (S := Finset.univ) (Finset.subset_univ _)) $$ H0; iintro H0
  iapply (wp_store 𝒱₀ (V d (cOf L) (jOf L)) none Set.univ (m := r0V) (r := laneRect off inb) (Mk := Finset.univ) (S := Finset.univ) (Finset.subset_univ _)) $$ H0; iintro H0
  iapply Hk
  isplitl [H0]
  · iapply (Entails.of_eq (congrArg (p0 d L) (chunk_write x y f g t n off inb h0 h1))) $$ H0
  iexact H1

end Cert.Proof.Combine

end
-- ==== Proof.Combine.Row.lean ====
/-
  One trip of the combine loop: the row's two weights are read into all lanes, and the row's 48 chunks are combined in turn.
-/
module

public import proofs.«01_k».proof.Proof.Combine.Chunk

@[expose] public section

noncomputable section

namespace Cert.Proof.Combine

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MM F

variable (d : Dev nD) (L : grid0.Coords)

/-- The weights' buffers of the tile, each at its contents. -/
abbrev q0 (u : S64.Idx → F .f32) : sProp 𝕄 := (w0V).view.loc (V d (cOf L) (jOf L)) ↦{fullShare} u
abbrev q1 (v : S64.Idx → F .f32) : sProp 𝕄 := (w1V).view.loc (V d (cOf L) (jOf L)) ↦{fullShare} v

omit [FloatOps F] in
theorem trip_lt (t : Fin k0_t1_loop.trips) : t.val < 64 := lt_of_lt_of_eq t.isLt (by decide)

omit [FloatOps F] in
theorem lane_word : ∀ t : Fin k0_t1_loop.trips, (Scalar.addi 0#32 (Scf.iv 0#32 1#32 t.val)).toNat = t.val := by decide

omit [FloatOps F] in
theorem lane_toNat (t : Fin k0_t1_loop.trips) (x : S16.Idx) : ((k0_pay2 0#32 1#32 t) x).toNat = t.val := lane_word t

omit [FloatOps F] in
theorem lane_chk (t : Fin k0_t1_loop.trips) : k0_chk1 (k0_pay2 0#32 1#32 t) := by
  have h : ∀ a x, ((![k0_pay2 0#32 1#32 t] : Fin 1 → IVec S16 32) a x).toNat < S64.size a := by
    intro a x
    match a with
    | 0 => exact lt_of_eq_of_lt (lane_toNat t x) (trip_lt t)
  exact ⟨h, h⟩

/-- The indexed load at lane number `t` everywhere is word `t` in every lane. -/
theorem lane_load (u : Vec F S64 .f32) (t : Fin k0_t1_loop.trips) (h) :
    (loadIdx u ![k0_pay2 0#32 1#32 t] h : Vec F S16 .f32) = fun _ => u (ix1 ⟨t.val, trip_lt t⟩) := by
  funext x
  show u _ = u _
  congr 1
  funext a
  match a with
  | 0 => exact Fin.ext (lane_toNat t x)

/-- The same of what the first weights' buffer reads. -/
theorem lane_load0 (u : S64.Idx → F .f32) (t : Fin k0_t1_loop.trips) (h) :
    (loadIdx (View.read (Elt F) ((w0V).access (Rect.whole S64)) u) ![k0_pay2 0#32 1#32 t] h : Vec F S16 .f32) = fun _ => u (ix1 ⟨t.val, trip_lt t⟩) := by
  rw [show View.read (Elt F) ((w0V).access (Rect.whole S64)) u = u from Memref.read_access_whole (Elt F) cc0_scratch4 u]
  exact lane_load u t h

/-- The same of what the second weights' buffer reads. -/
theorem lane_load1 (v : S64.Idx → F .f32) (t : Fin k0_t1_loop.trips) (h) :
    (loadIdx (View.read (Elt F) ((w1V).access (Rect.whole S64)) v) ![k0_pay2 0#32 1#32 t] h : Vec F S16 .f32) = fun _ => v (ix1 ⟨t.val, trip_lt t⟩) := by
  rw [show View.read (Elt F) ((w1V).access (Rect.whole S64)) v = v from Memref.read_access_whole (Elt F) cc0_scratch5 v]
  exact lane_load v t h

set_option maxHeartbeats 4000000 in
/-- One trip: row `t` combined. -/
theorem row_step (u v : S64.Idx → F .f32) (f g : S64x768.Idx → F .f32) (t : Fin k0_t1_loop.trips) :
    iprop(p0 d L (rowsMix u v f g t.val) ∗ p1 d L g ∗ q0 d L u ∗ q1 d L v)
      ⊢ wp frame (wpE (defs₀ (F := F)) 𝒱₀ (V d (cOf L) (jOf L)) none) Set.univ
          (k0_t1_body L fV (Memref.isWhole_whole _) cV3 (Memref.isWhole_whole _) wV3 (Memref.isWhole_whole _) oV (Memref.isWhole_whole _)
            i0V (Memref.isWhole_whole _) i1V (Memref.isWhole_whole _) r0V (Memref.isWhole_whole _) r1V (Memref.isWhole_whole _)
            w0V (Memref.isWhole_whole _) w1V (Memref.isWhole_whole _) cc0_scratch6 cc0_scratch7
            cc0_scoped0 cc0_scoped1 cc0_scoped2 cc0_scoped3 cc0_scoped4 0#32 1#32 t ())
          fun _ => iprop(p0 d L (rowsMix u v f g (t.val + 1)) ∗ p1 d L g ∗ q0 d L u ∗ q1 d L v) := by
  unfold k0_t1_body
  simp only [k0_part13_eq_skeleton, k0_part1_eq_skeleton, k0_part2_eq_skeleton, k0_part3_eq_skeleton, k0_part4_eq_skeleton,
    k0_part5_eq_skeleton, k0_part6_eq_skeleton, k0_part7_eq_skeleton, k0_part8_eq_skeleton, k0_part9_eq_skeleton,
    k0_part10_eq_skeleton, k0_part11_eq_skeleton, k0_part12_eq_skeleton]
  unfold k0_part13_skel
  simp only [k0_part1_eq_skeleton, k0_part2_eq_skeleton, k0_part3_eq_skeleton, k0_part4_eq_skeleton,
    k0_part5_eq_skeleton, k0_part6_eq_skeleton, k0_part7_eq_skeleton, k0_part8_eq_skeleton, k0_part9_eq_skeleton,
    k0_part10_eq_skeleton, k0_part11_eq_skeleton, k0_part12_eq_skeleton]
  unfold k0_part1_skel k0_part2_skel k0_part3_skel k0_part4_skel k0_part5_skel k0_part6_skel k0_part7_skel k0_part8_skel k0_part9_skel k0_part10_skel k0_part11_skel k0_part12_skel
  simp only [bind_assoc, pure_bind]
  change _ ⊢ wp _ _ _ (.op (TpuEff.assume _ _) _) _
  rw [wp_assume_of _ _ _ _ (lane_chk t)]
  iintro ⟨H0, H1, Hu, Hv⟩
  ihave Hu := (Entails.of_eq (show (q0 d L u : sProp 𝕄) = ((w0V).access (.whole _)).loc (V d (cOf L) (jOf L)) ↦{fullShare} u from rfl)) $$ Hu
  ihave Hv := (Entails.of_eq (show (q1 d L v : sProp 𝕄) = ((w1V).access (.whole _)).loc (V d (cOf L) (jOf L)) ↦{fullShare} v from rfl)) $$ Hv
  iapply (SparseCore.wp_vectorLoadIdx 𝒱₀ (V d (cOf L) (jOf L)) none Set.univ (base := w0V) (hl := View.loads_vmem h_S64) (S := Finset.univ) (q := fullShare) (Finset.subset_univ _)) $$ Hu; iintro Hu
  iapply (SparseCore.wp_vectorLoadIdx 𝒱₀ (V d (cOf L) (jOf L)) none Set.univ (base := w1V) (hl := View.loads_vmem h_S64) (S := Finset.univ) (q := fullShare) (Finset.subset_univ _)) $$ Hv; iintro Hv
  rw [lane_load0 u t, lane_load1 v t]
  ihave H := (Entails.of_eq (congrArg (fun z => iprop(p0 d L z ∗ p1 d L g)) (rowMix_zero (u (ix1 ⟨t.val, trip_lt t⟩)) (v (ix1 ⟨t.val, trip_lt t⟩)) (rowsMix u v f g t.val) g t.val).symm)) $$ [H0 H1]
  · isplitl [H0] <;> iassumption
  generalize hx : u (ix1 ⟨t.val, trip_lt t⟩) = x
  generalize hy : v (ix1 ⟨t.val, trip_lt t⟩) = y
  generalize hff : rowsMix u v f g t.val = ff
  iapply (chunk_step d L x y ff g t.val 0 (k0_off3 t) (k0_off3_eq t) rfl) $$ H; iintro H
  iapply (chunk_step d L x y ff g t.val 1 (k0_off4 t) (k0_off4_eq t) rfl) $$ H; iintro H
  iapply (chunk_step d L x y ff g t.val 2 (k0_off5 t) (k0_off5_eq t) rfl) $$ H; iintro H
  iapply (chunk_step d L x y ff g t.val 3 (k0_off6 t) (k0_off6_eq t) rfl) $$ H; iintro H
  iapply (chunk_step d L x y ff g t.val 4 (k0_off7 t) (k0_off7_eq t) rfl) $$ H; iintro H
  iapply (chunk_step d L x y ff g t.val 5 (k0_off8 t) (k0_off8_eq t) rfl) $$ H; iintro H
  iapply (chunk_step d L x y ff g t.val 6 (k0_off9 t) (k0_off9_eq t) rfl) $$ H; iintro H
  iapply (chunk_step d L x y ff g t.val 7 (k0_off10 t) (k0_off10_eq t) rfl) $$ H; iintro H
  iapply (chunk_step d L x y ff g t.val 8 (k0_off11 t) (k0_off11_eq t) rfl) $$ H; iintro H
  iapply (chunk_step d L x y ff g t.val 9 (k0_off12 t) (k0_off12_eq t) rfl) $$ H; iintro H
  iapply (chunk_step d L x y ff g t.val 10 (k0_off13 t) (k0_off13_eq t) rfl) $$ H; iintro H
  iapply (chunk_step d L x y ff g t.val 11 (k0_off14 t) (k0_off14_eq t) rfl) $$ H; iintro H
  iapply (chunk_step d L x y ff g t.val 12 (k0_off15 t) (k0_off15_eq t) rfl) $$ H; iintro H
  iapply (chunk_step d L x y ff g t.val 13 (k0_off16 t) (k0_off16_eq t) rfl) $$ H; iintro H
  iapply (chunk_step d L x y ff g t.val 14 (k0_off17 t) (k0_off17_eq t) rfl) $$ H; iintro H
  iapply (chunk_step d L x y ff g t.val 15 (k0_off18 t) (k0_off18_eq t) rfl) $$ H; iintro H
  iapply (chunk_step d L x y ff g t.val 16 (k0_off19 t) (k0_off19_eq t) rfl) $$ H; iintro H
  iapply (chunk_step d L x y ff g t.val 17 (k0_off20 t) (k0_off20_eq t) rfl) $$ H; iintro H
  iapply (chunk_step d L x y ff g t.val 18 (k0_off21 t) (k0_off21_eq t) rfl) $$ H; iintro H
  iapply (chunk_step d L x y ff g t.val 19 (k0_off22 t) (k0_off22_eq t) rfl) $$ H; iintro H
  iapply (chunk_step d L x y ff g t.val 20 (k0_off23 t) (k0_off23_eq t) rfl) $$ H; iintro H
  iapply (chunk_step d L x y ff g t.val 21 (k0_off24 t) (k0_off24_eq t) rfl) $$ H; iintro H
  iapply (chunk_step d L x y ff g t.val 22 (k0_off25 t) (k0_off25_eq t) rfl) $$ H; iintro H
  iapply (chunk_step d L x y ff g t.val 23 (k0_off26 t) (k0_off26_eq t) rfl) $$ H; iintro H
  iapply (chunk_step d L x y ff g t.val 24 (k0_off27 t) (k0_off27_eq t) rfl) $$ H; iintro H
  iapply (chunk_step d L x y ff g t.val 25 (k0_off28 t) (k0_off28_eq t) rfl) $$ H; iintro H
  iapply (chunk_step d L x y ff g t.val 26 (k0_off29 t) (k0_off29_eq t) rfl) $$ H; iintro H
  iapply (chunk_step d L x y ff g t.val 27 (k0_off30 t) (k0_off30_eq t) rfl) $$ H; iintro H
  iapply (chunk_step d L x y ff g t.val 28 (k0_off31 t) (k0_off31_eq t) rfl) $$ H; iintro H
  iapply (chunk_step d L x y ff g t.val 29 (k0_off32 t) (k0_off32_eq t) rfl) $$ H; iintro H
  iapply (chunk_step d L x y ff g t.val 30 (k0_off33 t) (k0_off33_eq t) rfl) $$ H; iintro H
  iapply (chunk_step d L x y ff g t.val 31 (k0_off34 t) (k0_off34_eq t) rfl) $$ H; iintro H
  iapply (chunk_step d L x y ff g t.val 32 (k0_off35 t) (k0_off35_eq t) rfl) $$ H; iintro H
  iapply (chunk_step d L x y ff g t.val 33 (k0_off36 t) (k0_off36_eq t) rfl) $$ H; iintro H
  iapply (chunk_step d L x y ff g t.val 34 (k0_off37 t) (k0_off37_eq t) rfl) $$ H; iintro H
  iapply (chunk_step d L x y ff g t.val 35 (k0_off38 t) (k0_off38_eq t) rfl) $$ H; iintro H
  iapply (chunk_step d L x y ff g t.val 36 (k0_off39 t) (k0_off39_eq t) rfl) $$ H; iintro H
  iapply (chunk_step d L x y ff g t.val 37 (k0_off40 t) (k0_off40_eq t) rfl) $$ H; iintro H
  iapply (chunk_step d L x y ff g t.val 38 (k0_off41 t) (k0_off41_eq t) rfl) $$ H; iintro H
  iapply (chunk_step d L x y ff g t.val 39 (k0_off42 t) (k0_off42_eq t) rfl) $$ H; iintro H
  iapply (chunk_step d L x y ff g t.val 40 (k0_off43 t) (k0_off43_eq t) rfl) $$ H; iintro H
  iapply (chunk_step d L x y ff g t.val 41 (k0_off44 t) (k0_off44_eq t) rfl) $$ H; iintro H
  iapply (chunk_step d L x y ff g t.val 42 (k0_off45 t) (k0_off45_eq t) rfl) $$ H; iintro H
  iapply (chunk_step d L x y ff g t.val 43 (k0_off46 t) (k0_off46_eq t) rfl) $$ H; iintro H
  iapply (chunk_step d L x y ff g t.val 44 (k0_off47 t) (k0_off47_eq t) rfl) $$ H; iintro H
  iapply (chunk_step d L x y ff g t.val 45 (k0_off48 t) (k0_off48_eq t) rfl) $$ H; iintro H
  iapply (chunk_step d L x y ff g t.val 46 (k0_off49 t) (k0_off49_eq t) rfl) $$ H; iintro H
  iapply (chunk_step d L x y ff g t.val 47 (k0_off50 t) (k0_off50_eq t) rfl) $$ H; iintro H
  subst hx hy hff
  rw [rowMix_rowsMix u v f g t.val (trip_lt t)]
  icases H with ⟨H0, H1⟩
  rw [wp_pure]; imodintro
  isplitl [H0]; · iexact H0
  isplitl [H1]; · iexact H1
  isplitl [Hu]; · iexact Hu
  iexact Hv

end Cert.Proof.Combine

end
-- ==== Proof.Combine.Gather.lean ====
/-
  One block of the row gathers: the two indirect streams of 128 columns each are issued, one into each row buffer over its
  list of slot numbers, and both are waited for. What they leave is one more block of columns of the rows the lists name.
-/
module

public import proofs.«01_k».proof.Proof.Combine.Chunk

@[expose] public section

noncomputable section

namespace Cert.Proof.Combine

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MM F

abbrev blkRect (off : Fin 2 → ℕ) (inb : ∀ a, off a + S64x128.size a ≤ S64x768.size a) : Rect S64x768 :=
  Rect.unit (s := S64x768) off S64x128.size inb
abbrev tabRect (off : Fin 2 → ℕ) (inb : ∀ a, off a + S6144x128.size a ≤ S6144x768.size a) : Rect S6144x768 :=
  Rect.unit (s := S6144x768) off S6144x128.size inb

/-- The table rows a list of words names. -/
def rowsOf (idx : S64.Idx → BitVec 32) (h : ∀ x, (idx x).toNat < 6144) : Fin 64 → Fin 6144 := fun k => ⟨(idx (ix1 k)).toNat, h _⟩

omit [FloatOps F] in
/-- The list's words in row-major order are its words in order. -/
theorem list_order (k : Fin 64) (hn : S64.numel = 64) : S64.rowMajor.symm (k.cast hn.symm) = ix1 k := by
  rw [Equiv.symm_apply_eq]
  refine Fin.ext ?_
  show k.val = (Shape.rowMajorPi _ _).val
  rw [Shape.rowMajorPi_succ_val]
  simp [Shape.rowMajorPi_zero]

/-- The table element a gather reads for an element of the block. -/
theorem block_src (idx : S64.Idx → BitVec 32) (h : ∀ x, (idx x).toNat < 6144)
    {n : ℕ} (off : Fin 2 → ℕ) (inbF) (h0 : off 0 = 0) (h1 : off 1 = 128 * n) (p : S64x768.Idx) (hj : (p 1).val - 128 * n < 128) (hp : 128 * n ≤ (p 1).val)
    (hn) (hin) :
    (tabRect off inbF).emb (gathers_S6144x128_S64x128.idx (SparseCore.rows (F := F) (si := S64) idx hn hin) (ix2 (p 0) (⟨(p 1).val - 128 * n, hj⟩ : Fin 128)))
      = ix2 (rowsOf idx h (p 0)) (p 1) := by
  funext a
  match a with
  | 0 =>
    refine Fin.ext ?_
    rw [Rect.emb_apply]
    show off 0 + 1 * (gathers_S6144x128_S64x128.idx _ _ gathers_S6144x128_S64x128.axis).val = (rowsOf idx h (p 0)).val
    rw [Shape.Gathers.idx_axis, h0]
    show 0 + 1 * (idx (S64.rowMajor.symm (Fin.cast _ (p 0)))).toNat = (idx (ix1 (p 0))).toNat
    rw [Nat.zero_add, Nat.one_mul]
    exact congrArg (fun z => (idx z).toNat) (list_order (p 0) hn)
  | 1 =>
    refine Fin.ext ?_
    rw [Rect.emb_apply]
    show off 1 + 1 * (gathers_S6144x128_S64x128.idx _ _ (1 : Fin 2)).val = (p 1).val
    rw [Shape.Gathers.idx_of_ne _ _ _ _ (by decide), h1]
    show 128 * n + 1 * ((p 1).val - 128 * n) = (p 1).val
    omega

/-- What a gather over the block leaves in the first row buffer: one more block of columns. -/
theorem block_write0 (tab : S6144x768.Idx → F .f32) (idx : S64.Idx → BitVec 32) (h : ∀ x, (idx x).toNat < 6144)
    (old : S64x768.Idx → F .f32) (n : ℕ) (off : Fin 2 → ℕ) (inb inbF) (hoff : off = ![0, 128 * n]) (hn hin) :
    ((r0V).slice (blkRect off inb) (fun _ => rfl)).view.write (Elt F) (colsOf tab (rowsOf idx h) old n)
        (SparseCore.gatherPayload (F := F) (e := .f32) gathers_S6144x128_S64x128 (((fV).slice (tabRect off inbF) (fun _ => rfl)).view.read (Elt F) tab)
          (SparseCore.rows (F := F) ((i0V).view.read (Elt F) idx) hn hin)) Finset.univ
      = colsOf tab (rowsOf idx h) old (n + 1) := by
  have h0 : off 0 = 0 := by rw [hoff]; rfl
  have h1 : off 1 = 128 * n := by rw [hoff]; rfl
  funext p
  by_cases hp : 128 * n ≤ (p 1).val ∧ (p 1).val < 128 * (n + 1)
  · have hj : (p 1).val - 128 * n < 128 := by omega
    let j : S64x128.Idx := ix2 (p 0) (⟨(p 1).val - 128 * n, hj⟩ : Fin 128)
    have e : ((r0V).slice (blkRect off inb) (fun _ => rfl)).view.emb j = p := by
      show (blkRect off inb).emb j = p
      funext a
      match a with
      | 0 => exact Fin.ext (by rw [Rect.emb_apply]; show off 0 + 1 * (p 0).val = _; omega)
      | 1 => exact Fin.ext (by rw [Rect.emb_apply]; show off 1 + 1 * ((p 1).val - 128 * n) = _; omega)
    conv_lhs => rw [← e, View.write_emb_of_mem _ _ (Finset.mem_univ j)]
    show tab ((tabRect off inbF).emb (gathers_S6144x128_S64x128.idx _ j)) = _
    unfold colsOf
    rw [if_pos hp.2]
    congr 1
    exact block_src idx h off inbF h0 h1 p hj hp.1 hn hin
  · rw [View.write_of_not_mem]
    · unfold colsOf
      by_cases hq : (p 1).val < 128 * n
      · rw [if_pos hq, if_pos (by omega)]
      · rw [if_neg hq, if_neg (by omega)]
    · intro hm
      obtain ⟨j, -, e⟩ := Finset.mem_map.mp hm
      have e : (blkRect off inb).emb j = p := e
      apply hp
      have q1 : (p 1).val = off 1 + 1 * (j 1).val := by rw [← e, Rect.emb_apply]; rfl
      have b1 : (j 1).val < 128 := (j 1).isLt
      omega

/-- What a gather over the block leaves in the second row buffer: one more block of columns. -/
theorem block_write1 (tab : S6144x768.Idx → F .f32) (idx : S64.Idx → BitVec 32) (h : ∀ x, (idx x).toNat < 6144)
    (old : S64x768.Idx → F .f32) (n : ℕ) (off : Fin 2 → ℕ) (inb inbF) (hoff : off = ![0, 128 * n]) (hn hin) :
    ((r1V).slice (blkRect off inb) (fun _ => rfl)).view.write (Elt F) (colsOf tab (rowsOf idx h) old n)
        (SparseCore.gatherPayload (F := F) (e := .f32) gathers_S6144x128_S64x128 (((fV).slice (tabRect off inbF) (fun _ => rfl)).view.read (Elt F) tab)
          (SparseCore.rows (F := F) ((i1V).view.read (Elt F) idx) hn hin)) Finset.univ
      = colsOf tab (rowsOf idx h) old (n + 1) := by
  have h0 : off 0 = 0 := by rw [hoff]; rfl
  have h1 : off 1 = 128 * n := by rw [hoff]; rfl
  funext p
  by_cases hp : 128 * n ≤ (p 1).val ∧ (p 1).val < 128 * (n + 1)
  · have hj : (p 1).val - 128 * n < 128 := by omega
    let j : S64x128.Idx := ix2 (p 0) (⟨(p 1).val - 128 * n, hj⟩ : Fin 128)
    have e : ((r1V).slice (blkRect off inb) (fun _ => rfl)).view.emb j = p := by
      show (blkRect off inb).emb j = p
      funext a
      match a with
      | 0 => exact Fin.ext (by rw [Rect.emb_apply]; show off 0 + 1 * (p 0).val = _; omega)
      | 1 => exact Fin.ext (by rw [Rect.emb_apply]; show off 1 + 1 * ((p 1).val - 128 * n) = _; omega)
    conv_lhs => rw [← e, View.write_emb_of_mem _ _ (Finset.mem_univ j)]
    show tab ((tabRect off inbF).emb (gathers_S6144x128_S64x128.idx _ j)) = _
    unfold colsOf
    rw [if_pos hp.2]
    congr 1
    exact block_src idx h off inbF h0 h1 p hj hp.1 hn hin
  · rw [View.write_of_not_mem]
    · unfold colsOf
      by_cases hq : (p 1).val < 128 * n
      · rw [if_pos hq, if_pos (by omega)]
      · rw [if_neg hq, if_neg (by omega)]
    · intro hm
      obtain ⟨j, -, e⟩ := Finset.mem_map.mp hm
      have e : (blkRect off inb).emb j = p := e
      apply hp
      have q1 : (p 1).val = off 1 + 1 * (j 1).val := by rw [← e, Rect.emb_apply]; rfl
      have b1 : (j 1).val < 128 := (j 1).isLt
      omega

variable (d : Dev nD) (L : grid0.Coords)

omit [FloatOps F] in
theorem credit0 (off : Fin 2 → ℕ) (inb) (h : S6144x128.Gathers 0 S64x128) :
    ∑ j, (((r0V).slice (blkRect off inb) (fun _ => rfl)).slice (S64x128.rowRect h.axis' j) (S64x128.stride_rowRect h.axis' j)).view.dmaCredit
      = ((r0V).slice (blkRect off inb) (fun _ => rfl)).view.dmaCredit := by
  simp only [← View.dmaCredit_ref]
  show (∑ _j : Fin 64, (cc0_scratch2 : Ref sig .scVector).dmaCredit (S64x128.rowShape h.axis') .f32) = (cc0_scratch2 : Ref sig .scVector).dmaCredit S64x128 .f32
  revert h; decide

/-- The first row buffer, its block put back. -/
theorem block_back0 (tab : S6144x768.Idx → F .f32) (idx : S64.Idx → BitVec 32) (h : ∀ x, (idx x).toNat < 6144)
    (old : S64x768.Idx → F .f32) (n : ℕ) (off : Fin 2 → ℕ) (inb inbF) (hoff : off = ![0, 128 * n]) (hn hin) :
    iprop((((r0V).slice (blkRect off inb) (fun _ => rfl)).view.loc (V d (cOf L) (jOf L))
          ↦[((r0V).slice (blkRect off inb) (fun _ => rfl)).view.set]{fullShare}
            (((r0V).slice (blkRect off inb) (fun _ => rfl)).view.write (Elt F) (colsOf tab (rowsOf idx h) old n)
        (SparseCore.gatherPayload (F := F) (e := .f32) gathers_S6144x128_S64x128 (((fV).slice (tabRect off inbF) (fun _ => rfl)).view.read (Elt F) tab)
          (SparseCore.rows (F := F) ((i0V).view.read (Elt F) idx) hn hin)) Finset.univ))
        ∗ ((r0V).view.loc (V d (cOf L) (jOf L)) ↦[Finset.univ \ ((r0V).slice (blkRect off inb) (fun _ => rfl)).view.set]{fullShare} colsOf tab (rowsOf idx h) old n))
      ⊢ (p0 d L (colsOf tab (rowsOf idx h) old (n + 1)) : sProp 𝕄) := by
  have e := block_write0 tab idx h old n off inb inbF hoff hn hin
  rw [e]
  refine .trans (sep_mono_right (Entails.of_eq (pointsTo_congr fun p hp => ?_))) (pointsTo_split_subset (Finset.subset_univ _)).2
  rw [← e, View.write_of_not_mem]
  exact (Finset.mem_sdiff.mp hp).2

omit [FloatOps F] in
theorem credit1 (off : Fin 2 → ℕ) (inb) (h : S6144x128.Gathers 0 S64x128) :
    ∑ j, (((r1V).slice (blkRect off inb) (fun _ => rfl)).slice (S64x128.rowRect h.axis' j) (S64x128.stride_rowRect h.axis' j)).view.dmaCredit
      = ((r1V).slice (blkRect off inb) (fun _ => rfl)).view.dmaCredit := by
  simp only [← View.dmaCredit_ref]
  show (∑ _j : Fin 64, (cc0_scratch3 : Ref sig .scVector).dmaCredit (S64x128.rowShape h.axis') .f32) = (cc0_scratch3 : Ref sig .scVector).dmaCredit S64x128 .f32
  revert h; decide

/-- The second row buffer, its block put back. -/
theorem block_back1 (tab : S6144x768.Idx → F .f32) (idx : S64.Idx → BitVec 32) (h : ∀ x, (idx x).toNat < 6144)
    (old : S64x768.Idx → F .f32) (n : ℕ) (off : Fin 2 → ℕ) (inb inbF) (hoff : off = ![0, 128 * n]) (hn hin) :
    iprop((((r1V).slice (blkRect off inb) (fun _ => rfl)).view.loc (V d (cOf L) (jOf L))
          ↦[((r1V).slice (blkRect off inb) (fun _ => rfl)).view.set]{fullShare}
            (((r1V).slice (blkRect off inb) (fun _ => rfl)).view.write (Elt F) (colsOf tab (rowsOf idx h) old n)
        (SparseCore.gatherPayload (F := F) (e := .f32) gathers_S6144x128_S64x128 (((fV).slice (tabRect off inbF) (fun _ => rfl)).view.read (Elt F) tab)
          (SparseCore.rows (F := F) ((i1V).view.read (Elt F) idx) hn hin)) Finset.univ))
        ∗ ((r1V).view.loc (V d (cOf L) (jOf L)) ↦[Finset.univ \ ((r1V).slice (blkRect off inb) (fun _ => rfl)).view.set]{fullShare} colsOf tab (rowsOf idx h) old n))
      ⊢ (p1 d L (colsOf tab (rowsOf idx h) old (n + 1)) : sProp 𝕄) := by
  have e := block_write1 tab idx h old n off inb inbF hoff hn hin
  rw [e]
  refine .trans (sep_mono_right (Entails.of_eq (pointsTo_congr fun p hp => ?_))) (pointsTo_split_subset (Finset.subset_univ _)).2
  rw [← e, View.write_of_not_mem]
  exact (Finset.mem_sdiff.mp hp).2

/-- The tile's lists of slot numbers, each at its contents. -/
abbrev l0 (f : S64.Idx → BitVec 32) : sProp 𝕄 := (i0V).view.loc (V d (cOf L) (jOf L)) ↦{fullShare} f
abbrev l1 (f : S64.Idx → BitVec 32) : sProp 𝕄 := (i1V).view.loc (V d (cOf L) (jOf L)) ↦{fullShare} f
/-- A share of the whole table, as the tile addresses it. -/
abbrev tb (q : PosShare TreeShare) (tab : S6144x768.Idx → F .f32) : sProp 𝕄 := (fV).view.loc (V d (cOf L) (jOf L)) ↦{q} tab
abbrev s0cell : GSem nD τ sig := (V d (cOf L) (jOf L), .dma cc0_scratch6.sem)
abbrev s1cell : GSem nD τ sig := (V d (cOf L) (jOf L), .dma cc0_scratch7.sem)

/-- The state between the blocks: `n` blocks of columns gathered into each row buffer. -/
abbrev gst (qa qb : PosShare TreeShare) (tab : S6144x768.Idx → F .f32) (ia ib : S64.Idx → BitVec 32) (ha : ∀ x, (ia x).toNat < 6144) (hb : ∀ x, (ib x).toNat < 6144)
    (A B : S64x768.Idx → F .f32) (O : CellTallies nD τ sig (HIx 1)) (W : Waits sig (HIx 1)) (n : ℕ) : sProp 𝕄 :=
  iprop(tb d L qa tab ∗ tb d L qb tab ∗ p0 d L (colsOf tab (rowsOf ia ha) A n) ∗ p1 d L (colsOf tab (rowsOf ib hb) B n) ∗ l0 d L ia ∗ l1 d L ib
    ∗ semVal (s0cell d L) 0 ∗ semVal (s1cell d L) 0 ∗ ∃ W', ⌜∀ p ∈ W', p ∈ W ∨ p.2 = none⌝ ∗ owes (V d (cOf L) (jOf L)) O W')

set_option maxHeartbeats 1000000 in
/-- One block at the head of a program. -/
theorem block_step {α : Type} (qa qb : PosShare TreeShare) (tab : S6144x768.Idx → F .f32) (ia ib : S64.Idx → BitVec 32) (ha : ∀ x, (ia x).toNat < 6144) (hb : ∀ x, (ib x).toNat < 6144)
    (A B : S64x768.Idx → F .f32) (O : CellTallies nD τ sig (HIx 1)) (W : Waits sig (HIx 1)) (n : ℕ)
    (off : Fin 2 → ℕ) {inb inbF} (hoff : off = ![0, 128 * n])
    {hp : (V d (cOf L) (jOf L)).2.kind = .scVector} {hn hsrc he hsp hr hw0 hw1 hw2 hw3}
    {k : PUnit → Prog (TpuEff nD τ sig (Elt F) Λ₀ (.scVector (cOf L) (jOf L))) α} {Q : α → sProp 𝕄} :
    iprop(Transfers.MayWaits (V d (cOf L) (jOf L)) (default : HIx 1) O ∗ gst d L qa qb tab ia ib ha hb A B O W n)
      ⊢ iprop((gst d L qa qb tab ia ib ha hb A B O W (n + 1) -∗ wp frame (wpE (defs₀ (F := F)) 𝒱₀ (V d (cOf L) (jOf L)) none) Set.univ (k ⟨⟩) Q)
        -∗ wp frame (wpE (defs₀ (F := F)) 𝒱₀ (V d (cOf L) (jOf L)) none) Set.univ
          (do
            SparseCore.enqueueIndirectGather hp ((fV).slice (tabRect off inbF) (fun _ => rfl)) ((r0V).slice (blkRect off inb) (fun _ => rfl)) gathers_S6144x128_S64x128 i0V hn cc0_scratch6.sem hsrc he hsp hr
            SparseCore.enqueueIndirectGather hp ((fV).slice (tabRect off inbF) (fun _ => rfl)) ((r1V).slice (blkRect off inb) (fun _ => rfl)) gathers_S6144x128_S64x128 i1V hn cc0_scratch7.sem hsrc he hsp hr
            SparseCore.waitIndirectGather cc0_scratch6.sem ((fV).slice (tabRect off inbF) (fun _ => rfl)) ((r0V).slice (blkRect off inb) (fun _ => rfl)) hw0 hw1
            let u ← SparseCore.waitIndirectGather cc0_scratch7.sem ((fV).slice (tabRect off inbF) (fun _ => rfl)) ((r1V).slice (blkRect off inb) (fun _ => rfl)) hw2 hw3
            k u) Q) := by
  iintro ⟨#Hmw, Hta, Htb, H0, H1, Hl0, Hl1, Hs0, Hs1, %W', %hW', HO⟩ Hk
  have ha' : ∀ x, ((i0V).view.read (Elt F) ia x).toNat < S6144x128.size gathers_S6144x128_S64x128.axis := ha
  have hb' : ∀ x, ((i1V).view.read (Elt F) ib x).toNat < S6144x128.size gathers_S6144x128_S64x128.axis := hb
  have hl0 : (i0V).view.set = Finset.univ := View.set_whole _
  have hl1 : (i1V).view.set = Finset.univ := View.set_whole _
  ihave Hta := (pointsTo_split_subset (Finset.subset_univ ((fV).slice (tabRect off inbF) (fun _ => rfl)).view.set)).1 $$ Hta
  icases Hta with ⟨Hta, Htar⟩
  ihave Htb := (pointsTo_split_subset (Finset.subset_univ ((fV).slice (tabRect off inbF) (fun _ => rfl)).view.set)).1 $$ Htb
  icases Htb with ⟨Htb, Htbr⟩
  ihave H0 := (pointsTo_split_subset (Finset.subset_univ ((r0V).slice (blkRect off inb) (fun _ => rfl)).view.set)).1 $$ H0
  icases H0 with ⟨H0, H0r⟩
  ihave H1 := (pointsTo_split_subset (Finset.subset_univ ((r1V).slice (blkRect off inb) (fun _ => rfl)).view.set)).1 $$ H1
  icases H1 with ⟨H1, H1r⟩
  ihave Hl0 := (Entails.of_eq (show (l0 d L ia : sProp 𝕄) = ((i0V).view.loc (V d (cOf L) (jOf L)) ↦[(i0V).view.set]{fullShare} ia) by rw [hl0])) $$ Hl0
  ihave Hl1 := (Entails.of_eq (show (l1 d L ib : sProp 𝕄) = ((i1V).view.loc (V d (cOf L) (jOf L)) ↦[(i1V).view.set]{fullShare} ib) by rw [hl1])) $$ Hl1
  iapply (SparseCore.wp_indirectGatherLocal countersEmb 𝒱₀ (V d (cOf L) (jOf L)) none (hg := gathers_S6144x128_S64x128) (offs := i0V) (fo := ia) (default : HIx 1)
      ((r0V).slice (blkRect off inb) (fun _ => rfl)).view.dmaCredit (credit0 off inb _) (by decide) ha') $$ [Hta H0 Hl0 Hs0]
  · isplitl [Hta]; · iexact Hta
    isplitl [H0]; · iexact H0
    isplitl [Hl0]; · iexact Hl0
    iexact Hs0
  iintro Hf0
  iapply (SparseCore.wp_indirectGatherLocal countersEmb 𝒱₀ (V d (cOf L) (jOf L)) none (hg := gathers_S6144x128_S64x128) (offs := i1V) (fo := ib) (default : HIx 1)
      ((r1V).slice (blkRect off inb) (fun _ => rfl)).view.dmaCredit (credit1 off inb _) (by decide) hb') $$ [Htb H1 Hl1 Hs1]
  · isplitl [Htb]; · iexact Htb
    isplitl [H1]; · iexact H1
    isplitl [Hl1]; · iexact Hl1
    iexact Hs1
  iintro Hf1
  iapply (Transfers.wp_waitLocalO countersEmb 𝒱₀ (V d (cOf L) (jOf L)) none (default : HIx 1) (rfl : ((r0V).slice (blkRect off inb) (fun _ => rfl)).view.dmaCredit = _)) $$ [Hf0 HO]
  · isplitl [Hf0]; · iexact Hf0
    isplitl [HO]; · iexact HO
    iapply (Transfers.MayWaits.elim (SemLoc.dma cc0_scratch6.sem)) $$ Hmw
  iintro ⟨⟨H0, Hta, Hl0⟩, Hs0, HO⟩
  iapply (Transfers.wp_waitLocalO countersEmb 𝒱₀ (V d (cOf L) (jOf L)) none (default : HIx 1) (rfl : ((r1V).slice (blkRect off inb) (fun _ => rfl)).view.dmaCredit = _)) $$ [Hf1 HO]
  · isplitl [Hf1]; · iexact Hf1
    isplitl [HO]; · iexact HO
    iapply (Transfers.MayWaits.elim (SemLoc.dma cc0_scratch7.sem)) $$ Hmw
  iintro ⟨⟨H1, Htb, Hl1⟩, Hs1, HO⟩
  iapply Hk
  isplitl [Hta Htar]
  · iapply (pointsTo_split_subset (Finset.subset_univ ((fV).slice (tabRect off inbF) (fun _ => rfl)).view.set)).2
    isplitl [Hta]; · iexact Hta
    iexact Htar
  isplitl [Htb Htbr]
  · iapply (pointsTo_split_subset (Finset.subset_univ ((fV).slice (tabRect off inbF) (fun _ => rfl)).view.set)).2
    isplitl [Htb]; · iexact Htb
    iexact Htbr
  isplitl [H0 H0r]
  · iapply (block_back0 d L tab ia ha A n off inb inbF hoff _ _)
    isplitl [H0]; · iexact H0
    iexact H0r
  isplitl [H1 H1r]
  · iapply (block_back1 d L tab ib hb B n off inb inbF hoff _ _)
    isplitl [H1]; · iexact H1
    iexact H1r
  isplitl [Hl0]
  · iapply (Entails.of_eq (show ((i0V).view.loc (V d (cOf L) (jOf L)) ↦[(i0V).view.set]{fullShare} ia) = (l0 d L ia : sProp 𝕄) by rw [hl0])) $$ Hl0
  isplitl [Hl1]
  · iapply (Entails.of_eq (show ((i1V).view.loc (V d (cOf L) (jOf L)) ↦[(i1V).view.set]{fullShare} ib) = (l1 d L ib : sProp 𝕄) by rw [hl1])) $$ Hl1
  isplitl [Hs0]; · iexact Hs0
  isplitl [Hs1]; · iexact Hs1
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact hW' p hp

end Cert.Proof.Combine

end
-- ==== Proof.Combine.Tile.lean ====
/-
  What one tile reads and leaves: its list of slot numbers and weights out of the rearranged arrays, its block of rows of
  the result, and the result as one function of the arrays' contents.
-/
module

public import proofs.«01_k».proof.Proof.Combine.Row
public import proofs.«01_k».proof.Proof.Combine.Gather

@[expose] public section

noncomputable section

namespace Cert.Proof.Combine

open Cert.KernelIdeal Cert.KernelIdeal.Gen

open Idealize.ShloMosaic Idealize.ShloMosaic.ValueIdx
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MM F

variable (d : Dev nD) (L : grid0.Coords)

/-- The tile's number among the 32. -/
def wOf (L : grid0.Coords) : Fin 32 := ⟨2 * (L 1).val + (L 0).val, by have h0 : (L 0).val < 2 := (L 0).isLt; have h1 : (L 1).val < 16 := (L 1).isLt; omega⟩

omit [FloatOps F] in
/-- A word of the squeezed list lies at the end of the two unit axes. -/
theorem squeeze_idx (h : S64.numel = S1x1x64.numel) (x : S64.Idx) :
    Shape.reshapeEquiv (s := S1x1x64) (s' := S64) h x = ix3 (0 : Fin 1) (0 : Fin 1) (x 0) := by
  refine Shape.reshapeEquiv_eq_of_rowMajor h ?_
  show (S1x1x64.rowMajor (ix3 (0 : Fin 1) (0 : Fin 1) (x 0))).val = (S64.rowMajor x).val
  rw [Shape.rowMajor_val_three, Shape.rowMajor_val_one]
  show ((0 * 1 + 0) * 64 + (x 0).val : ℕ) = (x 0).val
  omega

/-- The fetched part of the first slot numbers, as the task addresses it. -/
abbrev c0Row (L : grid0.Coords) : Memref sig .scVector .hbm S64 .i32 :=
  ((cV3).slice (Rect.unit (s := S32x2x64) (k0_off1 L) S1x1x64.size (k0_off1_inb L)) (fun _ => rfl)).squeeze S64 squeezes_S1x1x64_S64

omit [FloatOps F] in
theorem c0Row_read (f : S32x2x64.Idx → Elt F .i32) : (c0Row L).view.read (Elt F) f = fun x => f (ix3 (wOf L) 0 (x 0)) := by
  funext x
  show f ((Rect.unit (s := S32x2x64) (k0_off1 L) S1x1x64.size (k0_off1_inb L)).emb (Shape.reshapeEquiv squeezes_S1x1x64_S64.numel_eq x)) = _
  rw [squeeze_idx]
  congr 1
  funext a
  match a with
  | 0 => exact Fin.ext ((Rect.emb_apply _ _ _).trans (by show k0_off1 L 0 + 1 * 0 = _; rw [k0_off1_eq]; rfl))
  | 1 => exact Fin.ext ((Rect.emb_apply _ _ _).trans (by show k0_off1 L 1 + 1 * 0 = _; rw [k0_off1_eq]; rfl))
  | 2 => exact Fin.ext ((Rect.emb_apply _ _ _).trans (by show k0_off1 L 2 + 1 * (x 0).val = _; rw [k0_off1_eq]; show 0 + 1 * (x 0).val = (x 0).val; omega))

/-- The fetched part of the second slot numbers, as the task addresses it. -/
abbrev c1Row (L : grid0.Coords) : Memref sig .scVector .hbm S64 .i32 :=
  ((cV3).slice (Rect.unit (s := S32x2x64) (k0_off2 L) S1x1x64.size (k0_off2_inb L)) (fun _ => rfl)).squeeze S64 squeezes_S1x1x64_S64

omit [FloatOps F] in
theorem c1Row_read (f : S32x2x64.Idx → Elt F .i32) : (c1Row L).view.read (Elt F) f = fun x => f (ix3 (wOf L) 1 (x 0)) := by
  funext x
  show f ((Rect.unit (s := S32x2x64) (k0_off2 L) S1x1x64.size (k0_off2_inb L)).emb (Shape.reshapeEquiv squeezes_S1x1x64_S64.numel_eq x)) = _
  rw [squeeze_idx]
  congr 1
  funext a
  match a with
  | 0 => exact Fin.ext ((Rect.emb_apply _ _ _).trans (by show k0_off2 L 0 + 1 * 0 = _; rw [k0_off2_eq]; rfl))
  | 1 => exact Fin.ext ((Rect.emb_apply _ _ _).trans (by show k0_off2 L 1 + 1 * 0 = _; rw [k0_off2_eq]; rfl))
  | 2 => exact Fin.ext ((Rect.emb_apply _ _ _).trans (by show k0_off2 L 2 + 1 * (x 0).val = _; rw [k0_off2_eq]; show 0 + 1 * (x 0).val = (x 0).val; omega))

/-- The fetched part of the first weights, as the task addresses it. -/
abbrev x0Row (L : grid0.Coords) : Memref sig .scVector .hbm S64 .f32 :=
  ((wV3).slice (Rect.unit (s := S32x2x64) (k0_off1 L) S1x1x64.size (k0_off1_inb L)) (fun _ => rfl)).squeeze S64 squeezes_S1x1x64_S64

omit [FloatOps F] in
theorem x0Row_read (f : S32x2x64.Idx → Elt F .f32) : (x0Row L).view.read (Elt F) f = fun x => f (ix3 (wOf L) 0 (x 0)) := by
  funext x
  show f ((Rect.unit (s := S32x2x64) (k0_off1 L) S1x1x64.size (k0_off1_inb L)).emb (Shape.reshapeEquiv squeezes_S1x1x64_S64.numel_eq x)) = _
  rw [squeeze_idx]
  congr 1
  funext a
  match a with
  | 0 => exact Fin.ext ((Rect.emb_apply _ _ _).trans (by show k0_off1 L 0 + 1 * 0 = _; rw [k0_off1_eq]; rfl))
  | 1 => exact Fin.ext ((Rect.emb_apply _ _ _).trans (by show k0_off1 L 1 + 1 * 0 = _; rw [k0_off1_eq]; rfl))
  | 2 => exact Fin.ext ((Rect.emb_apply _ _ _).trans (by show k0_off1 L 2 + 1 * (x 0).val = _; rw [k0_off1_eq]; show 0 + 1 * (x 0).val = (x 0).val; omega))

/-- The fetched part of the second weights, as the task addresses it. -/
abbrev x1Row (L : grid0.Coords) : Memref sig .scVector .hbm S64 .f32 :=
  ((wV3).slice (Rect.unit (s := S32x2x64) (k0_off2 L) S1x1x64.size (k0_off2_inb L)) (fun _ => rfl)).squeeze S64 squeezes_S1x1x64_S64

omit [FloatOps F] in
theorem x1Row_read (f : S32x2x64.Idx → Elt F .f32) : (x1Row L).view.read (Elt F) f = fun x => f (ix3 (wOf L) 1 (x 0)) := by
  funext x
  show f ((Rect.unit (s := S32x2x64) (k0_off2 L) S1x1x64.size (k0_off2_inb L)).emb (Shape.reshapeEquiv squeezes_S1x1x64_S64.numel_eq x)) = _
  rw [squeeze_idx]
  congr 1
  funext a
  match a with
  | 0 => exact Fin.ext ((Rect.emb_apply _ _ _).trans (by show k0_off2 L 0 + 1 * 0 = _; rw [k0_off2_eq]; rfl))
  | 1 => exact Fin.ext ((Rect.emb_apply _ _ _).trans (by show k0_off2 L 1 + 1 * 0 = _; rw [k0_off2_eq]; rfl))
  | 2 => exact Fin.ext ((Rect.emb_apply _ _ _).trans (by show k0_off2 L 2 + 1 * (x 0).val = _; rw [k0_off2_eq]; show 0 + 1 * (x 0).val = (x 0).val; omega))

/-- The rows of the result the tile writes, as it addresses them. -/
abbrev oRow (L : grid0.Coords) : Memref sig .scVector .hbm S64x768 .f32 :=
  (oV).slice (Rect.unit (s := S2048x768) (k0_off51 L) S64x768.size (k0_off51_inb L)) (fun _ => rfl)

/-- One element of the result: word `k` of tile `w`'s lists, column `j`. -/
def combinedAt (tab : S6144x768.Idx → F .f32) (c3 : S32x2x64.Idx → BitVec 32) (w3 : S32x2x64.Idx → F .f32) (hc : ∀ x, (c3 x).toNat < 6144)
    (w : Fin 32) (k : Fin 64) (j : Fin 768) : F .f32 :=
  mix (w3 (ix3 w (0 : Fin 2) k)) (w3 (ix3 w (1 : Fin 2) k)) (tab (ix2 ⟨(c3 (ix3 w (0 : Fin 2) k)).toNat, hc _⟩ j)) (tab (ix2 ⟨(c3 (ix3 w (1 : Fin 2) k)).toNat, hc _⟩ j))

/-- What the call leaves in the result: row `64 * w + k` is the two table rows that words `k` of the lists of tile `w`
    name, weighted by the words `k` of its weights and added. -/
def combined (tab : S6144x768.Idx → F .f32) (c3 : S32x2x64.Idx → BitVec 32) (w3 : S32x2x64.Idx → F .f32) (hc : ∀ x, (c3 x).toNat < 6144) :
    S2048x768.Idx → F .f32 := fun p =>
  have hp : (p 0).val < 2048 := (p 0).isLt
  combinedAt tab c3 w3 hc ⟨(p 0).val / 64, by omega⟩ ⟨(p 0).val % 64, by omega⟩ (p 1)

omit [FloatOps F] in
theorem oRow_emb0 (x : S64x768.Idx) : ((oRow L).view.emb x 0).val = 64 * (wOf L).val + (x 0).val := by
  show ((Rect.unit (s := S2048x768) (k0_off51 L) S64x768.size (k0_off51_inb L)).emb x 0).val = _
  rw [Rect.emb_apply]
  show k0_off51 L 0 + 1 * (x 0).val = _
  rw [k0_off51_eq]
  show 128 * (L 1).val + 64 * (L 0).val + 1 * (x 0).val = 64 * (2 * (L 1).val + (L 0).val) + (x 0).val
  omega
omit [FloatOps F] in
theorem oRow_emb1 (x : S64x768.Idx) : ((oRow L).view.emb x 1).val = (x 1).val := by
  show ((Rect.unit (s := S2048x768) (k0_off51 L) S64x768.size (k0_off51_inb L)).emb x 1).val = _
  rw [Rect.emb_apply]
  show k0_off51 L 1 + 1 * (x 1).val = _
  rw [k0_off51_eq]
  show 0 + 1 * (x 1).val = (x 1).val
  omega

omit [FloatOps F] in
/-- A tile's rows of the result are the 64 of its number. -/
theorem mem_oRow (p : S2048x768.Idx) : p ∈ (oRow L).view.set ↔ (p 0).val / 64 = (wOf L).val := by
  have hp0 : (p 0).val < 2048 := (p 0).isLt
  constructor
  · intro h
    obtain ⟨x, -, e⟩ := Finset.mem_map.mp h
    have e0 := oRow_emb0 L x
    rw [e] at e0
    have hx : (x 0).val < 64 := (x 0).isLt
    omega
  · intro h
    refine Finset.mem_map.mpr ⟨ix2 (⟨(p 0).val % 64, by omega⟩ : Fin 64) (p 1), Finset.mem_univ _, ?_⟩
    funext a
    match a with
    | 0 =>
      refine Fin.ext ((oRow_emb0 L _).trans ?_)
      show 64 * (wOf L).val + (p 0).val % 64 = (p 0).val
      omega
    | 1 => exact Fin.ext ((oRow_emb1 L _).trans rfl)

/-- The row block the tile writes out is its rows of the result. -/
theorem combined_rows (tab : S6144x768.Idx → F .f32) (c3 : S32x2x64.Idx → BitVec 32) (w3 : S32x2x64.Idx → F .f32) (hc : ∀ x, (c3 x).toNat < 6144)
    (A B : S64x768.Idx → F .f32) (old : S2048x768.Idx → F .f32) (p : S2048x768.Idx) (hp : p ∈ (oRow L).view.set) :
    (oRow L).view.write (Elt F) old
      (rowsMix (fun x => w3 (ix3 (wOf L) 0 (x 0))) (fun x => w3 (ix3 (wOf L) 1 (x 0)))
        (colsOf tab (rowsOf (fun x => c3 (ix3 (wOf L) 0 (x 0))) (fun _ => hc _)) A 6)
        (colsOf tab (rowsOf (fun x => c3 (ix3 (wOf L) 1 (x 0))) (fun _ => hc _)) B 6) 64) Finset.univ p
      = combined tab c3 w3 hc p := by
  obtain ⟨x, -, e⟩ := Finset.mem_map.mp hp
  have e0 := oRow_emb0 L x
  have e1 := oRow_emb1 L x
  rw [e] at e0 e1
  have hx : (x 0).val < 64 := (x 0).isLt
  conv_lhs => rw [← e, View.write_emb_of_mem _ _ (Finset.mem_univ x)]
  show rowsMix (fun x => w3 (ix3 (wOf L) 0 (x 0))) (fun x => w3 (ix3 (wOf L) 1 (x 0)))
        (colsOf tab (rowsOf (fun x => c3 (ix3 (wOf L) 0 (x 0))) (fun _ => hc _)) A 6)
        (colsOf tab (rowsOf (fun x => c3 (ix3 (wOf L) 1 (x 0))) (fun _ => hc _)) B 6) 64 x = _
  rw [colsOf_six, colsOf_six]
  unfold rowsMix combined
  rw [if_pos hx]
  have ew : (⟨(p 0).val / 64, by omega⟩ : Fin 32) = wOf L := Fin.ext (by show (p 0).val / 64 = _; omega)
  have ek : (⟨(p 0).val % 64, by omega⟩ : Fin 64) = x 0 := Fin.ext (by show (p 0).val % 64 = _; omega)
  have e1' : (p 1 : Fin 768) = x 1 := Fin.ext e1
  exact (congr (congr (congrArg (combinedAt tab c3 w3 hc) ew) ek) e1').symm

/-! ## The tile's own semaphores and buffers -/

abbrev cellOf (d : Dev nD) (L : grid0.Coords) (s : DmaSem sig) : GSem nD τ sig := (V d (cOf L) (jOf L), .dma s)

omit [FloatOps F] in
theorem cell_ne {s s' : DmaSem sig} (h : s ≠ s') : cellOf d L s ≠ cellOf d L s' := fun e => h (by
  have e2 := congrArg Prod.snd e
  injection e2)

/-- The tile's seven transfer semaphores are among its own, each at zero, beside the rest. -/
theorem ownSems0_tile :
    (ownSems0 (V d (cOf L) (jOf L)) : sProp 𝕄)
      = iprop(semVal (cellOf d L cc0_scratch6.sem) 0 ∗ semVal (cellOf d L cc0_scratch7.sem) 0 ∗ semVal (cellOf d L cc0_scoped0.sem) 0 ∗ semVal (cellOf d L cc0_scoped1.sem) 0 ∗ semVal (cellOf d L cc0_scoped2.sem) 0 ∗ semVal (cellOf d L cc0_scoped3.sem) 0 ∗ semVal (cellOf d L cc0_scoped4.sem) 0
          ∗ bigSep ((((((((ownCells (V d (cOf L) (jOf L))).erase (cellOf d L cc0_scratch6.sem)).erase (cellOf d L cc0_scratch7.sem)).erase (cellOf d L cc0_scoped0.sem)).erase (cellOf d L cc0_scoped1.sem)).erase (cellOf d L cc0_scoped2.sem)).erase (cellOf d L cc0_scoped3.sem)).erase (cellOf d L cc0_scoped4.sem)) fun g => semVal g 0) := by
  unfold SparseCore.Cfg.ownSems0
  rw [SparseCore.bigSep_erase' ((mem_ownCells (g := cellOf d L cc0_scratch6.sem)).mpr ⟨rfl, by show (SemLoc.dma cc0_scratch6.sem : SemLoc sig).isScoped .scVector = true; decide⟩),
    SparseCore.bigSep_erase' (Finset.mem_erase.mpr ⟨cell_ne d L (by decide), (mem_ownCells (g := cellOf d L cc0_scratch7.sem)).mpr ⟨rfl, by show (SemLoc.dma cc0_scratch7.sem : SemLoc sig).isScoped .scVector = true; decide⟩⟩),
    SparseCore.bigSep_erase' (Finset.mem_erase.mpr ⟨cell_ne d L (by decide), Finset.mem_erase.mpr ⟨cell_ne d L (by decide), (mem_ownCells (g := cellOf d L cc0_scoped0.sem)).mpr ⟨rfl, by show (SemLoc.dma cc0_scoped0.sem : SemLoc sig).isScoped .scVector = true; decide⟩⟩⟩),
    SparseCore.bigSep_erase' (Finset.mem_erase.mpr ⟨cell_ne d L (by decide), Finset.mem_erase.mpr ⟨cell_ne d L (by decide), Finset.mem_erase.mpr ⟨cell_ne d L (by decide), (mem_ownCells (g := cellOf d L cc0_scoped1.sem)).mpr ⟨rfl, by show (SemLoc.dma cc0_scoped1.sem : SemLoc sig).isScoped .scVector = true; decide⟩⟩⟩⟩),
    SparseCore.bigSep_erase' (Finset.mem_erase.mpr ⟨cell_ne d L (by decide), Finset.mem_erase.mpr ⟨cell_ne d L (by decide), Finset.mem_erase.mpr ⟨cell_ne d L (by decide), Finset.mem_erase.mpr ⟨cell_ne d L (by decide), (mem_ownCells (g := cellOf d L cc0_scoped2.sem)).mpr ⟨rfl, by show (SemLoc.dma cc0_scoped2.sem : SemLoc sig).isScoped .scVector = true; decide⟩⟩⟩⟩⟩),
    SparseCore.bigSep_erase' (Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), (mem_ownCells (g := cellOf d L cc0_scoped3.sem)).mpr ⟨rfl, by show (SemLoc.dma cc0_scoped3.sem : SemLoc sig).isScoped .scVector = true; decide⟩⟩⟩⟩⟩⟩),
    SparseCore.bigSep_erase' (Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), (mem_ownCells (g := cellOf d L cc0_scoped4.sem)).mpr ⟨rfl, by show (SemLoc.dma cc0_scoped4.sem : SemLoc sig).isScoped .scVector = true; decide⟩⟩⟩⟩⟩⟩⟩)]

omit [FloatOps F] in
theorem buf_ne {b b' : Ref sig .scVector} (h : b ≠ b') : (Proc.scVector (cOf L) (jOf L)).devRef b ≠ (Proc.scVector (cOf L) (jOf L)).devRef b' :=
  fun e => absurd (Proc.devRef_injective _ e) h

/-- The tile's six scratch buffers are among its own, each at some contents, beside the rest. -/
theorem ownBufs_tile :
    (ownBufs (V d (cOf L) (jOf L)) : sProp 𝕄)
      = iprop((∃ f, (V d (cOf L) (jOf L)).loc cc0_scratch0 ↦{fullShare} f) ∗ (∃ f, (V d (cOf L) (jOf L)).loc cc0_scratch1 ↦{fullShare} f) ∗ (∃ f, (V d (cOf L) (jOf L)).loc cc0_scratch2 ↦{fullShare} f) ∗ (∃ f, (V d (cOf L) (jOf L)).loc cc0_scratch3 ↦{fullShare} f) ∗ (∃ f, (V d (cOf L) (jOf L)).loc cc0_scratch4 ↦{fullShare} f) ∗ (∃ f, (V d (cOf L) (jOf L)).loc cc0_scratch5 ↦{fullShare} f)
          ∗ bigSep (((((((ownRefs (τ := τ) (.scVector (cOf L) (jOf L))).erase ((Proc.scVector (cOf L) (jOf L)).devRef cc0_scratch0)).erase ((Proc.scVector (cOf L) (jOf L)).devRef cc0_scratch1)).erase ((Proc.scVector (cOf L) (jOf L)).devRef cc0_scratch2)).erase ((Proc.scVector (cOf L) (jOf L)).devRef cc0_scratch3)).erase ((Proc.scVector (cOf L) (jOf L)).devRef cc0_scratch4)).erase ((Proc.scVector (cOf L) (jOf L)).devRef cc0_scratch5))
              fun b => iprop(∃ f, ((d, b) : Loc nD τ sig) ↦{fullShare} f)) := by
  unfold SparseCore.Cfg.ownBufs
  refine (SparseCore.bigSep_erase' (SparseCore.Cfg.mem_ownRefs_of_owner (p := Proc.scVector (cOf L) (jOf L)) (b := (Proc.scVector (cOf L) (jOf L)).devRef cc0_scratch0) rfl)).trans ?_
  rw [SparseCore.bigSep_erase' (Finset.mem_erase.mpr ⟨buf_ne L (show (_ : Ref sig .scVector) ≠ _ by decide), SparseCore.Cfg.mem_ownRefs_of_owner (p := Proc.scVector (cOf L) (jOf L)) (b := (Proc.scVector (cOf L) (jOf L)).devRef cc0_scratch1) rfl⟩),
    SparseCore.bigSep_erase' (Finset.mem_erase.mpr ⟨buf_ne L (show (_ : Ref sig .scVector) ≠ _ by decide), Finset.mem_erase.mpr ⟨buf_ne L (show (_ : Ref sig .scVector) ≠ _ by decide), SparseCore.Cfg.mem_ownRefs_of_owner (p := Proc.scVector (cOf L) (jOf L)) (b := (Proc.scVector (cOf L) (jOf L)).devRef cc0_scratch2) rfl⟩⟩),
    SparseCore.bigSep_erase' (Finset.mem_erase.mpr ⟨buf_ne L (show (_ : Ref sig .scVector) ≠ _ by decide), Finset.mem_erase.mpr ⟨buf_ne L (show (_ : Ref sig .scVector) ≠ _ by decide), Finset.mem_erase.mpr ⟨buf_ne L (show (_ : Ref sig .scVector) ≠ _ by decide), SparseCore.Cfg.mem_ownRefs_of_owner (p := Proc.scVector (cOf L) (jOf L)) (b := (Proc.scVector (cOf L) (jOf L)).devRef cc0_scratch3) rfl⟩⟩⟩),
    SparseCore.bigSep_erase' (Finset.mem_erase.mpr ⟨buf_ne L (show (_ : Ref sig .scVector) ≠ _ by decide), Finset.mem_erase.mpr ⟨buf_ne L (show (_ : Ref sig .scVector) ≠ _ by decide), Finset.mem_erase.mpr ⟨buf_ne L (show (_ : Ref sig .scVector) ≠ _ by decide), Finset.mem_erase.mpr ⟨buf_ne L (show (_ : Ref sig .scVector) ≠ _ by decide), SparseCore.Cfg.mem_ownRefs_of_owner (p := Proc.scVector (cOf L) (jOf L)) (b := (Proc.scVector (cOf L) (jOf L)).devRef cc0_scratch4) rfl⟩⟩⟩⟩),
    SparseCore.bigSep_erase' (Finset.mem_erase.mpr ⟨buf_ne L (show (_ : Ref sig .scVector) ≠ _ by decide), Finset.mem_erase.mpr ⟨buf_ne L (show (_ : Ref sig .scVector) ≠ _ by decide), Finset.mem_erase.mpr ⟨buf_ne L (show (_ : Ref sig .scVector) ≠ _ by decide), Finset.mem_erase.mpr ⟨buf_ne L (show (_ : Ref sig .scVector) ≠ _ by decide), Finset.mem_erase.mpr ⟨buf_ne L (show (_ : Ref sig .scVector) ≠ _ by decide), SparseCore.Cfg.mem_ownRefs_of_owner (p := Proc.scVector (cOf L) (jOf L)) (b := (Proc.scVector (cOf L) (jOf L)).devRef cc0_scratch5) rfl⟩⟩⟩⟩⟩)]

end Cert.Proof.Combine

end
-- ==== Proof.Combine.Body.lean ====
/-
  One tile's whole task: the four fetches, the six blocks of gathers, the 64 rows mixed, and the write-out, with the
  contents carried through.
-/
module

public import proofs.«01_k».proof.Proof.Combine.Tile

@[expose] public section

noncomputable section

namespace Cert.Proof.Combine

open Cert.KernelIdeal Cert.KernelIdeal.Gen

open Idealize.ShloMosaic Idealize.ShloMosaic.ValueIdx
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MM F

variable (d : Dev nD) (L : grid0.Coords)

/-- What a tile is lent to read: a share of the table, of the rearranged slot numbers and of the rearranged weights. -/
abbrev lent (d : Dev nD) (q : PosShare TreeShare) (tab : S6144x768.Idx → F .f32) (c3 : S32x2x64.Idx → BitVec 32) (w3 : S32x2x64.Idx → F .f32) : sProp 𝕄 :=
  iprop((fLoc d ↦{q} tab) ∗ (c3Loc d ↦{q} c3) ∗ (w3Loc d ↦{q} w3))
/-- A tile's rows of the result, at given contents. -/
abbrev outRows (d : Dev nD) (L : grid0.Coords) (o : S2048x768.Idx → F .f32) : sProp 𝕄 := oLoc d ↦[(oRow L).view.set]{fullShare} o

/-- The state between the rows: the first `t` mixed. -/
def mixed (u v : S64.Idx → F .f32) (f g : S64x768.Idx → F .f32) (t : ℕ) (_ : PUnit) : sProp 𝕄 :=
  iprop(p0 d L (rowsMix u v f g t) ∗ p1 d L g ∗ q0 d L u ∗ q1 d L v)

set_option maxHeartbeats 4000000 in
theorem tile_body (hF : (K (F := F)).Facts) (q : PosShare TreeShare) (tab : S6144x768.Idx → F .f32) (c3 : S32x2x64.Idx → BitVec 32) (w3 : S32x2x64.Idx → F .f32)
    (hc : ∀ x, (c3 x).toNat < 6144) (old : S2048x768.Idx → F .f32)
    (O : CellTallies nD τ sig (HIx 1)) (W : Waits sig (HIx 1)) (hO : ∀ g, O g none = 0) :
    iprop(levAts (K (F := F)).L (K (F := F)).lev ∗ emp ∗ (lent d q tab c3 w3 ∗ outRows d L old)
        ∗ scopedBufs (V d (cOf L) (jOf L)) ∗ scopedSems0 (V d (cOf L) (jOf L)) ∗ owes (V d (cOf L) (jOf L)) O W)
      ⊢ wp frame (wpE (defs₀ (F := F)) 𝒱₀ (V d (cOf L) (jOf L)) none) Set.univ
          (cc0__combine L fV (Memref.isWhole_whole _) cV3 (Memref.isWhole_whole _) wV3 (Memref.isWhole_whole _) oV (Memref.isWhole_whole _)
            i0V (Memref.isWhole_whole _) i1V (Memref.isWhole_whole _) r0V (Memref.isWhole_whole _) r1V (Memref.isWhole_whole _)
            w0V (Memref.isWhole_whole _) w1V (Memref.isWhole_whole _) cc0_scratch6 cc0_scratch7 cc0_scoped0 cc0_scoped1 cc0_scoped2 cc0_scoped3 cc0_scoped4)
          fun _ => iprop((lent d q tab c3 w3 ∗ outRows d L (combined tab c3 w3 hc))
            ∗ scopedBufs (V d (cOf L) (jOf L)) ∗ scopedSems0 (V d (cOf L) (jOf L))
            ∗ ∃ W', ⌜∀ p ∈ W', p ∈ W ∨ p.2 = none⌝ ∗ owes (V d (cOf L) (jOf L)) O W') := by
  simp only [cc0__combine_eq_skeleton]; unfold cc0__combine_skel
  simp only [k0_part14_eq_skeleton, k0_part15_eq_skeleton, k0_part16_eq_skeleton, k0_part17_eq_skeleton]
  unfold k0_part14_skel k0_part15_skel k0_part16_skel k0_part17_skel
  simp only [bind_assoc, pure_bind]
  rw [(K (F := F)).scopedBufs_V hF d (cOf L) (jOf L), SparseCore.Cfg.scopedSems0_V (Val := Elt F) d (cOf L) (jOf L), ownSems0_tile, ownBufs_tile]
  iintro ⟨#Hlv, -, ⟨⟨Hf, Hc, Hw⟩, Ho⟩, ⟨⟨%fi0, Hi0⟩, ⟨%fi1, Hi1⟩, ⟨%A, HA⟩, ⟨%B, HB⟩, ⟨%fu, Hu⟩, ⟨%fv, Hv⟩, Hbufs⟩, ⟨Hg0, Hg1, Hr0, Hr1, Hr2, Hr3, Hr4, Hsems⟩, HO⟩
  ihave #Hmw := (show levAts (K (F := F)).L (K (F := F)).lev ⊢ Transfers.MayWaits (V d (cOf L) (jOf L)) (default : HIx 1) O from
    (K (F := F)).mayWaits_none (thr := V d (cOf L) (jOf L)) hO) $$ Hlv
  ihave Hc := (Entails.of_eq (show (c3Loc d ↦{q} c3 : sProp 𝕄) = ((cV3).view.loc (V d (cOf L) (jOf L)) ↦{q} c3) from rfl)) $$ Hc
  ihave Hw := (Entails.of_eq (show (w3Loc d ↦{q} w3 : sProp 𝕄) = ((wV3).view.loc (V d (cOf L) (jOf L)) ↦{q} w3) from rfl)) $$ Hw
  ihave Hi0 := (Entails.of_eq (show ((V d (cOf L) (jOf L)).loc cc0_scratch0 ↦{fullShare} fi0 : sProp 𝕄) = ((i0V).view.loc (V d (cOf L) (jOf L)) ↦{fullShare} fi0) from rfl)) $$ Hi0
  ihave Hi1 := (Entails.of_eq (show ((V d (cOf L) (jOf L)).loc cc0_scratch1 ↦{fullShare} fi1 : sProp 𝕄) = ((i1V).view.loc (V d (cOf L) (jOf L)) ↦{fullShare} fi1) from rfl)) $$ Hi1
  ihave Hu := (Entails.of_eq (show ((V d (cOf L) (jOf L)).loc cc0_scratch4 ↦{fullShare} fu : sProp 𝕄) = ((w0V).view.loc (V d (cOf L) (jOf L)) ↦{fullShare} fu) from rfl)) $$ Hu
  ihave Hv := (Entails.of_eq (show ((V d (cOf L) (jOf L)).loc cc0_scratch5 ↦{fullShare} fv : sProp 𝕄) = ((w1V).view.loc (V d (cOf L) (jOf L)) ↦{fullShare} fv) from rfl)) $$ Hv
  sl_exec
  ihave Hi0 := (Entails.of_eq (show ((i0V).view.loc (V d (cOf L) (jOf L)) ↦{fullShare} View.write (Elt F) (i0V).view fi0 (tile_body.sl.dma0 (F := F) L c3) Finset.univ : sProp 𝕄)
      = (i0V).view.loc (V d (cOf L) (jOf L)) ↦{fullShare} (fun x => c3 (ix3 (wOf L) (0 : Fin 2) (x 0))) by
    rw [show tile_body.sl.dma0 (F := F) L c3 = (fun x => c3 (ix3 (wOf L) (0 : Fin 2) (x 0))) from c0Row_read (F := F) L c3]
    exact congrArg _ (View.write_whole_univ (cc0_scratch0 : Ref sig .scVector) _ _))) $$ Hi0
  ihave Hi1 := (Entails.of_eq (show ((i1V).view.loc (V d (cOf L) (jOf L)) ↦{fullShare} View.write (Elt F) (i1V).view fi1 (tile_body.sl.dma0_1 (F := F) L c3) Finset.univ : sProp 𝕄)
      = (i1V).view.loc (V d (cOf L) (jOf L)) ↦{fullShare} (fun x => c3 (ix3 (wOf L) (1 : Fin 2) (x 0))) by
    rw [show tile_body.sl.dma0_1 (F := F) L c3 = (fun x => c3 (ix3 (wOf L) (1 : Fin 2) (x 0))) from c1Row_read (F := F) L c3]
    exact congrArg _ (View.write_whole_univ (cc0_scratch1 : Ref sig .scVector) _ _))) $$ Hi1
  ihave Hu := (Entails.of_eq (show ((w0V).view.loc (V d (cOf L) (jOf L)) ↦{fullShare} View.write (Elt F) (w0V).view fu (tile_body.sl.dma0_2 (F := F) L w3) Finset.univ : sProp 𝕄)
      = (w0V).view.loc (V d (cOf L) (jOf L)) ↦{fullShare} (fun x => w3 (ix3 (wOf L) (0 : Fin 2) (x 0))) by
    rw [show tile_body.sl.dma0_2 (F := F) L w3 = (fun x => w3 (ix3 (wOf L) (0 : Fin 2) (x 0))) from x0Row_read (F := F) L w3]
    exact congrArg _ (View.write_whole_univ (cc0_scratch4 : Ref sig .scVector) _ _))) $$ Hu
  ihave Hv := (Entails.of_eq (show ((w1V).view.loc (V d (cOf L) (jOf L)) ↦{fullShare} View.write (Elt F) (w1V).view fv (tile_body.sl.dma0_3 (F := F) L w3) Finset.univ : sProp 𝕄)
      = (w1V).view.loc (V d (cOf L) (jOf L)) ↦{fullShare} (fun x => w3 (ix3 (wOf L) (1 : Fin 2) (x 0))) by
    rw [show tile_body.sl.dma0_3 (F := F) L w3 = (fun x => w3 (ix3 (wOf L) (1 : Fin 2) (x 0))) from x1Row_read (F := F) L w3]
    exact congrArg _ (View.write_whole_univ (cc0_scratch5 : Ref sig .scVector) _ _))) $$ Hv
  ihave Hf := (pointsTo_share (PosShare.mem_left_op_right q)).1 $$ Hf
  icases Hf with ⟨Hfa, Hfb⟩
  ihave H : gst d L q.left q.right tab (fun x => c3 (ix3 (wOf L) (0 : Fin 2) (x 0))) (fun x => c3 (ix3 (wOf L) (1 : Fin 2) (x 0))) (fun _ => hc _) (fun _ => hc _) A B O W 0 $$ [Hfa Hfb HA HB Hi0 Hi1 Hg0 Hg1 HO]
  · unfold gst
    rw [colsOf_zero, colsOf_zero]
    isplitl [Hfa]; · iexact Hfa
    isplitl [Hfb]; · iexact Hfb
    isplitl [HA]; · iexact HA
    isplitl [HB]; · iexact HB
    isplitl [Hi0]; · iexact Hi0
    isplitl [Hi1]; · iexact Hi1
    isplitl [Hg0]; · iexact Hg0
    isplitl [Hg1]; · iexact Hg1
    iexists _; isplitr
    swap; · iexact HO
    ipureintro; intro p hp
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    exact .inl hp
  iapply (block_step d L q.left q.right tab (fun x => c3 (ix3 (wOf L) (0 : Fin 2) (x 0))) (fun x => c3 (ix3 (wOf L) (1 : Fin 2) (x 0))) (fun _ => hc _) (fun _ => hc _) A B O W 0 ![0, 0] rfl) $$ [H]
  · isplitr; · iexact Hmw
    iexact H
  iintro H
  iapply (block_step d L q.left q.right tab (fun x => c3 (ix3 (wOf L) (0 : Fin 2) (x 0))) (fun x => c3 (ix3 (wOf L) (1 : Fin 2) (x 0))) (fun _ => hc _) (fun _ => hc _) A B O W 1 ![0, 128] rfl) $$ [H]
  · isplitr; · iexact Hmw
    iexact H
  iintro H
  iapply (block_step d L q.left q.right tab (fun x => c3 (ix3 (wOf L) (0 : Fin 2) (x 0))) (fun x => c3 (ix3 (wOf L) (1 : Fin 2) (x 0))) (fun _ => hc _) (fun _ => hc _) A B O W 2 ![0, 256] rfl) $$ [H]
  · isplitr; · iexact Hmw
    iexact H
  iintro H
  iapply (block_step d L q.left q.right tab (fun x => c3 (ix3 (wOf L) (0 : Fin 2) (x 0))) (fun x => c3 (ix3 (wOf L) (1 : Fin 2) (x 0))) (fun _ => hc _) (fun _ => hc _) A B O W 3 ![0, 384] rfl) $$ [H]
  · isplitr; · iexact Hmw
    iexact H
  iintro H
  iapply (block_step d L q.left q.right tab (fun x => c3 (ix3 (wOf L) (0 : Fin 2) (x 0))) (fun x => c3 (ix3 (wOf L) (1 : Fin 2) (x 0))) (fun _ => hc _) (fun _ => hc _) A B O W 4 ![0, 512] rfl) $$ [H]
  · isplitr; · iexact Hmw
    iexact H
  iintro H
  iapply (block_step d L q.left q.right tab (fun x => c3 (ix3 (wOf L) (0 : Fin 2) (x 0))) (fun x => c3 (ix3 (wOf L) (1 : Fin 2) (x 0))) (fun _ => hc _) (fun _ => hc _) A B O W 5 ![0, 640] rfl) $$ [H]
  · isplitr; · iexact Hmw
    iexact H
  iintro H
  icases H with ⟨Hfa, Hfb, HA, HB, Hi0, Hi1, Hg0, Hg1, %W1, %hW1, HO⟩
  sl_for (mixed d L (fun x => w3 (ix3 (wOf L) (0 : Fin 2) (x 0))) (fun x => w3 (ix3 (wOf L) (1 : Fin 2) (x 0))) (colsOf tab (rowsOf (fun x => c3 (ix3 (wOf L) (0 : Fin 2) (x 0))) (fun _ => hc _)) A 6) (colsOf tab (rowsOf (fun x => c3 (ix3 (wOf L) (1 : Fin 2) (x 0))) (fun _ => hc _)) B 6)) $$ [HA HB Hu Hv]
  case region =>
    intro k _
    exact row_step d L _ _ _ _ k
  · unfold mixed
    rw [rowsMix_zero]
    isplitl [HA]; · iexact HA
    isplitl [HB]; · iexact HB
    isplitl [Hu]; · iexact Hu
    iexact Hv
  iintro %_ HI
  unfold mixed
  icases HI with ⟨HA, HB, Hu, Hv⟩
  ihave Ho := (Entails.of_eq (show (outRows d L old : sProp 𝕄) = ((oRow L).view.loc (V d (cOf L) (jOf L)) ↦[(oRow L).view.set]{fullShare} old) from rfl)) $$ Ho
  sl_exec
  ihave Ho := (Entails.of_eq (show ((oRow L).view.loc (V d (cOf L) (jOf L)) ↦[(oRow L).view.set]{fullShare} (oRow L).view.writes (Elt F) old [⟨Rect.whole S64x768, tile_body.sl.dma0_4 d L tab c3 w3 hc A B⟩] : sProp 𝕄)
      = outRows d L (combined tab c3 w3 hc) by
    refine pointsTo_congr fun p hp => ?_
    rw [← View.write_univ_eq_writes_whole]
    exact combined_rows L tab c3 w3 hc A B old p hp)) $$ Ho
  sl_step
  isplitl [Hfa Hfb Hc Hw Ho]
  · isplitr [Ho]
    · isplitl [Hfa Hfb]
      · iapply (pointsTo_share (PosShare.mem_left_op_right q)).2
        isplitl [Hfa]; · iexact Hfa
        iexact Hfb
      isplitl [Hc]; · iexact Hc
      iexact Hw
    iexact Ho
  isplitl [Hi0 Hi1 HA HB Hu Hv Hbufs]
  · isplitl [Hi0]; · iexists _; iexact Hi0
    isplitl [Hi1]; · iexists _; iexact Hi1
    isplitl [HA]; · iexists _; iexact HA
    isplitl [HB]; · iexists _; iexact HB
    isplitl [Hu]; · iexists _; iexact Hu
    isplitl [Hv]; · iexists _; iexact Hv
    iexact Hbufs
  isplitl [Hg0 Hg1 Hr0 Hr1 Hr2 Hr3 Hr4 Hsems]
  · isplitl [Hg0]; · iexact Hg0
    isplitl [Hg1]; · iexact Hg1
    isplitl [Hr0]; · iexact Hr0
    isplitl [Hr1]; · iexact Hr1
    isplitl [Hr2]; · iexact Hr2
    isplitl [Hr3]; · iexact Hr3
    isplitl [Hr4]; · iexact Hr4
    iexact Hsems
  iexists _; isplitr
  swap; · iexact HO
  ipureintro; intro p hp
  rcases Finset.mem_insert.mp hp with hp | hp; · exact .inr (hp ▸ rfl)
  exact hW1 p hp

/-! ## The obligation of one tile -/

/-- The coordinates of tile `s` of core `c`. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_tile (c : Fin τ.nSC) (s : Fin τ.nSub) :
    defs₀ (F := F) (.scVector c s) 0 ()
      = SparseCore.onTile hcore0 hsub0 (fun c s => cc0__combine (coordsV c s)
          fV (Memref.isWhole_whole _) cV3 (Memref.isWhole_whole _) wV3 (Memref.isWhole_whole _) oV (Memref.isWhole_whole _)
            i0V (Memref.isWhole_whole _) i1V (Memref.isWhole_whole _) r0V (Memref.isWhole_whole _) r1V (Memref.isWhole_whole _)
            w0V (Memref.isWhole_whole _) w1V (Memref.isWhole_whole _) cc0_scratch6 cc0_scratch7 cc0_scoped0 cc0_scoped1 cc0_scoped2 cc0_scoped3 cc0_scoped4) ⟨⟩ c s := rfl

omit [FloatOps F] in
/-- What a tile hands back fits what its call's obligation asks. -/
theorem post_widen {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  refine sep_mono_right (sep_mono_right (sep_mono_right ?_))
  iintro ⟨%W', %hW', HO⟩
  iexists W'; isplitr
  · ipureintro; exact fun p hp => (hW' p hp).imp_right Or.inl
  · iexact HO

end Cert.Proof.Combine

end
-- ==== Proof.Combine.Split.lean ====
/-
  What the call carries to each SparseCore and each tile: shares of the arrays the tiles read, and to each tile its own
  rows of the result, which come back combined. Each core splits its part sixteen ways and joins the tiles' parts again.
-/
module

public import proofs.«01_k».proof.Proof.Combine.Body

@[expose] public section

noncomputable section

namespace Cert.Proof.Combine

open Cert.KernelIdeal Cert.KernelIdeal.Gen

open Idealize.ShloMosaic Idealize.ShloMosaic.ValueIdx
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.ShareLeaves (leaf pointsTo_leaves)

variable {F : FTy → Type} [FloatOps F]

local notation "𝕄" => MM F

/-! ## The arrays as the host rearranges them -/

/-- A two-row list dealt to the 32 tiles: tile `w` gets words `64 * w` to `64 * w + 63` of each row. -/
def dealt {α : Type} (x : S2x2048.Idx → α) : S32x2x64.Idx → α :=
  transpose S32x2x64 [1, 0, 2] (shapeCast S2x32x64 x shapeCasts_S2x2048_S2x32x64) transposes_S2x32x64_S32x2x64_1_0_2

theorem dealt_apply {α : Type} (x : S2x2048.Idx → α) (w : Fin 32) (e : Fin 2) (k : Fin 64) :
    dealt x (ix3 w e k) = x (ix2 e ⟨64 * w.val + k.val, by omega⟩) := by
  unfold dealt
  rw [transpose_apply _ _ _ _ (ix3 e w k) (by intro b; match b with | 0 => rfl | 1 => rfl | 2 => rfl)]
  refine shapeCast_apply _ _ _ _ ?_
  rw [show (S2x2048.rowMajor (ix2 e ⟨64 * w.val + k.val, by omega⟩)).val = _ from Shape.rowMajor_val_two _,
    show (S2x32x64.rowMajor (ix3 e w k)).val = _ from Shape.rowMajor_val_three _]
  show e.val * 2048 + (64 * w.val + k.val) = (e.val * 32 + w.val) * 64 + k.val
  omega

/-- The arrays' contents at the launch. -/
abbrev Mem (F : FTy → Type) : Type := (ℓ : Loc nD τ sig) → Buf (Elt F) ℓ

variable (m : Mem F)

/-- What the proof asks of the launch memory: every slot number names a row of the table. -/
def PreOK : Prop := ∀ (d : Dev nD) (x : S2x2048.Idx), (m (ciLoc d) x).toNat < 6144

abbrev tab0 (d : Dev nD) : S6144x768.Idx → F .f32 := m (fLoc d)
abbrev slots (d : Dev nD) : S32x2x64.Idx → BitVec 32 := dealt (m (ciLoc d))
abbrev wts (d : Dev nD) : S32x2x64.Idx → F .f32 := dealt (m (wtLoc d))

omit [FloatOps F] in
theorem slots_lt (h : PreOK m) (d : Dev nD) (x : S32x2x64.Idx) : (slots m d x).toNat < 6144 := h d _

/-- The result the call leaves. -/
abbrev result (h : PreOK m) (d : Dev nD) : S2048x768.Idx → F .f32 := combined (tab0 m d) (slots m d) (wts m d) (slots_lt m h d)

/-! ## Who holds what -/

/-- A core's and a tile's share of what is read. -/
abbrev coreShare (c : Fin 2) : PosShare TreeShare := leaf 1 fullShare c
abbrev tileShare (c : Fin 2) (s : Fin 16) : PosShare TreeShare := leaf 4 (coreShare c) s

abbrev coreIn (d : Dev nD) (c : Fin 2) (o : S2048x768.Idx → F .f32) : sProp 𝕄 :=
  iprop(lent d (coreShare c) (tab0 m d) (slots m d) (wts m d) ∗ bigSep Finset.univ fun s : Fin 16 => outRows d (coordsV c s) o)
abbrev tileIn (d : Dev nD) (c : Fin 2) (s : Fin 16) (o : S2048x768.Idx → F .f32) : sProp 𝕄 :=
  iprop(lent d (tileShare c s) (tab0 m d) (slots m d) (wts m d) ∗ outRows d (coordsV c s) o)

def P (h : PreOK m) : (K (F := F)).Pay (nD := nD) (Val := Elt F) (Name := ℕ) (U := UU) where
  st := fun q d c => match q with | 0 => coreIn m d (Fin.cast nCore_eq c) (m (oLoc d))
  dn := fun q d c => match q with | 0 => coreIn m d (Fin.cast nCore_eq c) (result m h d)
  go := fun q d c i => match q with | 0 => tileIn m d (Fin.cast nCore_eq c) (Fin.cast nSub_eq i) (m (oLoc d))
  td := fun q d c i => match q with | 0 => tileIn m d (Fin.cast nCore_eq c) (Fin.cast nSub_eq i) (result m h d)
  x := fun _ _ => iprop(emp)

instance P_storable (h : PreOK m) : (P (F := F) m h).IsStorable where
  st q d c := match q with
    | 0 => (inferInstance : BI.Storable (upEmb : UEmb _ 𝕄) (coreIn m d (Fin.cast nCore_eq c) (m (oLoc d))))
  dn q d c := match q with
    | 0 => (inferInstance : BI.Storable (upEmb : UEmb _ 𝕄) (coreIn m d (Fin.cast nCore_eq c) (result m h d)))
  go q d c i := match q with
    | 0 => (inferInstance : BI.Storable (upEmb : UEmb _ 𝕄) (tileIn m d (Fin.cast nCore_eq c) (Fin.cast nSub_eq i) (m (oLoc d))))
  td q d c i := match q with
    | 0 => (inferInstance : BI.Storable (upEmb : UEmb _ 𝕄) (tileIn m d (Fin.cast nCore_eq c) (Fin.cast nSub_eq i) (result m h d)))

/-! ## The tiles' parts of a core's part -/

omit [FloatOps F] in
/-- An array at a share, dealt in shares. -/
theorem array_tiles (ℓ : Loc nD τ sig) (f : Buf (Elt F) ℓ) (n : ℕ) (q : PosShare TreeShare) :
    (ℓ ↦{q} f : sProp 𝕄) = bigSep Finset.univ fun s : Fin (2 ^ n) => ℓ ↦{leaf n q s} f := pointsTo_leaves Finset.univ f n q

omit [FloatOps F] in
/-- What a core is lent is what its sixteen tiles are lent. -/
theorem lent_tiles (d : Dev nD) (q : PosShare TreeShare) (n : ℕ) (tab : S6144x768.Idx → F .f32) (c3 : S32x2x64.Idx → BitVec 32) (w3 : S32x2x64.Idx → F .f32) :
    (lent d q tab c3 w3 : sProp 𝕄) = bigSep Finset.univ fun s : Fin (2 ^ n) => lent d (leaf n q s) tab c3 w3 := by
  have e1 : (fLoc d ↦{q} tab : sProp 𝕄) = bigSep Finset.univ fun s : Fin (2 ^ n) => fLoc d ↦{leaf n q s} tab := array_tiles (fLoc d) tab n q
  have e2 : (c3Loc d ↦{q} c3 : sProp 𝕄) = bigSep Finset.univ fun s : Fin (2 ^ n) => c3Loc d ↦{leaf n q s} c3 := array_tiles (c3Loc d) c3 n q
  have e3 : (w3Loc d ↦{q} w3 : sProp 𝕄) = bigSep Finset.univ fun s : Fin (2 ^ n) => w3Loc d ↦{leaf n q s} w3 := array_tiles (w3Loc d) w3 n q
  unfold lent
  rw [bigSep_sep', bigSep_sep', e1, e2, e3]

theorem coreIn_tiles (d : Dev nD) (c : Fin 2) (o : S2048x768.Idx → F .f32) :
    (coreIn m d c o : sProp 𝕄) = bigSep Finset.univ fun s : Fin 16 => tileIn m d c s o := by
  unfold coreIn tileIn
  rw [bigSep_sep']
  exact congrArg (fun X => iprop(X ∗ _)) (lent_tiles d (coreShare c) 4 _ _ _)

omit [FloatOps F] in
theorem bigSep_subs (Φ : Fin 16 → sProp 𝕄) :
    (bigSep Finset.univ fun i : Fin ((K (F := F)).nSub 0) => Φ (Fin.cast nSub_eq i)) = bigSep Finset.univ Φ :=
  bigSep_congr fun _ _ => congrArg Φ (Fin.ext rfl)
omit [FloatOps F] in
theorem bigSep_cores (Φ : Fin 2 → sProp 𝕄) :
    (bigSep Finset.univ fun c : Fin ((K (F := F)).nCore 0) => Φ (Fin.cast nCore_eq c)) = bigSep Finset.univ Φ :=
  bigSep_congr fun _ _ => congrArg Φ (Fin.ext rfl)

theorem vecSplit (h : PreOK m) : (K (F := F)).VecSplit' (P m h) 0 := by
  intro d c
  show coreIn m d (Fin.cast nCore_eq c) (m (oLoc d)) ⊢ |={Set.univ}=> iprop(
      (bigSep Finset.univ fun i : Fin ((K (F := F)).nSub 0) => tileIn m d (Fin.cast nCore_eq c) (Fin.cast nSub_eq i) (m (oLoc d)))
      ∗ ((bigSep Finset.univ fun i : Fin ((K (F := F)).nSub 0) => tileIn m d (Fin.cast nCore_eq c) (Fin.cast nSub_eq i) (result m h d))
          -∗ coreIn m d (Fin.cast nCore_eq c) (result m h d)))
  rw [bigSep_subs (F := F) (fun i => tileIn m d (Fin.cast nCore_eq c) i (m (oLoc d))),
    bigSep_subs (F := F) (fun i => tileIn m d (Fin.cast nCore_eq c) i (result m h d)), ← coreIn_tiles, ← coreIn_tiles]
  iintro H; imodintro
  isplitl [H]; · iexact H
  iintro H; iexact H

set_option maxRecDepth 16384 in
theorem tileObl (hF : (K (F := F)).Facts) (h : PreOK m) : (K (F := F)).TileObl (D (F := F)) 𝒱 (P m h) v₀ 0 := by
  intro d c i O W hO _ _
  simp only [show (P m h).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_tile]; simp only [SparseCore.onTile, hci, and_self, ↓reduceDIte]
  exact (tile_body d (coordsV ⟨_, hci.1⟩ ⟨_, hci.2⟩) hF (tileShare (Fin.cast nCore_eq c) (Fin.cast nSub_eq i)) (tab0 m d) (slots m d) (wts m d) (slots_lt m h d) (m (oLoc d)) O W hO).trans
    (wp_mono frame _ _ fun _ => post_widen)

/-! ## The cores' parts of the whole -/

omit [FloatOps F] in
theorem mem_rows (c : Fin 2) (s : Fin 16) (p : S2048x768.Idx) : p ∈ (oRow (coordsV c s)).view.set ↔ (p 0).val / 64 = 2 * s.val + c.val :=
  mem_oRow (coordsV c s) p

/-- The rows of tile `i.2` of core `i.1`. -/
abbrev rowSet (i : Fin 2 × Fin 16) : Finset S2048x768.Idx := (oRow (coordsV i.1 i.2)).view.set

omit [FloatOps F] in
theorem rows_disjoint : ∀ i ∈ (Finset.univ : Finset (Fin 2 × Fin 16)), ∀ j ∈ (Finset.univ : Finset (Fin 2 × Fin 16)), i ≠ j →
    Disjoint (rowSet i) (rowSet j) := by
  intro i _ j _ hne
  refine Finset.disjoint_left.mpr fun p hi hj => hne ?_
  have e1 := (mem_rows i.1 i.2 p).mp hi
  have e2 := (mem_rows j.1 j.2 p).mp hj
  have h1 := i.1.isLt
  have h2 := j.1.isLt
  exact Prod.ext (Fin.ext (by omega)) (Fin.ext (by omega))

omit [FloatOps F] in
theorem rows_cover : (Finset.univ : Finset (Fin 2 × Fin 16)).biUnion rowSet = Finset.univ := by
  refine Finset.eq_univ_of_forall fun p => Finset.mem_biUnion.mpr ?_
  have hp : (p 0).val < 2048 := (p 0).isLt
  refine ⟨(⟨(p 0).val / 64 % 2, by omega⟩, ⟨(p 0).val / 64 / 2, by omega⟩), Finset.mem_univ _, (mem_rows _ _ p).mpr ?_⟩
  show (p 0).val / 64 = 2 * ((p 0).val / 64 / 2) + (p 0).val / 64 % 2
  omega

omit [FloatOps F] in
theorem out_rows (d : Dev nD) (o : S2048x768.Idx → F .f32) :
    (oLoc d ↦{fullShare} o : sProp 𝕄) = bigSep Finset.univ fun c : Fin 2 => bigSep Finset.univ fun s : Fin 16 => outRows d (coordsV c s) o := by
  rw [← bigSep_univ_prod (fun i : Fin 2 × Fin 16 => outRows d (coordsV i.1 i.2) o)]
  refine Eq.trans ?_ (pointsTo_biUnion Finset.univ (ℓ := oLoc d) rowSet rows_disjoint)
  rw [rows_cover]

/-- What the two cores are given, put together: the arrays whole. -/
theorem cores_whole (d : Dev nD) (o : S2048x768.Idx → F .f32) :
    (bigSep Finset.univ fun c : Fin 2 => coreIn m d c o)
      = (iprop(lent d fullShare (tab0 m d) (slots m d) (wts m d) ∗ oLoc d ↦{fullShare} o) : sProp 𝕄) := by
  unfold coreIn
  rw [bigSep_sep', out_rows]
  exact congrArg (fun X => iprop(X ∗ _)) (lent_tiles d fullShare 1 _ _ _).symm

end Cert.Proof.Combine

end
-- ==== Proof.Combine.Main.lean ====
/-
  The whole program's run: the host deals the two lists to the tiles, the call combines, and the result array ends at the
  combined rows with the three arguments as they were.
-/
module

public import proofs.«01_k».proof.Proof.Combine.Split

@[expose] public section

noncomputable section

namespace Cert.Proof.Combine

open Cert.KernelIdeal Cert.KernelIdeal.Gen

open Idealize.ShloMosaic Idealize.ShloMosaic.ValueIdx
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.StableHlo (held held_split held_sdiff_result wp_hlo_within)
open Idealize.ShloMosaic.ShareLeaves (leaf pointsTo_leaves)

variable {F : FTy → Type} [FloatOps F]

local notation "𝕄" => MM F

variable (m : Mem F) (ρ : Dev nD → PrngReg)

/-! ## The host's four operations -/

abbrev bF : DevRef τ sig := Proc.devRef .tc (main_arg0 : Ref sig .tc)
abbrev bCi : DevRef τ sig := Proc.devRef .tc (main_arg1 : Ref sig .tc)
abbrev bWt : DevRef τ sig := Proc.devRef .tc (main_arg2 : Ref sig .tc)
abbrev b0 : DevRef τ sig := Proc.devRef .tc (main_v0 : Ref sig .tc)
abbrev b1 : DevRef τ sig := Proc.devRef .tc (main_v1 : Ref sig .tc)
abbrev b2 : DevRef τ sig := Proc.devRef .tc (main_v2 : Ref sig .tc)
abbrev b3 : DevRef τ sig := Proc.devRef .tc (main_v3 : Ref sig .tc)
abbrev bO : DevRef τ sig := Proc.devRef .tc (main_v4 : Ref sig .tc)

abbrev op1 : HloOp τ sig (Elt F) := StableHlo.reshape main_arg1 main_v0 (rfl : (.i32 : EltTy) = .i32) shapeCasts_S2x2048_S2x32x64
abbrev op2 : HloOp τ sig (Elt F) := StableHlo.unary main_v0 main_v1 ((transpose S32x2x64 [1, 0, 2] · transposes_S2x32x64_S32x2x64_1_0_2) : (⟨S2x32x64, .i32⟩ : BufTy).Contents (Elt F) → (⟨S32x2x64, .i32⟩ : BufTy).Contents (Elt F))
abbrev op3 : HloOp τ sig (Elt F) := StableHlo.reshape main_arg2 main_v2 (rfl : (.f32 : EltTy) = .f32) shapeCasts_S2x2048_S2x32x64
abbrev op4 : HloOp τ sig (Elt F) := StableHlo.unary main_v2 main_v3 ((transpose S32x2x64 [1, 0, 2] · transposes_S2x32x64_S32x2x64_1_0_2) : (⟨S2x32x64, .f32⟩ : BufTy).Contents (Elt F) → (⟨S32x2x64, .f32⟩ : BufTy).Contents (Elt F))

/-- The program's eight arrays. -/
abbrev arrays : Finset (DevRef τ sig) := {bF, bCi, bWt, b0, b1, b2, b3, bO}

omit [FloatOps F] in
theorem held_arrays (d : Dev nD) (W : Valuation τ sig (Elt F)) :
    (held (T d) arrays W : sProp 𝕄)
      = iprop((fLoc d ↦{fullShare} W bF) ∗ (ciLoc d ↦{fullShare} W bCi) ∗ (wtLoc d ↦{fullShare} W bWt)
          ∗ ((SparseCore.T d).loc main_v0 ↦{fullShare} W b0) ∗ (c3Loc d ↦{fullShare} W b1) ∗ ((SparseCore.T d).loc main_v2 ↦{fullShare} W b2)
          ∗ (w3Loc d ↦{fullShare} W b3) ∗ oLoc d ↦{fullShare} W bO) := by
  unfold held arrays
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

omit [FloatOps F] in
theorem unscoped_arrays (d : Dev nD) (W : (b : Ref sig .tc) → Buf (Elt F) ((d.tc : Thread nD τ).loc b)) :
    (unscopedBufs d W : sProp 𝕄)
      = iprop((fLoc d ↦{fullShare} W main_arg0) ∗ (ciLoc d ↦{fullShare} W main_arg1) ∗ (wtLoc d ↦{fullShare} W main_arg2)
          ∗ ((SparseCore.T d).loc main_v0 ↦{fullShare} W main_v0) ∗ (c3Loc d ↦{fullShare} W main_v1) ∗ ((SparseCore.T d).loc main_v2 ↦{fullShare} W main_v2)
          ∗ (w3Loc d ↦{fullShare} W main_v3) ∗ oLoc d ↦{fullShare} W main_v4) := by
  unfold unscopedBufs
  rw [show (Finset.univ.filter fun b : Ref sig .tc => ¬ b.isScoped) = {main_arg0, main_arg1, main_arg2, main_v0, main_v1, main_v2, main_v3, main_v4} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-- The arrays' contents at the launch and after each host operation. -/
def W0 (d : Dev nD) : Valuation τ sig (Elt F) := fun b => m (d, b)
def W1 (d : Dev nD) : Valuation τ sig (Elt F) := (op1 (F := F)).result (W0 m d)
def W2 (d : Dev nD) : Valuation τ sig (Elt F) := (op2 (F := F)).result (W1 m d)
def W3 (d : Dev nD) : Valuation τ sig (Elt F) := (op3 (F := F)).result (W2 m d)
def W4 (d : Dev nD) : Valuation τ sig (Elt F) := (op4 (F := F)).result (W3 m d)

theorem W1_ne (d : Dev nD) {b : DevRef τ sig} (h : b ≠ b0) : W1 m d b = W0 m d b :=
  (op1 (F := F)).result_of_not_mem _ (show b ∉ ({b0} : Finset (DevRef τ sig)) from fun e => h (Finset.mem_singleton.mp e))
theorem W2_ne (d : Dev nD) {b : DevRef τ sig} (h : b ≠ b1) : W2 m d b = W1 m d b :=
  (op2 (F := F)).result_of_not_mem _ (show b ∉ ({b1} : Finset (DevRef τ sig)) from fun e => h (Finset.mem_singleton.mp e))
theorem W3_ne (d : Dev nD) {b : DevRef τ sig} (h : b ≠ b2) : W3 m d b = W2 m d b :=
  (op3 (F := F)).result_of_not_mem _ (show b ∉ ({b2} : Finset (DevRef τ sig)) from fun e => h (Finset.mem_singleton.mp e))
theorem W4_ne (d : Dev nD) {b : DevRef τ sig} (h : b ≠ b3) : W4 m d b = W3 m d b :=
  (op4 (F := F)).result_of_not_mem _ (show b ∉ ({b3} : Finset (DevRef τ sig)) from fun e => h (Finset.mem_singleton.mp e))

/-- An array no operation writes keeps its contents. -/
theorem W4_kept (d : Dev nD) {b : DevRef τ sig} (h0 : b ≠ b0) (h1 : b ≠ b1) (h2 : b ≠ b2) (h3 : b ≠ b3) : W4 m d b = W0 m d b := by
  rw [W4_ne m d h3, W3_ne m d h2, W2_ne m d h1, W1_ne m d h0]

theorem W4_slots (d : Dev nD) : W4 m d b1 = slots m d := by
  rw [W4_ne m d (by decide), W3_ne m d (by decide)]
  unfold W2
  refine (StableHlo.unary_result _ _ _ _ _ _).trans ?_
  unfold W1
  exact congrArg (fun x => transpose S32x2x64 [1, 0, 2] x transposes_S2x32x64_S32x2x64_1_0_2) (StableHlo.reshape_result _ _ _ _ _ _ _)

theorem W4_wts (d : Dev nD) : W4 m d b3 = wts m d := by
  unfold W4
  refine (StableHlo.unary_result _ _ _ _ _ _).trans ?_
  unfold W3
  refine (congrArg (fun x => transpose S32x2x64 [1, 0, 2] x transposes_S2x32x64_S32x2x64_1_0_2) (StableHlo.reshape_result _ _ _ _ _ _ _)).trans ?_
  rw [W2_ne m d (by decide), W1_ne m d (by decide)]
  rfl

theorem h1 : (op1 (F := F)).bufs ⊆ arrays := show ({bCi, b0} : Finset (DevRef τ sig)) ⊆ arrays by decide
theorem h2 : (op2 (F := F)).bufs ⊆ arrays := show ({b0, b1} : Finset (DevRef τ sig)) ⊆ arrays by decide
theorem h3 : (op3 (F := F)).bufs ⊆ arrays := show ({bWt, b2} : Finset (DevRef τ sig)) ⊆ arrays by decide
theorem h4 : (op4 (F := F)).bufs ⊆ arrays := show ({b2, b3} : Finset (DevRef τ sig)) ⊆ arrays by decide

theorem unscoped_held (d : Dev nD) : (unscopedBufs d (fun b => m ((SparseCore.T d).loc b)) : sProp 𝕄) = held (T d) arrays (W0 m d) := by
  rw [unscoped_arrays, held_arrays]; rfl

/-- The arrays before the call. -/
theorem held_before (d : Dev nD) :
    (held (T d) arrays ((op4 (F := F)).result ((op3 (F := F)).result ((op2 (F := F)).result ((op1 (F := F)).result (W0 m d))))) : sProp 𝕄)
      = iprop((fLoc d ↦{fullShare} tab0 m d) ∗ (ciLoc d ↦{fullShare} m (ciLoc d)) ∗ (wtLoc d ↦{fullShare} m (wtLoc d))
          ∗ ((SparseCore.T d).loc main_v0 ↦{fullShare} W4 m d b0) ∗ (c3Loc d ↦{fullShare} slots m d) ∗ ((SparseCore.T d).loc main_v2 ↦{fullShare} W4 m d b2)
          ∗ (w3Loc d ↦{fullShare} wts m d) ∗ oLoc d ↦{fullShare} m (oLoc d)) := by
  show held (SparseCore.T d) arrays (W4 m d) = _
  rw [held_arrays, W4_slots, W4_wts, W4_kept m d (b := bF) (by decide) (by decide) (by decide) (by decide),
    W4_kept m d (b := bCi) (by decide) (by decide) (by decide) (by decide), W4_kept m d (b := bWt) (by decide) (by decide) (by decide) (by decide),
    W4_kept m d (b := bO) (by decide) (by decide) (by decide) (by decide)]
  rfl

/-! ## The launch's ghost element -/

def u₀ : UU := (Rounds.initOf (K (F := F)).hsCells (K (F := F)).hsToks, 1)

omit [FloatOps F] in
theorem bigSep_nothing {I : Type} (s : Finset I) : (bigSep s fun _ => iprop(emp)) = (iprop(emp) : sProp 𝕄) := bigSep_emp_const s

theorem hu₀ (h : PreOK m) : (ownU (u₀ (F := F)) : sProp 𝕄)
    ⊢ |={Set.univ}=> iprop(BI.own (EH (Rounds.initOf (K (F := F)).hsCells (K (F := F)).hsToks)) ∗ (bigSep Finset.univ fun _ : Dev nD => iprop(emp))
        ∗ bigSep Finset.univ fun thr : Thread nD τ => bigSep Finset.univ fun q : Fin 1 => (P m h).x q thr) := by
  unfold u₀
  iintro Hu
  ihave H := (ownU_pair (Rounds.initOf (K (F := F)).hsCells (K (F := F)).hsToks) (1 : Counters)) $$ Hu
  icases H with ⟨HH, -⟩
  imodintro
  isplitl [HH]; · iexact HH
  isplitr; · rw [bigSep_nothing]; iempintro
  rw [show (bigSep Finset.univ fun thr : Thread nD τ => bigSep Finset.univ fun q : Fin 1 => (P (F := F) m h).x q thr) = bigSep Finset.univ fun _ => iprop(emp) from
    bigSep_congr fun _ _ => bigSep_univ_of_subsingleton (0 : Fin 1), bigSep_nothing]
  iempintro

/-! ## The program on the host's thread -/

theorem st_eq (h : PreOK m) (d : Dev nD) : (bigSep Finset.univ fun c : Fin ((K (F := F)).nCore 0) => (P m h).st 0 d c)
    = iprop(lent d fullShare (tab0 m d) (slots m d) (wts m d) ∗ oLoc d ↦{fullShare} m (oLoc d)) :=
  (bigSep_cores (F := F) (fun c => coreIn m d c (m (oLoc d)))).trans (cores_whole m d _)
theorem dn_eq (h : PreOK m) (d : Dev nD) : (bigSep Finset.univ fun c : Fin ((K (F := F)).nCore 0) => (P m h).dn 0 d c)
    = iprop(lent d fullShare (tab0 m d) (slots m d) (wts m d) ∗ oLoc d ↦{fullShare} result m h d) :=
  (bigSep_cores (F := F) (fun c => coreIn m d c (result m h d))).trans (cores_whole m d _)

/-- What the program leaves for the claims: the arguments at their launch contents, the result combined. -/
abbrev FIN (h : PreOK m) (d : Dev nD) : sProp 𝕄 :=
  iprop((fLoc d ↦{fullShare} tab0 m d) ∗ (ciLoc d ↦{fullShare} m (ciLoc d)) ∗ (wtLoc d ↦{fullShare} m (wtLoc d)) ∗ oLoc d ↦{fullShare} result m h d)

theorem hmain (h : PreOK m) (κ : GSem nD τ sig → ℕ) (d : Dev nD) :
    iprop((K (F := F)).ctx EH (P m h) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m h d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := op1) (S := arrays) h1 (V := W0 m d)) $$ [Hb Hheld]
  · isplitl [Hb] <;> iassumption
  iintro ⟨Hb, Hheld⟩
  rw [wp_ret]; imodintro
  iapply (wp_hlo_within 𝒱 (SparseCore.T d) none Set.univ (op := op2) (S := arrays) h2 (V := (op1 (F := F)).result (W0 m d))) $$ [Hb Hheld]
  · isplitl [Hb] <;> iassumption
  iintro ⟨Hb, Hheld⟩
  rw [wp_ret]; imodintro
  iapply (wp_hlo_within 𝒱 (SparseCore.T d) none Set.univ (op := op3) (S := arrays) h3 (V := (op2 (F := F)).result ((op1 (F := F)).result (W0 m d)))) $$ [Hb Hheld]
  · isplitl [Hb] <;> iassumption
  iintro ⟨Hb, Hheld⟩
  rw [wp_ret]; imodintro
  iapply (wp_hlo_within 𝒱 (SparseCore.T d) none Set.univ (op := op4) (S := arrays) h4 (V := (op3 (F := F)).result ((op2 (F := F)).result ((op1 (F := F)).result (W0 m d))))) $$ [Hb Hheld]
  · isplitl [Hb] <;> iassumption
  iintro ⟨Hb, Hheld⟩
  rw [wp_ret]; imodintro
  ihave Hh := (Entails.of_eq (held_before (F := F) m d)) $$ Hheld
  icases Hh with ⟨Hf, Hci, Hwt, H0, H1, H2, H3, Ho⟩
  iapply ((K (F := F)).wp_run (D (F := F)) 𝒱 (EH := EH) (P := P m h) κ d 0) $$ [Hst Hf Hci Hwt H0 H1 H2 H3 Ho Hb Hts]
  isplitr; · iexact Hctx
  isplitl [Hst]; · iexact Hst
  isplitl [Hf H1 H3 Ho]
  · rw [st_eq]
    isplitr [Ho]
    · isplitl [Hf]; · iexact Hf
      isplitl [H1]; · iexact H1
      iexact H3
    iexact Ho
  iintro ⟨Hst, Hdn⟩
  ihave Hdn' := (Entails.of_eq (dn_eq m h d)) $$ Hdn
  icases Hdn' with ⟨⟨Hf, -, -⟩, Ho⟩
  imodintro
  isplitl [Hst]; · iexact Hst
  isplitr [Hb Hts]
  · isplitl [Hf]; · iexact Hf
    isplitl [Hci]; · iexact Hci
    isplitl [Hwt]; · iexact Hwt
    iexact Ho
  isplitl [Hb] <;> iassumption

/-- What the claims read of the final memory of device `d`. -/
def fq (h : PreOK m) (d : Dev nD) (s' : Phys nD τ sig (Elt F)) : Prop :=
  s'.mem.mem (fLoc d) = m (fLoc d) ∧ s'.mem.mem (ciLoc d) = m (ciLoc d) ∧ s'.mem.mem (wtLoc d) = m (wtLoc d) ∧ s'.mem.mem (oLoc d) = result m h d

omit [FloatOps F] in
/-- An array held whole is what the memory holds. -/
theorem agree (s' : Phys nD τ sig (Elt F)) (ℓ : Loc nD τ sig) (f : Buf (Elt F) ℓ) :
    iprop(SI s' ∗ ℓ ↦{fullShare} f) ⊢ (iprop(⌜s'.mem.mem ℓ = f⌝ ∗ SI s') : sProp 𝕄) := by
  iintro H
  ihave H := (persistent_entails_right (SI_pointsTo_agree (st := s') (ℓ := ℓ) (I := Finset.univ) (q := fullShare) (f := f))) $$ H
  icases H with ⟨%e, HSI, -⟩
  isplitr; · ipureintro; exact funext fun i => e i (Finset.mem_univ i)
  iexact HSI

theorem hfin (h : PreOK m) (d : Dev nD) (s' : Phys nD τ sig (Elt F)) : iprop(FIN m h d ∗ SI s') ⊢ (⌜fq m h d s'⌝ : sProp 𝕄) := by
  iintro ⟨⟨Hf, Hci, Hwt, Ho⟩, HSI⟩
  ihave H := (agree s' (fLoc d) (m (fLoc d))) $$ [HSI Hf]
  · isplitl [HSI] <;> iassumption
  icases H with ⟨%e1, HSI⟩
  ihave H := (agree s' (ciLoc d) (m (ciLoc d))) $$ [HSI Hci]
  · isplitl [HSI] <;> iassumption
  icases H with ⟨%e2, HSI⟩
  ihave H := (agree s' (wtLoc d) (m (wtLoc d))) $$ [HSI Hwt]
  · isplitl [HSI] <;> iassumption
  icases H with ⟨%e3, HSI⟩
  ihave H := (agree s' (oLoc d) (result m h d)) $$ [HSI Ho]
  · isplitl [HSI] <;> iassumption
  icases H with ⟨%e4, -⟩
  ipureintro; exact ⟨e1, e2, e3, e4⟩

/-- What every run of the program ends in. -/
def QC (h : PreOK m) : PUnit × MemSt nD τ sig (Elt F) → Prop := fun r =>
  (∀ d : Dev nD, r.2.mem (fLoc d) = m (fLoc d) ∧ r.2.mem (ciLoc d) = m (ciLoc d) ∧ r.2.mem (wtLoc d) = m (wtLoc d) ∧ r.2.mem (oLoc d) = result m h d) ∧ r.2.sem = fun _ => 0

theorem run_main [∀ e, Nonempty (Elt F e)] (h : PreOK m) :
    θ_run (Cert.KernelIdeal.defs (F := F)) (Cert.KernelIdeal.threads (F := F)) ⟨m, fun _ => 0, ρ⟩ (QC m h) :=
  SparseCore.Cfg.θ_run_sc_quiescent (K := K (F := F)) (D := D (F := F)) (𝒱 := 𝒱) (EH := EH) (P := P m h) (A := ∅) facts v₀
    (fun q hq => match q with | 0 => nomatch hq)
    (fun q _ => match q with | 0 => tileObl m facts h)
    (fun q _ => match q with | 0 => SparseCore.Cfg.VecSplit.of_plain (vecSplit m h))
    m ρ main (fun _ => iprop(emp)) (FIN m h) (u₀ (F := F)) (sep_elim_left.trans (hu₀ m h)) (hmain m ρ h) (fq m h) (hfin m h) (QC m h) (fun _ h hz => ⟨h, hz⟩)

end Cert.Proof.Combine

end
-- ==== Proof.Combine.Ref.lean ====
/-
  What the reference computes, read element by element: row `t` of its result is the two table rows that the slots of
  token `t` name, each scaled by its weight, added. It is the kernel's result.
-/
module

public import proofs.«01_k».proof.Proof.Combine.Main
public import proofs.«01_k».proof.Proof.Gen.ReferenceIdeal.Run
public import proofs.«01_k».proof.Proof.Gen.Pre_pre
public import Idealize.ShloMosaic.Lib.Routing.Ops
public import Idealize.ShloMosaic.Lib.ReduceAll

@[expose] public section

noncomputable section

namespace Cert.Proof.Combine

open Idealize.ShloMosaic Idealize.ShloMosaic.ValueIdx Idealize.SL.Sem
open Cert.ReferenceIdeal Cert.ReferenceIdeal.Gen

variable {F : FTy → Type} [FloatOps F]

/-! ## The slots are table rows -/

/-- A word that is at least zero and below 6144, both read signed, is below 6144 read unsigned. -/
theorem slot_lt (v : BitVec 32) (e : IntOp.andi (IntOp.cmpi .sge v 0#32) (IntOp.cmpi .slt v 6144#32) = 1#1) : v.toNat < 6144 := by
  have hb : ∀ b c : Bool, IntOp.andi (BitVec.ofBool b) (BitVec.ofBool c) = 1#1 → b = true ∧ c = true := by decide
  obtain ⟨h0, h1⟩ := hb _ _ e
  have h0 : (0#32).sle v = true := h0
  have h1 : v.slt 6144#32 = true := h1
  rw [BitVec.sle_eq_decide, decide_eq_true_eq] at h0
  rw [BitVec.slt_eq_decide, decide_eq_true_eq] at h1
  rw [BitVec.toInt_eq_toNat_cond] at h0 h1
  simp only [BitVec.toInt_eq_toNat_cond, BitVec.toNat_ofNat, Nat.reducePow, Nat.reduceMod] at h0 h1
  have := v.isLt
  split at h1 <;> omega

/-- The precondition says that every slot is a row of the table. -/
theorem slots_of_pre (x0 : FVec F Cert.Pre_pre.S6144x768 .f32) (x1 : IVec Cert.Pre_pre.S2x2048 32) (x2 : FVec F Cert.Pre_pre.S2x2048 .f32)
    (h : Cert.Pre_pre.fn (F := F) x0 x1 x2 = fun _ => 1#1) (i : Cert.Pre_pre.S2x2048.Idx) : (x1 i).toNat < 6144 := by
  haveI : Subsingleton Cert.Pre_pre.S_.Idx := ⟨fun a b => funext fun k => k.elim0⟩
  refine slot_lt _ ?_
  exact Host.reduce_andi_all _ _ _ _ ix0 (congrFun h ix0) i

/-! ## One of the two terms -/

/-- The reference's choice of a row: a negative slot counts from the table's end. -/
abbrev chosen (l : IVec S2048 32) : IVec S2048 32 :=
  select (cmpi .slt l (broadcastInDim S2048 ![] bcast_S_S2048 (constantI S_ 32 0#32))) (addi l (broadcastInDim S2048 ![] bcast_S_S2048 (constantI S_ 32 6144#32))) l

/-- A slot that is a table row is chosen as it stands. -/
theorem chosen_apply (l : IVec S2048 32) (t : Fin 2048) (h : (l (ix1 t)).toNat < 6144) : chosen l (ix1 t) = l (ix1 t) := by
  show Scalar.select (IntOp.cmpi .slt (l (ix1 t)) 0#32) (IntOp.addi (l (ix1 t)) 6144#32) (l (ix1 t)) = l (ix1 t)
  have hc : (l (ix1 t)).slt 0#32 = false := by
    rw [BitVec.slt_eq_decide, decide_eq_false_iff_not, BitVec.toInt_eq_toNat_cond, BitVec.toInt_eq_toNat_cond]
    simp only [BitVec.toNat_ofNat, Nat.reducePow, Nat.reduceMod]
    split <;> omega
  have hz : IntOp.cmpi .slt (l (ix1 t)) 0#32 = 0#1 := by show BitVec.ofBool _ = _; rw [hc]; rfl
  rw [hz]; rfl

/-- Row `e` of a pair of lists. -/
theorem row_apply {α : Type} (e : Fin 2) (x : S2x2048.Idx → α) (hs : S2x2048.Slices ![e.val, 0] S1x2048) (t : Fin 2048) :
    shapeCast S2048 (extractStridedSlice S1x2048 ![e.val, 0] x hs) shapeCasts_S1x2048_S2048 (ix1 t) = x (ix2 e t) := by
  refine (Routing.cast21 (a := 1) (b := 2048) (n := 2048) _ _ (0 : Fin 1) t t (by show t.val = 0 * 2048 + t.val; omega)).trans ?_
  refine extractStridedSlice_apply _ _ _ _ _ fun a => ?_
  match a with
  | 0 => show e.val = e.val + 0; omega
  | 1 => show t.val = 0 + t.val; omega

/-- A list as a column reads, in row `t`, the list's word `t`. -/
theorem column_apply {α : Type} (y : S2048.Idx → α) (t : Fin 2048) : broadcastInDim S2048x1 ![0] bcast_S2048_S2048x1_0 y (ix2 t (0 : Fin 1)) = y (ix1 t) := by
  refine broadcastInDim_apply _ _ _ _ _ fun a => ?_
  match a with
  | 0 => show t.val = if (2048 : ℕ) = 1 then 0 else t.val; rw [if_neg (by decide)]

/-- A list spread over the columns reads, in row `t`, the list's word `t`. -/
theorem spread_apply {α : Type} (y : S2048.Idx → α) (t : Fin 2048) (j : Fin 768) :
    broadcastInDim S2048x768 ![0, 1] bcast_S2048x1_S2048x768_0_1 (broadcastInDim S2048x1 ![0] bcast_S2048_S2048x1_0 y) (ix2 t j) = y (ix1 t) := by
  refine (broadcastInDim_apply _ _ _ _ (ix2 t (0 : Fin 1)) fun a => ?_).trans (column_apply y t)
  match a with
  | 0 => show t.val = if (2048 : ℕ) = 1 then 0 else t.val; rw [if_neg (by decide)]
  | 1 => show (0 : ℕ) = if (1 : ℕ) = 1 then 0 else j.val; rw [if_pos rfl]

/-- The table row that the list names. -/
theorem taken_apply {α : Type} (tab : S6144x768.Idx → α) (l : IVec S2048 32) (t : Fin 2048) (j : Fin 768) (h : (l (ix1 t)).toNat < 6144) :
    Host.gather gather_S6144x768_S2048x1_S2048x768_1_0_n_n_0_1_1768 tab (broadcastInDim S2048x1 ![0] bcast_S2048_S2048x1_0 (chosen l)) (ix2 t j)
      = tab (ix2 ⟨(l (ix1 t)).toNat, h⟩ j) := by
  have e : broadcastInDim S2048x1 ![0] bcast_S2048_S2048x1_0 (chosen l) (ix2 t (0 : Fin 1)) = BitVec.ofNat 32 (⟨(l (ix1 t)).toNat, h⟩ : Fin 6144).val := by
    rw [column_apply, chosen_apply l t h]
    exact BitVec.eq_of_toNat_eq (by rw [BitVec.toNat_ofNat]; exact (Nat.mod_eq_of_lt (l (ix1 t)).isLt).symm)
  exact Routing.gather_row gather_S6144x768_S2048x1_S2048x768_1_0_n_n_0_1_1768 rfl rfl rfl rfl rfl tab _ t j _ e (by norm_num)

/-- One term of the reference's sum at token `t`, column `j`: the row that the slot names, times the weight. -/
theorem term_apply (tab : FVec F S6144x768 .f32) (l : IVec S2048 32) (w : FVec F S2048 .f32) (t : Fin 2048) (j : Fin 768) (h : (l (ix1 t)).toNat < 6144) :
    mulf (Host.gather gather_S6144x768_S2048x1_S2048x768_1_0_n_n_0_1_1768 tab (broadcastInDim S2048x1 ![0] bcast_S2048_S2048x1_0 (chosen l)))
        (broadcastInDim S2048x768 ![0, 1] bcast_S2048x1_S2048x768_0_1 (broadcastInDim S2048x1 ![0] bcast_S2048_S2048x1_0 w)) (ix2 t j)
      = FloatOps.mulf (tab (ix2 ⟨(l (ix1 t)).toNat, h⟩ j)) (w (ix1 t)) :=
  congr (congrArg FloatOps.mulf (taken_apply tab l t j h)) (spread_apply w t j)

/-- One row of the reference's slots. -/
abbrev listAt {α : Type} (e : Fin 2) (hs : S2x2048.Slices ![e.val, 0] S1x2048) (x : S2x2048.Idx → α) : S2048.Idx → α :=
  shapeCast S2048 (extractStridedSlice S1x2048 ![e.val, 0] x hs) shapeCasts_S1x2048_S2048

/-- One term of the reference's sum, as it is computed from the pairs of lists. -/
abbrev termOf (e : Fin 2) (hs : S2x2048.Slices ![e.val, 0] S1x2048) (tab : FVec F S6144x768 .f32) (ci : IVec S2x2048 32) (wt : FVec F S2x2048 .f32) : FVec F S2048x768 .f32 :=
  mulf (Host.gather gather_S6144x768_S2048x1_S2048x768_1_0_n_n_0_1_1768 tab (broadcastInDim S2048x1 ![0] bcast_S2048_S2048x1_0 (chosen (listAt e hs ci))))
    (broadcastInDim S2048x768 ![0, 1] bcast_S2048x1_S2048x768_0_1 (broadcastInDim S2048x1 ![0] bcast_S2048_S2048x1_0 (listAt e hs wt)))

theorem termOf_apply (e : Fin 2) (hs : S2x2048.Slices ![e.val, 0] S1x2048) (tab : FVec F S6144x768 .f32) (ci : IVec S2x2048 32) (wt : FVec F S2x2048 .f32)
    (t : Fin 2048) (j : Fin 768) (h : (ci (ix2 e t)).toNat < 6144) :
    termOf e hs tab ci wt (ix2 t j) = FloatOps.mulf (tab (ix2 ⟨(ci (ix2 e t)).toNat, h⟩ j)) (wt (ix2 e t)) := by
  have hl : listAt e hs ci (ix1 t) = ci (ix2 e t) := row_apply e ci hs t
  have hlt : (listAt e hs ci (ix1 t)).toNat < 6144 := by rw [hl]; exact h
  refine (term_apply tab _ _ t j hlt).trans ?_
  have hx : (⟨(listAt e hs ci (ix1 t)).toNat, hlt⟩ : Fin 6144) = ⟨(ci (ix2 e t)).toNat, h⟩ := Fin.ext (congrArg BitVec.toNat hl)
  rw [hx, show listAt e hs wt (ix1 t) = wt (ix2 e t) from row_apply e wt hs t]

/-! ## The kernel's result is the reference's -/

/-- The kernel's combined rows are the reference's sum of two terms. -/
theorem combined_eq_sum (tab : FVec F S6144x768 .f32) (ci : IVec S2x2048 32) (wt : FVec F S2x2048 .f32) (h : ∀ x, (ci x).toNat < 6144)
    (hc : ∀ x, (dealt ci x).toNat < 6144) :
    combined tab (dealt ci) (dealt wt) hc
      = addf (termOf (0 : Fin 2) slices_S2x2048_S1x2048_0_0 tab ci wt) (termOf (1 : Fin 2) slices_S2x2048_S1x2048_1_0 tab ci wt) := by
  funext p
  obtain ⟨t, j, rfl⟩ : ∃ (t : Fin 2048) (j : Fin 768), p = ix2 t j := ⟨p 0, p 1, funext fun a => by match a with | 0 => rfl | 1 => rfl⟩
  have ht := t.isLt
  show combinedAt tab (dealt ci) (dealt wt) hc ⟨t.val / 64, _⟩ ⟨t.val % 64, _⟩ j = FloatOps.addf (termOf _ _ tab ci wt (ix2 t j)) (termOf _ _ tab ci wt (ix2 t j))
  rw [termOf_apply _ _ _ _ _ _ _ (h _), termOf_apply _ _ _ _ _ _ _ (h _)]
  have hk : ∀ {α : Type} (x : S2x2048.Idx → α) (e : Fin 2), dealt x (ix3 (⟨t.val / 64, by omega⟩ : Fin 32) e (⟨t.val % 64, by omega⟩ : Fin 64)) = x (ix2 e t) := fun x e => by
    rw [dealt_apply]
    exact congrArg x (congrArg (ix2 e) (Fin.ext (by show 64 * (t.val / 64) + t.val % 64 = t.val; omega)))
  have hrow : ∀ e : Fin 2, tab (ix2 ⟨(dealt ci (ix3 (⟨t.val / 64, by omega⟩ : Fin 32) e (⟨t.val % 64, by omega⟩ : Fin 64))).toNat, hc _⟩ j)
      = tab (ix2 ⟨(ci (ix2 e t)).toNat, h _⟩ j) := fun e =>
    congrArg (fun r => tab (ix2 r j)) (Fin.ext (congrArg BitVec.toNat (hk ci e)))
  unfold combinedAt mix
  rw [hrow 0, hrow 1, hk wt 0, hk wt 1]

end Cert.Proof.Combine

end
-- ==== Proof.Combine.Claims.lean ====
/-
  The claims about the combining call: the two frames of the kernel and the reference's, and that kernel and reference
  compute one function.
-/
module

public import proofs.«01_k».proof.Defs
public import proofs.«01_k».proof.Proof.Combine.Ref
public import proofs.«01_k».proof.Proof.Gen.Kernel
public import Idealize.ShloMosaic.Lib.Quiescent

@[expose] public section

noncomputable section

namespace Cert.Proof.Combine

open Idealize.ShloMosaic Idealize.ShloMosaic.ValueIdx Idealize.SL.Sem

/-- The precondition as the run takes it, on float words. -/
theorem ok_bits (m : Mem Bits) (h : Cert.Pre_Kernel m) : PreOK m := fun d x => slots_of_pre _ _ _ (h d) x
/-- The precondition as the run takes it, on extended reals. -/
theorem ok_ideal (m : Mem Ideal) (h : Cert.Pre_KernelIdeal m) : PreOK m := fun d x => slots_of_pre _ _ _ (h d) x

theorem frame_kernel : Cert.quiescent_Kernel := fun m ρ h =>
  (θ_run Cert.KernelIdeal.defs _ _).mono (fun _ e => ⟨fun c => ⟨(e.1 c).1, (e.1 c).2.1, (e.1 c).2.2.1⟩, e.2⟩) (run_main (F := Bits) m ρ (ok_bits m h))

theorem frame_ideal : Cert.quiescent_KernelIdeal := fun m ρ h =>
  (θ_run Cert.KernelIdeal.defs _ _).mono (fun _ e => ⟨fun c => ⟨(e.1 c).1, (e.1 c).2.1, (e.1 c).2.2.1⟩, e.2⟩) (run_main (F := Ideal) m ρ (ok_ideal m h))

theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

theorem frame_reference_pre : Cert.quiescent_ReferenceIdeal_pre_pre := fun m ρ _ => frame_reference m ρ trivial

/-- Kernel and reference leave the same rows. -/
theorem same : Cert.algebraic_KernelIdeal_ReferenceIdeal := by
  intro m ρ m' ρ' hpre hagree
  have h := ok_ideal m hpre
  refine ⟨fun c => result m h c, (θ_run Cert.KernelIdeal.defs _ _).mono (fun _ e c => ⟨(e.1 c).2.2.2, (e.1 c).1, (e.1 c).2.1, (e.1 c).2.2.1⟩) (run_main (F := Ideal) m ρ h), ?_⟩
  refine (θ_run Cert.ReferenceIdeal.defs _ _).mono (fun _ e c => ⟨(e c).1.trans ?_, (e c).2⟩) (Cert.ReferenceIdeal.Value.run (F := Ideal) m' ρ')
  rw [(hagree c).1, (hagree c).2.1, (hagree c).2.2]
  exact (combined_eq_sum (F := Ideal) _ _ _ (fun x => h c x) _).symm

end Cert.Proof.Combine

end
-- ==== Proof.Gate.Result.lean ====
/- What the gating region leaves in its three named results: the payloads of the loaded blocks, and the blocks are the arguments. -/
module

public import proofs.«01_k».proof.Proof.Gen.GateIdeal.Value
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

namespace Cert.Gate.Result

open Cert.GateIdeal Cert.GateIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The tokens' block: the argument without its unit axis. -/
abbrev tokens : FVec Ideal S2048x768 .f32 := shapeCast S2048x768 (m ((c : Thread nD τ).loc main_arg0)) shapeCasts_S1x2048x768_S2048x768
/-- The gate's weights. -/
abbrev weights : FVec Ideal S8x768 .f32 := m ((c : Thread nD τ).loc main_arg1)
/-- The gate's bias as a column. -/
abbrev bias : FVec Ideal S8x1 .f32 := shapeCast S8x1 (m ((c : Thread nD τ).loc main_arg2)) shapeCasts_S8_S8x1

theorem block_tokens (t : Fin cfg0.N) : iblk m c 0 t = tokens m c := by
  funext y
  blk_simp [iblk]
  entry_read
  refine congrArg (tokens m c) (funext fun a => Fin.ext ?_)
  blk_simp
  rw [(by decide +kernel : ∀ (t : Fin grid0.N) a, win0_0.index t a = 0) t a]
  omega

theorem block_weights (t : Fin cfg0.N) : iblk m c 1 t = weights m c := by
  funext y
  blk_simp [iblk]
  entry_read
  refine congrArg (weights m c) (funext fun a => Fin.ext ?_)
  blk_simp
  rw [(by decide +kernel : ∀ (t : Fin grid0.N) a, win0_1.index t a = 0) t a]
  omega

theorem block_bias (t : Fin cfg0.N) : iblk m c 2 t = bias m c := by
  funext y
  blk_simp [iblk]
  entry_read
  refine congrArg (bias m c) (funext fun a => Fin.ext ?_)
  blk_simp
  rw [(by decide +kernel : ∀ (t : Fin grid0.N) a, win0_2.index t a = 0) t a]
  omega

theorem after_shares (t : Fin cfg0.N) : (dats m 0 c).after 4 t = k0_pay7 (F := Ideal) (tokens m c) (weights m c) (bias m c) := by
  rw [after0_4]
  unfold outsAt0
  dsimp only
  frame_out
  simp only [read_unread_whole]
  rw [block_tokens, block_weights, block_bias]

theorem after_balance (t : Fin cfg0.N) : (dats m 0 c).after 6 t
    = fun _ : S1x1.Idx => k0_pay8 (F := Ideal) (k0_pay1 (F := Ideal) (tokens m c) (weights m c) (bias m c)) (k0_pay2 (F := Ideal) (tokens m c) (weights m c) (bias m c)) := by
  rw [after0_6]
  unfold outsAt0
  dsimp only
  frame_out
  simp only [read_unread_whole]
  rw [block_tokens, block_weights, block_bias]
  rfl

theorem after_counts (t : Fin cfg0.N) : (dats m 0 c).after 7 t
    = k0_pay13 (F := Ideal) (k0_pay9 (F := Ideal) (k0_pay3 (F := Ideal) (tokens m c) (weights m c) (bias m c)) (k0_pay6 (F := Ideal) (tokens m c) (weights m c) (bias m c))) := by
  rw [after0_7]
  unfold outsAt0
  dsimp only
  frame_out
  simp only [read_unread_whole]
  rw [block_tokens, block_weights, block_bias]
  rfl

theorem array_shares : (dats m 0 c).arrAt 4 cfg0.N = k0_pay7 (F := Ideal) (tokens m c) (weights m c) (bias m c) := by
  refine (dats m 0 c).arrAt_eq_of_after_last 4 t0_0 (by decide +kernel) _ fun j => ?_
  rw [after_shares]
  blk_simp

theorem array_balance : (dats m 0 c).arrAt 6 cfg0.N
    = fun _ : S1x1.Idx => k0_pay8 (F := Ideal) (k0_pay1 (F := Ideal) (tokens m c) (weights m c) (bias m c)) (k0_pay2 (F := Ideal) (tokens m c) (weights m c) (bias m c)) := by
  refine (dats m 0 c).arrAt_eq_of_after_last 6 t0_0 (by decide +kernel) _ fun j => ?_
  rw [after_balance]
  rfl

theorem array_counts : (dats m 0 c).arrAt 7 cfg0.N
    = k0_pay13 (F := Ideal) (k0_pay9 (F := Ideal) (k0_pay3 (F := Ideal) (tokens m c) (weights m c) (bias m c)) (k0_pay6 (F := Ideal) (tokens m c) (weights m c) (bias m c))) := by
  refine (dats m 0 c).arrAt_eq_of_after_last 7 t0_0 (by decide +kernel) _ fun j => ?_
  rw [after_counts]
  blk_simp

end Cert.Gate.Result

end
-- ==== Proof.Gate.Choice.lean ====
/- The two greatest of eight extended reals: the places that two rounds of "the greatest, the lowest place that holds it" pick are
   the first two of the places sorted from the greatest down, the lower place first of two equal entries. -/
module

public import Idealize.ShloMosaic.PureOps
public import Idealize.ShloMosaic.PureOps.Ideal.Laws
public import Idealize.ShloMosaic.Lib.SortPrefix
public import Mathlib.Data.Finset.Fold

@[expose] public section

noncomputable section

namespace Cert.Gate.Choice

open Idealize.ShloMosaic

/-- The place `p` holds the greatest entry of `f`, and no lower place does. -/
def First (f : Fin 8 → EReal) (p : Fin 8) : Prop := (∀ q, f q ≤ f p) ∧ ∀ q, q < p → f q < f p

theorem exists_first (f : Fin 8 → EReal) : ∃ p, First f p := by
  classical
  obtain ⟨a, ha⟩ := Finite.exists_max f
  have hne : (Finset.univ.filter fun p => ∀ q, f q ≤ f p).Nonempty := ⟨a, by simpa using ha⟩
  refine ⟨_, (Finset.mem_filter.mp (Finset.min'_mem _ hne)).2, fun q hq => ?_⟩
  refine lt_of_le_of_ne ((Finset.mem_filter.mp (Finset.min'_mem _ hne)).2 q) fun e => ?_
  refine absurd (Finset.min'_le _ q (Finset.mem_filter.mpr ⟨Finset.mem_univ _, fun r => ?_⟩)) (not_le.mpr hq)
  rw [e]
  exact (Finset.mem_filter.mp (Finset.min'_mem _ hne)).2 r

/-- The greatest entry, as a fold. -/
theorem First.fold_max {f : Fin 8 → EReal} {p : Fin 8} (h : First f p) : Finset.univ.fold max ⊥ f = f p :=
  le_antisymm (Finset.fold_max_le (f p) |>.mpr ⟨bot_le, fun q _ => h.1 q⟩)
    (Finset.le_fold_max (f p) |>.mpr (Or.inr ⟨p, Finset.mem_univ _, le_rfl⟩))

/-- The least of the numbers of the places marked, eight standing for a place not marked. -/
theorem fold_min_word : ∀ (p : Fin 8) (b : Fin 8 → Bool), b p = true → (∀ q, q < p → b q = false) →
    Finset.univ.fold IntOp.minsi (2147483647#32) (fun e : Fin 8 => if b e = true then BitVec.ofNat 32 e.val else 8#32)
      = BitVec.ofNat 32 p.val := by
  decide +kernel

/-- One round's pick: the least number of a place that holds the greatest entry. -/
theorem First.pick {f : Fin 8 → EReal} {p : Fin 8} (h : First f p) :
    Finset.univ.fold IntOp.minsi (2147483647#32)
      (fun e : Fin 8 => if f e = Finset.univ.fold max ⊥ f then BitVec.ofNat 32 e.val else 8#32) = BitVec.ofNat 32 p.val := by
  rw [h.fold_max]
  have := fold_min_word p (fun e => decide (f e = f p)) (by simp) fun q hq => by simpa using (h.2 q hq).ne
  simpa using this

/-- `f` with the place `p` overwritten by the least extended real. -/
def without (f : Fin 8 → EReal) (p : Fin 8) : Fin 8 → EReal := fun e => if e = p then ⊥ else f e

theorem without_self (f : Fin 8 → EReal) (p : Fin 8) : without f p p = ⊥ := if_pos rfl
theorem without_of_ne (f : Fin 8 → EReal) {p e : Fin 8} (h : e ≠ p) : without f p e = f e := if_neg h

/-- The second pick differs from the first. -/
theorem second_ne {f : Fin 8 → EReal} (hf : ∀ e, f e ≠ ⊥) {p q : Fin 8} (hq : First (without f p) q) : q ≠ p := by
  rintro rfl
  obtain ⟨r, hr⟩ : ∃ r : Fin 8, r ≠ q := exists_ne q
  have h := hq.1 r
  rw [without_self, without_of_ne f hr, le_bot_iff] at h
  exact hf r h

/-- Sorting a list in which no later element sorts strictly before an earlier one that ties with it: a relation that also breaks the
    ties by the list's own order sorts it alike. -/
theorem stableSort_ties {ι : Type} (R R' : ι → ι → Bool) (l : List ι) (h : l.Pairwise fun a b => R b a = R' b a) :
    stableSort R l = stableSort R' l := by
  induction l with
  | nil => rfl
  | cons a l ih =>
    rw [List.pairwise_cons] at h
    unfold stableSort
    rw [ih h.2]
    exact insertBefore_congr R R' a _ fun b hb => h.1 b ((perm_stableSort R' l).mem_iff.mp hb)

/-- From the greatest entry down. -/
def down (f : Fin 8 → EReal) (k k' : Fin 8) : Bool := decide (f k' < f k)
/-- From the greatest entry down, the lower place first of two equal entries. -/
def downThenPlace (f : Fin 8 → EReal) (k k' : Fin 8) : Bool := decide (f k' < f k) || (decide (f k = f k') && decide (k < k'))

theorem sortedFrom_down (f : Fin 8 → EReal) : sortedFrom (down f) = sortedFrom (downThenPlace f) := by
  have h : sortPositions 8 (down f) = sortPositions 8 (downThenPlace f) := by
    unfold sortPositions
    refine stableSort_ties _ _ _ ((List.pairwise_lt_finRange 8).imp fun {a b} hab => ?_)
    unfold down downThenPlace
    simp [not_lt.mpr hab.le]
  funext k
  unfold sortedFrom
  rw [List.get_of_eq h]
  rfl

theorem strict_downThenPlace (f : Fin 8 → EReal) : StrictTotalBefore (downThenPlace f) :=
  StrictTotalBefore.of_key_then_position (fun a b : EReal => decide (b < a)) f (fun a => by simp)
    (fun a b c hab hbc => by simp only [decide_eq_true_eq] at *; exact hbc.trans hab)
    (fun a b => by
      simp only [decide_eq_true_eq]
      rcases lt_trichotomy a b with h | h | h
      · exact Or.inr (Or.inr h)
      · exact Or.inr (Or.inl h)
      · exact Or.inl h)

/-- No other place sorts before the first pick. -/
theorem not_before_first {f : Fin 8 → EReal} {p r : Fin 8} (hp : First f p) : downThenPlace f r p = false := by
  unfold downThenPlace
  rw [Bool.or_eq_false_iff, Bool.and_eq_false_iff]
  refine ⟨decide_eq_false (not_lt.mpr (hp.1 r)), ?_⟩
  by_cases h : r < p
  · exact Or.inl (decide_eq_false (hp.2 r h).ne)
  · exact Or.inr (decide_eq_false h)

/-- No place but the first pick sorts before the second. -/
theorem not_before_second {f : Fin 8 → EReal} (hf : ∀ e, f e ≠ ⊥) {p q r : Fin 8} (hq : First (without f p) q) (hr : r ≠ p) :
    downThenPlace f r q = false := by
  have hqp := second_ne hf hq
  have h := not_before_first (r := r) hq
  unfold downThenPlace at h ⊢
  rwa [without_of_ne f hr, without_of_ne f hqp] at h

/-- The first two places of the sort are the two picks. -/
theorem sortedFrom_picks {f : Fin 8 → EReal} (hf : ∀ e, f e ≠ ⊥) {p q : Fin 8} (hp : First f p) (hq : First (without f p) q)
    (i : Fin 2) : sortedFrom (down f) (i.castLE (by decide)) = (![p, q] : Fin 2 → Fin 8) i := by
  have hqp := second_ne hf hq
  rw [sortedFrom_down]
  refine (strict_downThenPlace f).sortedFrom_eq_of_prefix (by decide) ![p, q] ?_ ?_ ?_ i
  · intro a b hab
    fin_cases a <;> fin_cases b <;> simp_all
  · intro a b hab
    fin_cases a <;> fin_cases b <;> first | exact absurd hab (by decide) | exact not_before_first hp
  · intro a r hr
    have h0 : r ≠ p := fun e => hr 0 e.symm
    fin_cases a
    · exact not_before_first hp
    · exact not_before_second hf hq h0

end Cert.Gate.Choice

end
-- ==== Proof.Gate.Payloads.lean ====
/- What the gating region's named payloads are at an index, at ideal values. -/
module

public import proofs.«01_k».proof.Proof.Gen.GateIdeal.Skeleton
public import proofs.«01_k».proof.Proof.Gate.Choice
public import Idealize.ShloMosaic.Lib.Pointwise
public import Idealize.ShloMosaic.Lib.IdealHost

@[expose] public section

set_option maxRecDepth 16384

noncomputable section

namespace Cert.Gate.Value

open Cert.GateIdeal Cert.GateIdeal.Gen Idealize.ShloMosaic

/-- The word of minus infinity. -/
theorem minus_infinity : Ideal.ofBits .f32 0xFF800000#32 = ⊥ := by simp [Ideal.ofBits, Ideal.ieee]

variable (x : FVec Ideal S2048x768 .f32) (w : FVec Ideal S8x768 .f32) (b : FVec Ideal S8x1 .f32)

theorem logit_apply (e : Fin 8) (t : Fin 2048) :
    k0_pay1 (F := Ideal) x w b (ix2 e t) = ∑ k : Fin 768, w (ix2 e k) * x (ix2 t k) + b (ix2 e 0) := by
  pointwise [k0_pay1]

theorem top_apply (t : Fin 2048) :
    k0_pay2 (F := Ideal) x w b (ix2 0 t) = Finset.univ.fold max ⊥ fun e : Fin 8 => k0_pay1 (F := Ideal) x w b (ix2 e t) := by
  pointwise [k0_pay2]
  rw [minus_infinity]

theorem second_top_apply (t : Fin 2048) :
    k0_pay5 (F := Ideal) x w b (ix2 0 t) = Finset.univ.fold max ⊥ fun e : Fin 8 => k0_pay4 (F := Ideal) x w b (ix2 e t) := by
  pointwise [k0_pay5]
  rw [minus_infinity]

theorem mark_apply (e : Fin 8) (t : Fin 2048) :
    k0_pay3 (F := Ideal) x w b (ix2 e t) = IntOp.cmpi .eq (BitVec.ofNat 32 e.val) (Finset.univ.fold IntOp.minsi (2147483647#32) fun e' : Fin 8 =>
      if k0_pay1 (F := Ideal) x w b (ix2 e' t) = k0_pay2 (F := Ideal) x w b (ix2 0 t) then BitVec.ofNat 32 e'.val else 8#32) := by
  pointwise [k0_pay3]

theorem masked_apply (e : Fin 8) (t : Fin 2048) :
    k0_pay4 (F := Ideal) x w b (ix2 e t) = Scalar.select (k0_pay3 (F := Ideal) x w b (ix2 e t)) ⊥ (k0_pay1 (F := Ideal) x w b (ix2 e t)) := by
  pointwise [k0_pay4]
  rw [show Named.named (F := Ideal) κ "mask" (φ := .f32) 0xF149F2CA#32 = ⊥ from IdealRules.named_const.ideal_named_scalar _ _ _ _ rfl]

theorem second_mark_apply (e : Fin 8) (t : Fin 2048) :
    k0_pay6 (F := Ideal) x w b (ix2 e t) = IntOp.cmpi .eq (BitVec.ofNat 32 e.val) (Finset.univ.fold IntOp.minsi (2147483647#32) fun e' : Fin 8 =>
      if k0_pay4 (F := Ideal) x w b (ix2 e' t) = k0_pay5 (F := Ideal) x w b (ix2 0 t) then BitVec.ofNat 32 e'.val else 8#32) := by
  pointwise [k0_pay6]

/-- The first choice's weight. -/
theorem first_share_apply (t : Fin 2048) : k0_pay7 (F := Ideal) x w b (ix2 0 t)
    = Ideal.div 1 (1 + Ideal.exp (k0_pay5 (F := Ideal) x w b (ix2 0 t) - k0_pay2 (F := Ideal) x w b (ix2 0 t))) := by
  pointwise [k0_pay7]

/-- The second choice's weight. -/
theorem second_share_apply (t : Fin 2048) : k0_pay7 (F := Ideal) x w b (ix2 1 t)
    = 1 - Ideal.div 1 (1 + Ideal.exp (k0_pay5 (F := Ideal) x w b (ix2 0 t) - k0_pay2 (F := Ideal) x w b (ix2 0 t))) := by
  pointwise [k0_pay7]

theorem balance_eq (v7 : FVec Ideal S8x2048 .f32) (v10 : FVec Ideal S1x2048 .f32) :
    k0_pay8 (F := Ideal) v7 v10 = (∑ e : Fin 8, Ideal.div (∑ t : Fin 2048, Ideal.div (Ideal.exp (v7 (ix2 e t) - v10 (ix2 0 t)))
        (∑ e' : Fin 8, Ideal.exp (v7 (ix2 e' t) - v10 (ix2 0 t)))) (Ideal.ofBits .f32 0x45000000#32)
      * Ideal.div (∑ t : Fin 2048, Ideal.div (Ideal.exp (v7 (ix2 e t) - v10 (ix2 0 t)))
        (∑ e' : Fin 8, Ideal.exp (v7 (ix2 e' t) - v10 (ix2 0 t)))) (Ideal.ofBits .f32 0x45000000#32)) * Ideal.ofBits .f32 0x41000000#32 := by
  pointwise [k0_pay8]
  simp only [Finset.univ_unique, Finset.sum_singleton]

theorem counts_apply (a c : IVec S8x2048 1) (e : Fin 8) :
    k0_pay13 (F := Ideal) (k0_pay9 (F := Ideal) a c) (ix2 e 0)
      = ∑ t : Fin 2048, Scalar.select (IntOp.ori (a (ix2 e t)) (c (ix2 e t))) (1 : EReal) 0 := by
  pointwise [k0_pay13, k0_pay9]

/-- The logits of one token, expert by expert. -/
def row (t : Fin 2048) (e : Fin 8) : EReal := k0_pay1 (F := Ideal) x w b (ix2 e t)

/-- The word that compares the number of a place with the number of another. -/
theorem compare_places : ∀ e p : Fin 8, IntOp.cmpi .eq (BitVec.ofNat 32 e.val) (BitVec.ofNat 32 p.val) = BitVec.ofBool (decide (e = p)) := by
  decide +kernel

variable {x w b} in
theorem mark_eq {t : Fin 2048} {p : Fin 8} (hp : Choice.First (row x w b t) p) (e : Fin 8) :
    k0_pay3 (F := Ideal) x w b (ix2 e t) = BitVec.ofBool (decide (e = p)) := by
  rw [mark_apply, top_apply]
  exact (congrArg _ hp.pick).trans (compare_places e p)

variable {x w b} in
theorem masked_eq {t : Fin 2048} {p : Fin 8} (hp : Choice.First (row x w b t) p) (e : Fin 8) :
    k0_pay4 (F := Ideal) x w b (ix2 e t) = Choice.without (row x w b t) p e := by
  rw [masked_apply, mark_eq hp]
  unfold Choice.without row
  by_cases h : e = p <;> simp [h, Scalar.select]

variable {x w b} in
theorem second_mark_eq {t : Fin 2048} {p q : Fin 8} (hp : Choice.First (row x w b t) p)
    (hq : Choice.First (Choice.without (row x w b t) p) q) (e : Fin 8) : k0_pay6 (F := Ideal) x w b (ix2 e t) = BitVec.ofBool (decide (e = q)) := by
  rw [second_mark_apply, second_top_apply]
  simp only [masked_eq hp]
  exact (congrArg _ hq.pick).trans (compare_places e q)

end Cert.Gate.Value

end
-- ==== Proof.Gate.Reference.lean ====
/- The reference's two results over its logits, read at an index, at ideal values. -/
module

public import proofs.«01_k».proof.Proof.Gen.GateRefIdeal.Run
public import proofs.«01_k».proof.Proof.Gate.Choice
public import Idealize.ShloMosaic.Lib.Pointwise

@[expose] public section

set_option maxRecDepth 16384

noncomputable section

namespace Cert.Gate.Reference

open Cert.GateRefIdeal Cert.GateRefIdeal.Gen Cert.GateRefIdeal.Value Idealize.ShloMosaic

/-- The reference's logits, tokens by experts. -/
def logits (x : FVec Ideal S1x2048x768 .f32) (w : FVec Ideal S8x768 .f32) (b : FVec Ideal S8 .f32) : FVec Ideal S2048x8 .f32 :=
  addf (Host.dotGeneral dot_S2048x768_S768x8_S2048x8_1_0_0_1_n_n none (shapeCast _ x shapeCasts_S1x2048x768_S2048x768)
      (transpose S768x8 [1, 0] w transposes_S8x768_S768x8_1_0))
    (broadcastInDim S2048x8 ![0, 1] bcast_S1x8_S2048x8_0_1 (broadcastInDim S1x8 ![1] bcast_S8_S1x8_1 b))

/-- The two chosen experts of every token. -/
def chosen (l : FVec Ideal S2048x8 .f32) : IVec S2048x2 32 :=
  (Host.topK S2048x2 1 (FloatOps.cmpfTotal .gt) l sliceFits_S2048x8_S2048x2).2

/-- The logits of the two chosen experts of every token. -/
def picked (l : FVec Ideal S2048x8 .f32) : FVec Ideal S2048x2 .f32 :=
  (Host.topK S2048x2 1 (FloatOps.cmpfTotal .gt) l sliceFits_S2048x8_S2048x2).1

/-- The exponentials of the two chosen logits less the greater. -/
def pickedExpo (l : FVec Ideal S2048x8 .f32) : FVec Ideal S2048x2 .f32 :=
  Host.exp (subf (picked l) (broadcastInDim S2048x2 ![0, 1] bcast_S2048x1_S2048x2_0_1 (broadcastInDim S2048x1 ![0] bcast_S2048_S2048x1_0
    (maximumf (broadcastInDim S2048 ![] bcast_S_S2048 (constant S_ .f32 0xFF800000#32))
      (Host.reduce FloatOps.maximumf (picked l) (constant S_ .f32 0xFF800000#32) reducesTo_S2048x2_S2048_d1 h_S_)))))

/-- The weights of the two chosen experts, choices by tokens. -/
def shares (l : FVec Ideal S2048x8 .f32) : FVec Ideal S2x2048 .f32 :=
  transpose S2x2048 [1, 0] (Host.divf (pickedExpo l) (broadcastInDim S2048x2 ![0, 1] bcast_S2048x1_S2048x2_0_1
    (broadcastInDim S2048x1 ![0] bcast_S2048_S2048x1_0
      (Host.reduceAdd (pickedExpo l) (constant S_ .f32 0x00000000#32) reducesTo_S2048x2_S2048_d1 h_S_)))) transposes_S2048x2_S2x2048_1_0

/-- How often the choices name the expert `n`. -/
def count (a : IVec S2048x2 32) (n : BitVec 32) : FVec Ideal S1 .f32 :=
  broadcastInDim S1 ![] bcast_S_S1 (Host.reduceAdd (uitofp .f32 (cmpi .eq a (broadcastInDim S2048x2 ![] bcast_S_S2048x2 (constantI S_ 32 n))))
    (constant S_ .f32 0x00000000#32) reducesTo_S2048x2_S_d0_1 h_S_)

/-- The eight counts as a column. -/
def counts (a : IVec S2048x2 32) : FVec Ideal S8x1 .f32 :=
  shapeCast _ (concatenate S8 0 [⟨S1, count a 0#32⟩, ⟨S1, count a 1#32⟩, ⟨S1, count a 2#32⟩, ⟨S1, count a 3#32⟩, ⟨S1, count a 4#32⟩,
    ⟨S1, count a 5#32⟩, ⟨S1, count a 6#32⟩, ⟨S1, count a 7#32⟩] concatenates_S1_S1_S1_S1_S1_S1_S1_S1_S8_d0) shapeCasts_S8_S8x1

/-- Every token's greatest logit. -/
def top (l : FVec Ideal S2048x8 .f32) : FVec Ideal S2048 .f32 :=
  maximumf (broadcastInDim S2048 ![] bcast_S_S2048 (constant S_ .f32 0xFF800000#32))
    (Host.reduce FloatOps.maximumf l (constant S_ .f32 0xFF800000#32) reducesTo_S2048x8_S2048_d1 h_S_)

/-- The exponentials of the logits less the token's greatest. -/
def expo (l : FVec Ideal S2048x8 .f32) : FVec Ideal S2048x8 .f32 :=
  Host.exp (subf l (broadcastInDim S2048x8 ![0, 1] bcast_S2048x1_S2048x8_0_1 (broadcastInDim S2048x1 ![0] bcast_S2048_S2048x1_0 (top l))))

/-- The experts' mean probabilities. -/
def mean (l : FVec Ideal S2048x8 .f32) : FVec Ideal S8 .f32 :=
  Host.divf (Host.reduceAdd (Host.divf (expo l) (broadcastInDim S2048x8 ![0, 1] bcast_S2048x1_S2048x8_0_1
      (broadcastInDim S2048x1 ![0] bcast_S2048_S2048x1_0
        (Host.reduceAdd (expo l) (constant S_ .f32 0x00000000#32) reducesTo_S2048x8_S2048_d1 h_S_))))
      (constant S_ .f32 0x00000000#32) reducesTo_S2048x8_S8_d0 h_S_)
    (broadcastInDim S8 ![] bcast_S_S8 (constant S_ .f32 0x45000000#32))

/-- The load-balance sum. -/
def balance (l : FVec Ideal S2048x8 .f32) : FVec Ideal S1x1 .f32 :=
  shapeCast _ (mulf (Host.reduceAdd (mulf (mean l) (mean l)) (constant S_ .f32 0x00000000#32) reducesTo_S8_S_d0 h_S_)
    (constant S_ .f32 0x41000000#32)) shapeCasts_S_S1x1

variable (m : (ℓ : Loc nD τ sig) → Buf (Elt Ideal) ℓ) (c : Dev nD)

/-- The second result is the load-balance sum of the logits. -/
theorem res_balance : res_out1 m c
    = balance (logits (m ((c.tc : Thread nD τ).loc main_arg0)) (m ((c.tc : Thread nD τ).loc main_arg1)) (m ((c.tc : Thread nD τ).loc main_arg2))) := rfl

/-- The third result is the counts of the choices. -/
theorem res_counts : res_out2 m c
    = counts (chosen (logits (m ((c.tc : Thread nD τ).loc main_arg0)) (m ((c.tc : Thread nD τ).loc main_arg1)) (m ((c.tc : Thread nD τ).loc main_arg2)))) := rfl

theorem logits_apply (x : FVec Ideal S1x2048x768 .f32) (w : FVec Ideal S8x768 .f32) (b : FVec Ideal S8 .f32) (t : Fin 2048) (e : Fin 8) :
    logits x w b (ix2 t e) = ∑ k : Fin 768, x (ix3 0 t k) * w (ix2 e k) + b (ix1 e) := by
  pointwise [logits]

theorem counts_apply (a : IVec S2048x2 32) (e : Fin 8) :
    counts a (ix2 e 0) = ∑ t : Fin 2048, ∑ k : Fin 2, FloatOps.uitofp .f32 (IntOp.cmpi .eq (a (ix2 t k)) (BitVec.ofNat 32 e.val)) := by
  pointwise [counts, count]
  fin_vals e with he <;> simp only [he, Nat.reduceSub, Nat.reduceLT, ↓reduceDIte]

theorem top_apply (l : FVec Ideal S2048x8 .f32) (t : Fin 2048) :
    top l (ix1 t) = Finset.univ.fold max ⊥ fun e : Fin 8 => l (ix2 t e) := by
  pointwise [top]
  rw [show Ideal.ofBits .f32 0xFF800000#32 = ⊥ by simp [Ideal.ofBits, Ideal.ieee]]
  exact max_bot_left _

theorem expo_apply (l : FVec Ideal S2048x8 .f32) (t : Fin 2048) (e : Fin 8) :
    expo l (ix2 t e) = Ideal.exp (l (ix2 t e) - top l (ix1 t)) := by
  pointwise [expo]

theorem balance_apply (l : FVec Ideal S2048x8 .f32) :
    balance l (ix2 0 0) = (∑ e : Fin 8, Ideal.div (∑ t : Fin 2048, Ideal.div (expo l (ix2 t e)) (∑ e' : Fin 8, expo l (ix2 t e')))
        (Ideal.ofBits .f32 0x45000000#32)
      * Ideal.div (∑ t : Fin 2048, Ideal.div (expo l (ix2 t e)) (∑ e' : Fin 8, expo l (ix2 t e'))) (Ideal.ofBits .f32 0x45000000#32))
        * Ideal.ofBits .f32 0x41000000#32 := by
  pointwise [balance, mean]

/-- The numbers of the two experts that a token chooses: the first two places of its logits sorted from the greatest down. -/
theorem chosen_apply (l : FVec Ideal S2048x8 .f32) (t : Fin 2048) (i : Fin 2) :
    chosen l (ix2 t i) = BitVec.ofNat 32 (sortedFrom (Choice.down fun e => l (ix2 t e)) (i.castLE (by decide))).val := by
  unfold chosen Host.topK Host.sort2
  dsimp only
  pointwise
  have h : ∀ k : Fin 8, (ix2 t (i.castLE (by decide)) : S2048x8.Idx).along 1 k = ix2 t k := fun k => by
    funext a; fin_cases a <;> rfl
  have hr : (fun k k' : Fin 8 => FloatOps.cmpfTotal (F := Ideal) .gt (l ((ix2 t (i.castLE (by decide)) : S2048x8.Idx).along 1 k))
      (l ((ix2 t (i.castLE (by decide)) : S2048x8.Idx).along 1 k')) == 1#1) = Choice.down fun e => l (ix2 t e) := by
    funext k k'
    rw [h, h]
    unfold Choice.down
    rw [Ideal.cmpfTotal_def]
    show (BitVec.ofBool (decide (l (ix2 t k') < l (ix2 t k))) == 1#1) = decide (l (ix2 t k') < l (ix2 t k))
    cases decide (l (ix2 t k') < l (ix2 t k)) <;> rfl
  exact congrArg (fun r : Fin 8 → Fin 8 → Bool => BitVec.ofNat 32 (sortedFrom r (i.castLE (by decide))).val) hr

/-- The logit of a chosen expert. -/
theorem picked_apply (l : FVec Ideal S2048x8 .f32) (t : Fin 2048) (i : Fin 2) :
    picked l (ix2 t i) = l (ix2 t (sortedFrom (Choice.down fun e => l (ix2 t e)) (i.castLE (by decide)))) := by
  unfold picked Host.topK Host.sort2
  dsimp only
  pointwise
  have h : ∀ k : Fin 8, (ix2 t (i.castLE (by decide)) : S2048x8.Idx).along 1 k = ix2 t k := fun k => by
    funext a; fin_cases a <;> rfl
  have hr : (fun k k' : Fin 8 => FloatOps.cmpfTotal (F := Ideal) .gt (l ((ix2 t (i.castLE (by decide)) : S2048x8.Idx).along 1 k))
      (l ((ix2 t (i.castLE (by decide)) : S2048x8.Idx).along 1 k')) == 1#1) = Choice.down fun e => l (ix2 t e) := by
    funext k k'
    rw [h, h]
    unfold Choice.down
    rw [Ideal.cmpfTotal_def]
    show (BitVec.ofBool (decide (l (ix2 t k') < l (ix2 t k))) == 1#1) = decide (l (ix2 t k') < l (ix2 t k))
    cases decide (l (ix2 t k') < l (ix2 t k)) <;> rfl
  refine (congrArg l (h _)).trans ?_
  exact congrArg (fun r : Fin 8 → Fin 8 → Bool => l (ix2 t (sortedFrom r (i.castLE (by decide))))) hr

theorem pickedExpo_apply (l : FVec Ideal S2048x8 .f32) (t : Fin 2048) (i : Fin 2) :
    pickedExpo l (ix2 t i) = Ideal.exp (picked l (ix2 t i) - max (picked l (ix2 t 0)) (picked l (ix2 t 1))) := by
  pointwise [pickedExpo]
  rw [show Ideal.ofBits .f32 0xFF800000#32 = ⊥ by simp [Ideal.ofBits, Ideal.ieee], max_bot_left]
  refine congrArg (fun v => Ideal.exp (picked l (ix2 t i) - v)) ?_
  rw [show (Finset.univ : Finset (Fin 2)) = {0, 1} by decide, Finset.fold_insert (by decide), Finset.fold_singleton, max_bot_right]

theorem shares_apply (l : FVec Ideal S2048x8 .f32) (t : Fin 2048) (i : Fin 2) :
    shares l (ix2 i t) = Ideal.div (pickedExpo l (ix2 t i)) (pickedExpo l (ix2 t 0) + pickedExpo l (ix2 t 1)) := by
  pointwise [shares]
  rw [Fin.sum_univ_two]

end Cert.Gate.Reference

end
-- ==== Proof.Gate.Same.lean ====
/- The gating region and its reference compute the same weights of the choices, the same load-balance sum and the same counts of finite arguments. -/
module

public import proofs.«01_k».proof.Proof.Gate.Payloads
public import proofs.«01_k».proof.Proof.Gate.Reference
public import proofs.«01_k».proof.Proof.Gen.Pre_finite
public import Idealize.ShloMosaic.Lib.ReduceAll

@[expose] public section

set_option maxRecDepth 16384

noncomputable section

namespace Cert.Gate.Same

open Cert.GateIdeal Cert.GateIdeal.Gen Cert.Gate.Value Idealize.ShloMosaic

/-! ## Finite arguments have finite logits -/

/-- A sum of finitely many finite numbers is finite. -/
theorem sum_coe {ι : Type} (s : Finset ι) (f : ι → EReal) (h : ∀ i, ∃ r : ℝ, f i = (r : EReal)) : ∃ r : ℝ, ∑ i ∈ s, f i = (r : EReal) := by
  choose g hg using h
  refine ⟨∑ i ∈ s, g i, ?_⟩
  rw [Finset.sum_congr rfl fun i _ => hg i]
  exact (map_sum (⟨⟨Real.toEReal, EReal.coe_zero⟩, EReal.coe_add⟩ : ℝ →+ EReal) g s).symm

/-- What passes the test for a finite number is one. -/
theorem coe_of_test (v : EReal) (h : FloatOps.cmpf (F := Ideal) (φ := .f32) .olt (FloatOps.hostAbsf v) (FloatOps.ofBits .f32 0x7F800000#32) = 1#1) :
    ∃ r : ℝ, v = (r : EReal) := by
  have htop : Ideal.ofBits .f32 0x7F800000#32 = ⊤ := by simp [Ideal.ofBits, Ideal.ieee]
  have h' : BitVec.ofBool (decide (max v (-v) < Ideal.ofBits .f32 0x7F800000#32)) = 1#1 := h
  rw [htop] at h'
  induction v using EReal.rec with
  | bot => simp at h'
  | top => simp at h'
  | coe r => exact ⟨r, rfl⟩

section pre

variable (a0 : FVec Ideal S1x2048x768 .f32) (a1 : FVec Ideal S8x768 .f32) (a2 : FVec Ideal S8 .f32)

/-- The precondition says that every entry of every argument is finite. -/
theorem finite_of_pre (h : Cert.Pre_finite.fn (F := Ideal) a0 a1 a2 = fun _ => 1#1) :
    (∀ i, ∃ r : ℝ, a0 i = (r : EReal)) ∧ (∀ i, ∃ r : ℝ, a1 i = (r : EReal)) ∧ (∀ i, ∃ r : ℝ, a2 i = (r : EReal)) := by
  haveI : Subsingleton Cert.Pre_finite.S_.Idx := ⟨fun a b => funext fun k => k.elim0⟩
  have h0 := congrFun h ix0
  have hand : ∀ p q : BitVec 1, IntOp.andi p q = 1#1 → p = 1#1 ∧ q = 1#1 := by decide
  obtain ⟨h1, h2⟩ := hand _ _ h0
  obtain ⟨h3, h4⟩ := hand _ _ h1
  exact ⟨fun i => coe_of_test _ (Host.reduce_andi_all _ _ _ _ ix0 h3 i), fun i => coe_of_test _ (Host.reduce_andi_all _ _ _ _ ix0 h4 i),
    fun i => coe_of_test _ (Host.reduce_andi_all _ _ _ _ ix0 h2 i)⟩

/-- The region's logits of one token. -/
abbrev logit (t : Fin 2048) (e : Fin 8) : EReal :=
  row (shapeCast S2048x768 a0 shapeCasts_S1x2048x768_S2048x768) a1 (shapeCast S8x1 a2 shapeCasts_S8_S8x1) t e

/-- The region's logits are the reference's. -/
theorem logit_eq (t : Fin 2048) (e : Fin 8) : logit a0 a1 a2 t e = Reference.logits a0 a1 a2 (ix2 t e) := by
  rw [Reference.logits_apply]
  unfold logit row
  rw [logit_apply]
  pointwise
  simp only [mul_comm]

theorem logit_ne_bot (h : Cert.Pre_finite.fn (F := Ideal) a0 a1 a2 = fun _ => 1#1) (t : Fin 2048) (e : Fin 8) : logit a0 a1 a2 t e ≠ ⊥ := by
  obtain ⟨h0, h1, h2⟩ := finite_of_pre a0 a1 a2 h
  rw [logit_eq, Reference.logits_apply]
  obtain ⟨r, hr⟩ := sum_coe Finset.univ (fun k : Fin 768 => a0 (ix3 0 t k) * a1 (ix2 e k)) fun k => by
    obtain ⟨p, hp⟩ := h0 (ix3 0 t k)
    obtain ⟨q, hq⟩ := h1 (ix2 e k)
    exact ⟨p * q, by rw [hp, hq, EReal.coe_mul]⟩
  obtain ⟨s, hs⟩ := h2 (ix1 e)
  rw [hr, hs, ← EReal.coe_add]
  exact EReal.coe_ne_bot _

/-! ## The three results -/

/-- The load-balance sums agree. -/
theorem balance_same : (fun _ : S1x1.Idx => k0_pay8 (F := Ideal)
      (k0_pay1 (F := Ideal) (shapeCast S2048x768 a0 shapeCasts_S1x2048x768_S2048x768) a1 (shapeCast S8x1 a2 shapeCasts_S8_S8x1))
      (k0_pay2 (F := Ideal) (shapeCast S2048x768 a0 shapeCasts_S1x2048x768_S2048x768) a1 (shapeCast S8x1 a2 shapeCasts_S8_S8x1)))
    = Reference.balance (Reference.logits a0 a1 a2) := by
  have hr : ∀ t e, k0_pay1 (F := Ideal) (shapeCast S2048x768 a0 shapeCasts_S1x2048x768_S2048x768) a1 (shapeCast S8x1 a2 shapeCasts_S8_S8x1) (ix2 e t)
      = Reference.logits a0 a1 a2 (ix2 t e) := fun t e => logit_eq a0 a1 a2 t e
  funext y
  rw [show y = ix2 0 0 from by funext a; fin_cases a <;> exact Subsingleton.elim (α := Fin 1) _ _]
  rw [balance_eq, Reference.balance_apply]
  simp only [Reference.expo_apply, Reference.top_apply, top_apply, hr]

theorem logit_coe (h : Cert.Pre_finite.fn (F := Ideal) a0 a1 a2 = fun _ => 1#1) (t : Fin 2048) (e : Fin 8) : ∃ r : ℝ, logit a0 a1 a2 t e = (r : EReal) := by
  obtain ⟨h0, h1, h2⟩ := finite_of_pre a0 a1 a2 h
  rw [logit_eq, Reference.logits_apply]
  obtain ⟨r, hr⟩ := sum_coe Finset.univ (fun k : Fin 768 => a0 (ix3 0 t k) * a1 (ix2 e k)) fun k => by
    obtain ⟨p, hp⟩ := h0 (ix3 0 t k)
    obtain ⟨q, hq⟩ := h1 (ix2 e k)
    exact ⟨p * q, by rw [hp, hq, EReal.coe_mul]⟩
  obtain ⟨s, hs⟩ := h2 (ix1 e)
  exact ⟨r + s, by rw [hr, hs, EReal.coe_add]⟩

/-- The first of two weights: the exponential's share, the greater logit subtracted. -/
theorem first_weight (u v : ℝ) (h : v ≤ u) : Ideal.div 1 (1 + Ideal.exp ((v : EReal) - (u : EReal)))
    = Ideal.div (Ideal.exp ((u : EReal) - max (u : EReal) (v : EReal))) (Ideal.exp ((u : EReal) - max (u : EReal) (v : EReal)) + Ideal.exp ((v : EReal) - max (u : EReal) (v : EReal))) := by
  rw [max_eq_left (EReal.coe_le_coe_iff.mpr h), ← EReal.coe_sub, ← EReal.coe_sub, sub_self, Ideal.exp_coe, Ideal.exp_coe, Real.exp_zero, EReal.coe_one]

/-- … and the second: one less the first. -/
theorem second_weight (u v : ℝ) (h : v ≤ u) : 1 - Ideal.div 1 (1 + Ideal.exp ((v : EReal) - (u : EReal)))
    = Ideal.div (Ideal.exp ((v : EReal) - max (u : EReal) (v : EReal))) (Ideal.exp ((u : EReal) - max (u : EReal) (v : EReal)) + Ideal.exp ((v : EReal) - max (u : EReal) (v : EReal))) := by
  rw [max_eq_left (EReal.coe_le_coe_iff.mpr h), ← EReal.coe_sub, ← EReal.coe_sub, sub_self, Ideal.exp_coe, Ideal.exp_coe, Real.exp_zero, EReal.coe_one]
  have hp : (1 + Real.exp (v - u)) ≠ 0 := by positivity
  rw [show (1 : EReal) + ((Real.exp (v - u) : ℝ) : EReal) = ((1 + Real.exp (v - u) : ℝ) : EReal) by rw [EReal.coe_add, EReal.coe_one],
    Ideal.div_coe hp, Ideal.div_coe hp, one_mul, ← EReal.coe_one, ← EReal.coe_sub, ← EReal.coe_mul]
  congr 1
  field_simp
  ring

/-- The weights of the choices agree. -/
theorem shares_same (h : Cert.Pre_finite.fn (F := Ideal) a0 a1 a2 = fun _ => 1#1) :
    k0_pay7 (F := Ideal) (shapeCast S2048x768 a0 shapeCasts_S1x2048x768_S2048x768) a1 (shapeCast S8x1 a2 shapeCasts_S8_S8x1)
    = Reference.shares (Reference.logits a0 a1 a2) := by
  funext y
  obtain ⟨i, t, rfl⟩ : ∃ (i : Fin 2) (t : Fin 2048), y = ix2 i t := ⟨y 0, y 1, by funext a; fin_cases a <;> rfl⟩
  obtain ⟨p, hp⟩ := Choice.exists_first (logit a0 a1 a2 t)
  obtain ⟨q, hq⟩ := Choice.exists_first (Choice.without (logit a0 a1 a2 t) p)
  have hne := Choice.second_ne (logit_ne_bot a0 a1 a2 h t) hq
  have hsort := Choice.sortedFrom_picks (logit_ne_bot a0 a1 a2 h t) hp hq
  have hrow : (fun e => Reference.logits a0 a1 a2 (ix2 t e)) = logit a0 a1 a2 t := funext fun e => (logit_eq a0 a1 a2 t e).symm
  have hpick : ∀ k : Fin 2, Reference.picked (Reference.logits a0 a1 a2) (ix2 t k) = logit a0 a1 a2 t ((![p, q] : Fin 2 → Fin 8) k) := fun k => by
    rw [Reference.picked_apply, hrow, hsort k, ← logit_eq]
  have h1 : k0_pay2 (F := Ideal) (shapeCast S2048x768 a0 shapeCasts_S1x2048x768_S2048x768) a1 (shapeCast S8x1 a2 shapeCasts_S8_S8x1) (ix2 0 t) = logit a0 a1 a2 t p :=
    (top_apply _ _ _ t).trans hp.fold_max
  have h2 : k0_pay5 (F := Ideal) (shapeCast S2048x768 a0 shapeCasts_S1x2048x768_S2048x768) a1 (shapeCast S8x1 a2 shapeCasts_S8_S8x1) (ix2 0 t) = logit a0 a1 a2 t q := by
    rw [second_top_apply]
    simp only [masked_eq hp]
    exact hq.fold_max.trans (Choice.without_of_ne _ hne)
  obtain ⟨u, hu⟩ := logit_coe a0 a1 a2 h t p
  obtain ⟨v, hv⟩ := logit_coe a0 a1 a2 h t q
  have hle : v ≤ u := by
    have := hp.1 q
    rwa [hu, hv, EReal.coe_le_coe_iff] at this
  rw [Reference.shares_apply, Reference.pickedExpo_apply, Reference.pickedExpo_apply, Reference.pickedExpo_apply]
  simp only [hpick]
  fin_cases i
  · refine (first_share_apply _ _ _ t).trans ?_
    rw [h1, h2]
    show _ = Ideal.div (Ideal.exp (logit a0 a1 a2 t p - max (logit a0 a1 a2 t p) (logit a0 a1 a2 t q)))
      (Ideal.exp (logit a0 a1 a2 t p - max (logit a0 a1 a2 t p) (logit a0 a1 a2 t q)) + Ideal.exp (logit a0 a1 a2 t q - max (logit a0 a1 a2 t p) (logit a0 a1 a2 t q)))
    rw [hu, hv]
    exact first_weight u v hle
  · refine (second_share_apply _ _ _ t).trans ?_
    rw [h1, h2]
    show _ = Ideal.div (Ideal.exp (logit a0 a1 a2 t q - max (logit a0 a1 a2 t p) (logit a0 a1 a2 t q)))
      (Ideal.exp (logit a0 a1 a2 t p - max (logit a0 a1 a2 t p) (logit a0 a1 a2 t q)) + Ideal.exp (logit a0 a1 a2 t q - max (logit a0 a1 a2 t p) (logit a0 a1 a2 t q)))
    rw [hu, hv]
    exact second_weight u v hle

/-- A mark as a number. -/
theorem number_of_mark (u : Bool) : FloatOps.uitofp (F := Ideal) .f32 (BitVec.ofBool u) = if u = true then (1 : EReal) else 0 := by
  cases u
  · show (((0 : ℕ) : ℝ) : EReal) = 0
    simp
  · show (((1 : ℕ) : ℝ) : EReal) = 1
    simp

/-- One expert's part of one token's two choices, as the region marks it and as the reference counts it. -/
theorem part_same (e p q : Fin 8) (h : q ≠ p) :
    Scalar.select (IntOp.ori (BitVec.ofBool (decide (e = p))) (BitVec.ofBool (decide (e = q)))) (1 : EReal) 0
      = FloatOps.uitofp (F := Ideal) .f32 (BitVec.ofBool (decide (p = e))) + FloatOps.uitofp (F := Ideal) .f32 (BitVec.ofBool (decide (q = e))) := by
  rw [number_of_mark, number_of_mark]
  by_cases hp : e = p
  · subst hp
    simp [h, Ne.symm h, Scalar.select, IntOp.ori]
  · by_cases hq : e = q
    · subst hq
      simp [h, Ne.symm h, Scalar.select, IntOp.ori]
    · simp [hp, hq, Ne.symm hp, Ne.symm hq, Scalar.select, IntOp.ori]

/-- The counts agree. -/
theorem counts_same (h : Cert.Pre_finite.fn (F := Ideal) a0 a1 a2 = fun _ => 1#1) :
    k0_pay13 (F := Ideal) (k0_pay9 (F := Ideal)
      (k0_pay3 (F := Ideal) (shapeCast S2048x768 a0 shapeCasts_S1x2048x768_S2048x768) a1 (shapeCast S8x1 a2 shapeCasts_S8_S8x1))
      (k0_pay6 (F := Ideal) (shapeCast S2048x768 a0 shapeCasts_S1x2048x768_S2048x768) a1 (shapeCast S8x1 a2 shapeCasts_S8_S8x1)))
    = Reference.counts (Reference.chosen (Reference.logits a0 a1 a2)) := by
  funext y
  obtain ⟨e, rfl⟩ : ∃ e : Fin 8, y = ix2 e 0 :=
    ⟨y 0, by
      funext a
      fin_cases a
      · rfl
      · exact Subsingleton.elim (α := Fin 1) _ _⟩
  rw [Value.counts_apply, Reference.counts_apply]
  refine Finset.sum_congr rfl fun t _ => ?_
  obtain ⟨p, hp⟩ := Choice.exists_first (logit a0 a1 a2 t)
  obtain ⟨q, hq⟩ := Choice.exists_first (Choice.without (logit a0 a1 a2 t) p)
  have hne := Choice.second_ne (logit_ne_bot a0 a1 a2 h t) hq
  rw [mark_eq hp, second_mark_eq hp hq, part_same e p q hne, Fin.sum_univ_two]
  have hsort := Choice.sortedFrom_picks (logit_ne_bot a0 a1 a2 h t) hp hq
  have hrow : (fun e => Reference.logits a0 a1 a2 (ix2 t e)) = logit a0 a1 a2 t := funext fun e => (logit_eq a0 a1 a2 t e).symm
  rw [Reference.chosen_apply, Reference.chosen_apply, hrow, hsort 0, hsort 1]
  rw [← compare_places, ← compare_places]
  rfl

end pre

end Cert.Gate.Same

end
-- ==== Proof.Gate.Claims.lean ====
/-
  The claims about the gating call: the frames of the call and of its reference, that the call read at ideal values keeps the
  printed call but for one named constant, and that call and reference compute the same three results.
-/
module

public import proofs.«01_k».proof.Defs
public import proofs.«01_k».proof.Proof.Gate.Result
public import proofs.«01_k».proof.Proof.Gate.Same
public import proofs.«01_k».proof.Proof.Gen.Gate
public import proofs.«01_k».proof.Proof.Gen.Gate.Frame
public import proofs.«01_k».proof.Proof.Gen.GateIdeal
public import proofs.«01_k».proof.Proof.Gen.GateIdeal.Value
public import proofs.«01_k».proof.Proof.Gen.GateRefIdeal
public import proofs.«01_k».proof.Proof.Gen.GateRefIdeal.Run
public import proofs.«01_k».proof.Proof.Gen.Pre_finite
public import Idealize.ShloMosaic.Lib.Quiescent

@[expose] public section

noncomputable section

namespace Cert.Proof.Gating

open Idealize.ShloMosaic Idealize.SL.Sem

theorem frame_gate : Cert.quiescent_Gate := fun m ρ _ => Cert.Gate.Gen.frame m ρ

theorem frame_ideal : Cert.quiescent_GateIdeal := fun m ρ _ => Cert.GateIdeal.Gen.frame m ρ

theorem frame_ideal_finite : Cert.quiescent_GateIdeal_pre_finite := fun m ρ _ => Cert.GateIdeal.Gen.frame m ρ

theorem frame_reference : Cert.quiescent_GateRefIdeal := fun m ρ _ =>
  (θ_run Cert.GateRefIdeal.defs _ _).mono (fun r h => ⟨fun c => (h c).2.2.2, Idealize.ShloMosaic.sem_eq_zero_of_no_sems (by decide) r.2⟩)
    (Cert.GateRefIdeal.Value.run (F := Ideal) m ρ)

theorem frame_reference_finite : Cert.quiescent_GateRefIdeal_pre_finite := fun m ρ _ => frame_reference m ρ trivial

theorem keeps : Cert.preserves_Gate_GateIdeal := IdealRules.named_const.statement Cert.GateIdeal.κ "mask" .f32 0xF149F2CA#32 ⊥ rfl

/-- Call and reference leave the same weights of the choices, the same load-balance sum and the same counts. -/
theorem same : Cert.algebraic_GateIdeal_GateRefIdeal_pre_finite := by
  intro m ρ m' ρ' hpre hagree
  refine ⟨fun c => (Cert.GateIdeal.Gen.dats m 0 c).arrAt 4 Cert.GateIdeal.cfg0.N, fun c => (Cert.GateIdeal.Gen.dats m 0 c).arrAt 6 Cert.GateIdeal.cfg0.N, fun c => (Cert.GateIdeal.Gen.dats m 0 c).arrAt 7 Cert.GateIdeal.cfg0.N,
    (θ_run Cert.GateIdeal.defs _ _).mono (fun _ e c => ⟨(e c).2.1, (e c).2.2.2⟩) (Cert.GateIdeal.Value.run_blocks (F := Ideal) m ρ), ?_⟩
  refine (θ_run Cert.GateRefIdeal.defs _ _).mono (fun _ e c => ⟨(e c).1.trans ?_, (e c).2.1.trans ?_, (e c).2.2.1.trans ?_, (e c).2.2.2⟩)
    (Cert.GateRefIdeal.Value.run (F := Ideal) m' ρ')
  · show Cert.Gate.Reference.shares (Cert.Gate.Reference.logits _ _ _) = _
    rw [(hagree c).1, (hagree c).2.1, (hagree c).2.2]
    exact ((Cert.Gate.Result.array_shares m c).trans (Cert.Gate.Same.shares_same _ _ _ (hpre c))).symm
  · refine (Cert.Gate.Reference.res_balance m' c).trans ?_
    rw [(hagree c).1, (hagree c).2.1, (hagree c).2.2]
    exact ((Cert.Gate.Result.array_balance m c).trans (Cert.Gate.Same.balance_same _ _ _)).symm
  · refine (Cert.Gate.Reference.res_counts m' c).trans ?_
    rw [(hagree c).1, (hagree c).2.1, (hagree c).2.2]
    exact ((Cert.Gate.Result.array_counts m c).trans (Cert.Gate.Same.counts_same _ _ _ (hpre c))).symm

end Cert.Proof.Gating

end
-- ==== Proof.Experts.BodyIdeal.lean ====
/- One point of the experts' call: what the kernel's body does to the buffers it is called with, whatever
   the tables hold. Also the tables as the region finds them, and each input's block. -/
module

public import proofs.«01_k».proof.Proof.Gen.ExpertsIdeal.Launch
public import proofs.«01_k».proof.Proof.Gen.ExpertsIdeal.Skeleton
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp
public import Idealize.ShloMosaic.Lib.Claim
public import Idealize.ShloMosaic.Lib.VecWindow

@[expose] public section

set_option maxRecDepth 16384

noncomputable section

namespace Cert.ExpertsIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.ExpertsIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## Up to the region -/

/-- The core's buffers when the region is entered. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- A buffer neither reshape writes is found as launched. -/
theorem V_of_ne (c : Dev nD) (b : Ref sig .tc) (h0 : b ≠ main_v0) (h1 : b ≠ main_v1) :
    V m c b = m ((c : Thread nD τ).loc b) :=
  StableHlo.after_of_forall_not_mem (b := Proc.devRef .tc b) _ _ (List.forall_iff_forall_mem.mp (by
    simp only [hostOps0, List.Forall, StableHlo.reshape_writes, Finset.mem_singleton]
    exact ⟨StableHlo.devRef_ne_of_ne h0, StableHlo.devRef_ne_of_ne h1⟩))

/-! ## The tables -/

/-- What the three tables hold. -/
def tbl : pre0.Contents (Elt F) := fun j => V m (0 : Dev nD) (pre0.ref j)

theorem V_pre (c : Dev nD) (j : Fin 3) : V m c (pre0.ref j) = tbl m j := by
  obtain rfl : c = 0 := Subsingleton.elim _ _
  rfl

abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- The share of table `j` the body reads through. -/
abbrev tabPt (c : Dev nD) (M : Memref sig .tc .smem S24 .i32) (f : Buf (Elt F) (M.view.loc (c : Thread nD τ))) : sProp 𝕄 :=
  M.view.loc (c : Thread nD τ) ↦{fullShare.right} f

theorem PhiT0_eq (c : Dev nD) :
    (Pipeline.ΦT pre0 (tbl m) c : sProp 𝕄)
      = iprop(tabPt c (Memref.whole main_arg0) (tbl m 0) ∗ tabPt c (Memref.whole main_arg1) (tbl m 1) ∗ tabPt c (Memref.whole main_arg2) (tbl m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-- The number of blocks in use, as the body reads it. -/
def nrW : BitVec 32 := (tbl m).atD 2 ![0]

/-! ## The body -/

set_option maxHeartbeats 1600000 in
theorem body_run (c : Dev nD) (i : grid0.Coords)
    (arg1 : Memref sig .tc .smem S24 .i32) (harg1 : arg1.IsWhole) (arg2 : Memref sig .tc .smem S24 .i32) (harg2 : arg2.IsWhole)
    (arg4 : Memref sig .tc .vmem S256x768 .f32) (harg4 : arg4.IsWhole) (arg5 : Memref sig .tc .vmem S1x3072x768 .f32) (harg5 : arg5.IsWhole)
    (arg6 : Memref sig .tc .vmem S1x1x3072 .f32) (harg6 : arg6.IsWhole) (arg7 : Memref sig .tc .vmem S1x768x3072 .f32) (harg7 : arg7.IsWhole)
    (arg8 : Memref sig .tc .vmem S1x1x768 .f32) (harg8 : arg8.IsWhole) (arg9 : Memref sig .tc .vmem S256x768 .f32) (harg9 : arg9.IsWhole)
    (x4 : Vec F S256x768 .f32) (x5 : Vec F S1x3072x768 .f32) (x6 : Vec F S1x1x3072 .f32) (x7 : Vec F S1x768x3072 .f32) (x8 : Vec F S1x1x768 .f32)
    (y : Vec F S256x768 .f32) (E : Set ℕ) (K : PUnit → sProp 𝕄) :
    iprop(tabPt c (Memref.whole main_arg2) (tbl m 2)
        ∗ owns (c : Thread nD τ) arg4 fullShare x4 ∗ owns (c : Thread nD τ) arg5 fullShare x5 ∗ owns (c : Thread nD τ) arg6 fullShare x6
        ∗ owns (c : Thread nD τ) arg7 fullShare x7 ∗ owns (c : Thread nD τ) arg8 fullShare x8 ∗ owns (c : Thread nD τ) arg9 fullShare y
        ∗ (iprop(tabPt c (Memref.whole main_arg2) (tbl m 2)
            ∗ owns (c : Thread nD τ) arg4 fullShare x4 ∗ owns (c : Thread nD τ) arg5 fullShare x5 ∗ owns (c : Thread nD τ) arg6 fullShare x6
            ∗ owns (c : Thread nD τ) arg7 fullShare x7 ∗ owns (c : Thread nD τ) arg8 fullShare x8
            ∗ owns (c : Thread nD τ) arg9 fullShare (if k0_cond1 i (nrW m) = 1#1 then k0_pay1 x4 x5 x6 x7 x8 else y)) -∗ K ⟨⟩))
      ⊢ wp frame (wpE (defs₀ (F := F)) Variants.none c none) E
          (cc0__gffn_body i arg1 harg1 arg2 harg2 (Memref.whole main_arg2) (Memref.isWhole_whole _) arg4 harg4 arg5 harg5 arg6 harg6 arg7 harg7 arg8 harg8 arg9 harg9) K := by
  simp only [cc0__gffn_body_eq_skeleton]; unfold cc0__gffn_body_skel
  unfold owns
  iintro ⟨HT, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg4.eq_unread hf4; obtain rfl := harg5.eq_unread hf5; obtain rfl := harg6.eq_unread hf6
  obtain rfl := harg7.eq_unread hf7; obtain rfl := harg8.eq_unread hf8; obtain rfl := harg9.eq_unread hf9
  sl_exec
  sl_step
  iapply Hk
  isplitl [HT]; · iexact HT
  isplitl [H4]; · iexists _; isplitr; · ipureintro; exact harg4.read_unread _
                  iexact H4
  isplitl [H5]; · iexists _; isplitr; · ipureintro; exact harg5.read_unread _
                  iexact H5
  isplitl [H6]; · iexists _; isplitr; · ipureintro; exact harg6.read_unread _
                  iexact H6
  isplitl [H7]; · iexists _; isplitr; · ipureintro; exact harg7.read_unread _
                  iexact H7
  isplitl [H8]; · iexists _; isplitr; · ipureintro; exact harg8.read_unread _
                  iexact H8
  iexists _; isplitr
  swap; · iexact H9
  ipureintro
  have hw : body_run.sl.r m = nrW m := rfl
  rw [hw]
  by_cases hc : k0_cond1 i (nrW m) = 1#1
  · rw [dif_pos hc, if_pos hc, View.readAt_full, View.readAt_full, View.readAt_full, View.readAt_full, View.readAt_full,
      hf4, hf5, hf6, hf7, hf8, ← View.readAt_full arg9.view _ inb_S256x768_S256x768_0_0, View.readAt_writes_full]
  · rw [dif_neg hc, if_neg hc, hf9]

end Cert.ExpertsIdeal.Own
-- ==== Proof.Experts.FrameIdeal.lean ====
/- The experts' call keeps its arguments, whenever the blocks its tables name lie in the arrays: what
   it leaves in its output is not said here. -/
module

public import proofs.«01_k».proof.Proof.Experts.BodyIdeal

@[expose] public section

set_option maxRecDepth 16384

noncomputable section

namespace Cert.ExpertsIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.ExpertsIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg) (hO : Ok m)

/-- Window `w`'s block at point `t`, read off its array as the region finds it. -/
def iblk (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (V m c (Pipeline.arrRef spec0 w))

/-- What the body computes from the blocks at point `t`. -/
def pay (c : Dev nD) (t : Fin (cfgM m hO).N) : Vec F S256x768 .f32 :=
  k0_pay1 (iblk m hO c 0 t) (iblk m hO c 1 t) (iblk m hO c 2 t) (iblk m hO c 3 t) (iblk m hO c 4 t)

/-- The proof data, at a choice `o` of what the output's buffer holds after each point. -/
def dats (o : Dev nD → Fin (cfgM m hO).N → Vec F S256x768 .f32) (_ : Fin 1) (c : Dev nD) :
    Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => o c t
  Φ _ := iprop(Pipeline.ΦA spec0 c ∗ Pipeline.ΦT pre0 (tbl m) c)
  q _ := fullShare
  owed _ := 0

variable (o : Dev nD → Fin (cfgM m hO).N → Vec F S256x768 .f32)

theorem A_eq (c : Dev nD) (w : Fin (cfgM m hO).W) : (dats m hO o 0 c).A w = V m c (Pipeline.arrRef spec0 w) := by
  dsimp only [dats]

theorem Phi_eq (c : Dev nD) (t) : (dats m hO o 0 c).Φ t = (iprop(Pipeline.ΦA spec0 c ∗ Pipeline.ΦT pre0 (tbl m) c) : sProp 𝕄) := by
  dsimp only [dats]

theorem after_0 (c : Dev nD) (t : Fin (cfgM m hO).N) : (dats m hO o 0 c).after 0 t = iblk m hO c 0 t := by dsimp only [dats]; rfl
theorem after_1 (c : Dev nD) (t : Fin (cfgM m hO).N) : (dats m hO o 0 c).after 1 t = iblk m hO c 1 t := by dsimp only [dats]; rfl
theorem after_2 (c : Dev nD) (t : Fin (cfgM m hO).N) : (dats m hO o 0 c).after 2 t = iblk m hO c 2 t := by dsimp only [dats]; rfl
theorem after_3 (c : Dev nD) (t : Fin (cfgM m hO).N) : (dats m hO o 0 c).after 3 t = iblk m hO c 3 t := by dsimp only [dats]; rfl
theorem after_4 (c : Dev nD) (t : Fin (cfgM m hO).N) : (dats m hO o 0 c).after 4 t = iblk m hO c 4 t := by dsimp only [dats]; rfl
theorem after_5 (c : Dev nD) (t : Fin (cfgM m hO).N) : (dats m hO o 0 c).after 5 t = o c t := by dsimp only [dats]; rfl

theorem before_0 (c : Dev nD) (t : Fin (cfgM m hO).N) (d) : (dats m hO o 0 c).before 0 t d = iblk m hO c 0 t :=
  ((dats m hO o 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin (cfgM m hO).N) (d) : (dats m hO o 0 c).before 1 t d = iblk m hO c 1 t :=
  ((dats m hO o 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin (cfgM m hO).N) (d) : (dats m hO o 0 c).before 2 t d = iblk m hO c 2 t :=
  ((dats m hO o 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin (cfgM m hO).N) (d) : (dats m hO o 0 c).before 3 t d = iblk m hO c 3 t :=
  ((dats m hO o 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin (cfgM m hO).N) (d) : (dats m hO o 0 c).before 4 t d = iblk m hO c 4 t :=
  ((dats m hO o 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)

/-- Each window's buffer at point `t`. -/
abbrev ms_0 (t : Fin (cfgM m hO).N) : Memref sig .tc .vmem S256x768 .f32 := spec0_0.stage ((cfgM m hO).slots t 0)
abbrev ms_1 (t : Fin (cfgM m hO).N) : Memref sig .tc .vmem S1x3072x768 .f32 := spec0_1.stage ((cfgM m hO).slots t 1)
abbrev ms_2 (t : Fin (cfgM m hO).N) : Memref sig .tc .vmem S1x1x3072 .f32 := spec0_2.stage ((cfgM m hO).slots t 2)
abbrev ms_3 (t : Fin (cfgM m hO).N) : Memref sig .tc .vmem S1x768x3072 .f32 := spec0_3.stage ((cfgM m hO).slots t 3)
abbrev ms_4 (t : Fin (cfgM m hO).N) : Memref sig .tc .vmem S1x1x768 .f32 := spec0_4.stage ((cfgM m hO).slots t 4)
abbrev ms_5 (t : Fin (cfgM m hO).N) : Memref sig .tc .vmem S256x768 .f32 := spec0_5.stage ((cfgM m hO).slots t 5)

/-- The body as it is called at point `t`. -/
abbrev bodyAt (t : Fin (cfgM m hO).N) : Prog (TpuEff nD τ sig (Elt F) Λ₀ .tc) PUnit :=
  cc0__gffn_body (grid0.coords t) (Memref.whole main_arg0) (Memref.isWhole_whole _) (Memref.whole main_arg1) (Memref.isWhole_whole _) (Memref.whole main_arg2) (Memref.isWhole_whole _)
    (ms_0 m hO t) (hstage0_0 (((cfgM m hO).slots t 0).cast nbuf0_0)) (ms_1 m hO t) (hstage0_1 (((cfgM m hO).slots t 1).cast nbuf0_1))
    (ms_2 m hO t) (hstage0_2 (((cfgM m hO).slots t 2).cast nbuf0_2)) (ms_3 m hO t) (hstage0_3 (((cfgM m hO).slots t 3).cast nbuf0_3))
    (ms_4 m hO t) (hstage0_4 (((cfgM m hO).slots t 4).cast nbuf0_4)) (ms_5 m hO t) (hstage0_5 (((cfgM m hO).slots t 5).cast nbuf0_5))

theorem defs₀_row (t : Fin (cfgM m hO).N) :
    defs₀ (F := F) .tc (cfgM m hO).body ((cfgM m hO).bodyArgs t ((cfgM m hO).slots t)) = bodyAt m hO t := by
  unfold defs₀; rw [Defs.onTc_tc]

set_option maxHeartbeats 800000 in
/-- The body at point `t`, the output's buffer holding `y`. -/
theorem sound (c : Dev nD) (t : Fin (cfgM m hO).N) (y : Vec F S256x768 .f32) (K : PUnit → sProp 𝕄) :
    iprop((Pipeline.ΦA spec0 c ∗ Pipeline.ΦT pre0 (tbl m) c) ∗ (dats m hO o 0 c).owesAt () t.castSucc
        ∗ owns (c : Thread nD τ) (ms_0 m hO t) fullShare (iblk m hO c 0 t) ∗ owns (c : Thread nD τ) (ms_1 m hO t) fullShare (iblk m hO c 1 t)
        ∗ owns (c : Thread nD τ) (ms_2 m hO t) fullShare (iblk m hO c 2 t) ∗ owns (c : Thread nD τ) (ms_3 m hO t) fullShare (iblk m hO c 3 t)
        ∗ owns (c : Thread nD τ) (ms_4 m hO t) fullShare (iblk m hO c 4 t) ∗ owns (c : Thread nD τ) (ms_5 m hO t) fullShare y
        ∗ (iprop((Pipeline.ΦA spec0 c ∗ Pipeline.ΦT pre0 (tbl m) c) ∗ (dats m hO o 0 c).owesAt () t.succ
            ∗ owns (c : Thread nD τ) (ms_0 m hO t) fullShare (iblk m hO c 0 t) ∗ owns (c : Thread nD τ) (ms_1 m hO t) fullShare (iblk m hO c 1 t)
            ∗ owns (c : Thread nD τ) (ms_2 m hO t) fullShare (iblk m hO c 2 t) ∗ owns (c : Thread nD τ) (ms_3 m hO t) fullShare (iblk m hO c 3 t)
            ∗ owns (c : Thread nD τ) (ms_4 m hO t) fullShare (iblk m hO c 4 t)
            ∗ owns (c : Thread nD τ) (ms_5 m hO t) fullShare (if k0_cond1 (grid0.coords t) (nrW m) = 1#1 then pay m hO c t else y)) -∗ K ⟨⟩))
      ⊢ wp frame (wpE (defs₀ (F := F)) Variants.none c none) Set.univ (bodyAt m hO t) K := by
  rw [show (dats m hO o 0 c).owesAt () t.succ = (dats m hO o 0 c).owesAt () t.castSucc from rfl, PhiT0_eq]
  iintro ⟨⟨HA, T0, T1, T2⟩, Ho, H0, H1, H2, H3, H4, H5, Hk⟩
  iapply (body_run m c (grid0.coords t) _ _ _ _ _ _ _ _ _ _ _ _ _ _ _ _ (iblk m hO c 0 t) (iblk m hO c 1 t) (iblk m hO c 2 t) (iblk m hO c 3 t) (iblk m hO c 4 t) y Set.univ _)
  isplitl [T2]; · iexact T2
  isplitl [H0]; · iexact H0
  isplitl [H1]; · iexact H1
  isplitl [H2]; · iexact H2
  isplitl [H3]; · iexact H3
  isplitl [H4]; · iexact H4
  isplitl [H5]; · iexact H5
  iintro ⟨T2, H0, H1, H2, H3, H4, H5⟩
  iapply Hk
  isplitl [HA T0 T1 T2]
  · isplitl [HA]; · iexact HA
    isplitl [T0]; · iexact T0
    isplitl [T1]; · iexact T1
    iexact T2
  isplitl [Ho]; · iexact Ho
  isplitl [H0]; · iexact H0
  isplitl [H1]; · iexact H1
  isplitl [H2]; · iexact H2
  isplitl [H3]; · iexact H3
  isplitl [H4]; · iexact H4
  iexact H5

/-! ## The frame -/

/-- The output's window is the one of which nothing is said. -/
def fgt : Fin 6 → Bool
  | ⟨5, _⟩ => true
  | _ => false

/-- Any contents: what the output's buffer holds is not followed. -/
def oAny : Dev nD → Fin (cfgM m hO).N → Vec F S256x768 .f32 := fun c t => pay m hO c t

set_option maxHeartbeats 800000 in
theorem sound_any (c : Dev nD) (t : Fin (cfgM m hO).N) :
    iprop((dats m hO (oAny m hO) 0 c).Φ t.castSucc ∗ (dats m hO (oAny m hO) 0 c).owesAt () t.castSucc
        ∗ (∃ d, owns (c : Thread nD τ) (ms_0 m hO t) fullShare ((dats m hO (oAny m hO) 0 c).before 0 t d))
        ∗ (∃ d, owns (c : Thread nD τ) (ms_1 m hO t) fullShare ((dats m hO (oAny m hO) 0 c).before 1 t d))
        ∗ (∃ d, owns (c : Thread nD τ) (ms_2 m hO t) fullShare ((dats m hO (oAny m hO) 0 c).before 2 t d))
        ∗ (∃ d, owns (c : Thread nD τ) (ms_3 m hO t) fullShare ((dats m hO (oAny m hO) 0 c).before 3 t d))
        ∗ (∃ d, owns (c : Thread nD τ) (ms_4 m hO t) fullShare ((dats m hO (oAny m hO) 0 c).before 4 t d))
        ∗ (∃ X, owns (c : Thread nD τ) (ms_5 m hO t) fullShare X))
      ⊢ (wp frame (wpE (defs₀ (F := F)) Variants.none c none) Set.univ (bodyAt m hO t) fun _ =>
        iprop((dats m hO (oAny m hO) 0 c).Φ t.succ ∗ (dats m hO (oAny m hO) 0 c).owesAt () t.succ
        ∗ owns (c : Thread nD τ) (ms_0 m hO t) fullShare ((dats m hO (oAny m hO) 0 c).after 0 t)
        ∗ owns (c : Thread nD τ) (ms_1 m hO t) fullShare ((dats m hO (oAny m hO) 0 c).after 1 t)
        ∗ owns (c : Thread nD τ) (ms_2 m hO t) fullShare ((dats m hO (oAny m hO) 0 c).after 2 t)
        ∗ owns (c : Thread nD τ) (ms_3 m hO t) fullShare ((dats m hO (oAny m hO) 0 c).after 3 t)
        ∗ owns (c : Thread nD τ) (ms_4 m hO t) fullShare ((dats m hO (oAny m hO) 0 c).after 4 t)
        ∗ (∃ X, owns (c : Thread nD τ) (ms_5 m hO t) fullShare X)) : sProp 𝕄) := by
  simp only [before_0, before_1, before_2, before_3, before_4]
  rw [after_0, after_1, after_2, after_3, after_4, Phi_eq, Phi_eq]
  iintro ⟨HΦ, Ho, ⟨%d0, H0⟩, ⟨%d1, H1⟩, ⟨%d2, H2⟩, ⟨%d3, H3⟩, ⟨%d4, H4⟩, ⟨%d5, H5⟩⟩
  iapply (sound m hO (oAny m hO) c t d5 _)
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iintro ⟨HΦ, Ho, H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexists _; iexact H5

theorem obligation_any (c : Dev nD) :
    BodyObligationLoose (dats (F := F) m hO (oAny m hO) 0 c) (defs₀ (F := F)) Variants.none () Set.univ fgt := fun t => by
  rw [bigSep_W0, bigSep_W0, defs₀_row]
  exact triple_restated (sound_any m hO c t) rfl .rfl fun _ => .rfl

set_option backward.isDefEq.respectTransparency.types false in
theorem run_any : θ_run defs (onTc (τ := τ) (main (F := F))) (s₀ m ρ)
    (fun r => Pipeline.RDat.FramePost (cfgM m hO) (fun c => (dats m hO (oAny m hO) 0 c).toRForget fgt) (V m) r ∧ r.2.sem = fun _ => 0) :=
  Pipeline.θ_run_frameP_forget (Q' := _) pcfgs (fun _ => adm m hO) (dats m hO (oAny m hO)) (0 : Fin 1) launch0 defs₀ Variants.none fgt m ρ main
    (hbody := obligation_any m hO) (hshare := fun c => (dats m hO (oAny m hO) 0 c).share_full fun _ => rfl)
    (howed := fun _ _ => rfl) (V := V m) (hmain := hmain m Variants.none) (hA := A_eq m hO (oAny m hO)) (hpf := fun c k => V_pre m c k) (hΦ := fun _ _ => rfl)

include hO in
/-- From tables whose blocks lie in the arrays the call ends, every counter at zero, its arguments as they were. -/
theorem keeps_args : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r h => ⟨fun c =>
      ⟨((h.1 c).2 main_arg0 (Pipeline.mem_restRefs_of main_arg0 rfl (show ∀ w : Fin 6, (spec0 w).arr.view.ref ≠ main_arg0 by decide))).trans (V_of_ne m c _ (by decide) (by decide)),
       ((h.1 c).2 main_arg1 (Pipeline.mem_restRefs_of main_arg1 rfl (show ∀ w : Fin 6, (spec0 w).arr.view.ref ≠ main_arg1 by decide))).trans (V_of_ne m c _ (by decide) (by decide)),
       ((h.1 c).2 main_arg2 (Pipeline.mem_restRefs_of main_arg2 rfl (show ∀ w : Fin 6, (spec0 w).arr.view.ref ≠ main_arg2 by decide))).trans (V_of_ne m c _ (by decide) (by decide)),
       (Pipeline.RDat.FramePost.arr_in h.1 c 0 rfl).trans (V_of_ne m c main_arg3 (by decide) (by decide)),
       (Pipeline.RDat.FramePost.arr_in h.1 c 1 rfl).trans (V_of_ne m c main_arg4 (by decide) (by decide)),
       ((h.1 c).2 main_arg5 (Pipeline.mem_restRefs_of main_arg5 rfl (show ∀ w : Fin 6, (spec0 w).arr.view.ref ≠ main_arg5 by decide))).trans (V_of_ne m c _ (by decide) (by decide)),
       (Pipeline.RDat.FramePost.arr_in h.1 c 3 rfl).trans (V_of_ne m c main_arg6 (by decide) (by decide)),
       ((h.1 c).2 main_arg7 (Pipeline.mem_restRefs_of main_arg7 rfl (show ∀ w : Fin 6, (spec0 w).arr.view.ref ≠ main_arg7 by decide))).trans (V_of_ne m c _ (by decide) (by decide))⟩, h.2⟩)
    (run_any m ρ hO)

end Cert.ExpertsIdeal.Own
-- ==== Proof.Experts.Tables.lean ====
/-
  What the two preconditions of the experts' call say of its tables, word by word.
-/
module

public import proofs.«01_k».proof.Proof.Gen.Pre_ranges
public import proofs.«01_k».proof.Proof.Gen.Pre_tables
public import proofs.«01_k».proof.Proof.Gen.On_used
public import Idealize.ShloMosaic.Lib.Routing.Ops
public import Idealize.ShloMosaic.Lib.ReduceAll

@[expose] public section

noncomputable section

namespace Cert.Proof.Experts

open Idealize.ShloMosaic Idealize.ShloMosaic.ValueIdx Idealize.SL.Sem

variable {F : FTy → Type} [FloatOps F]

theorem andi_bits {a b : BitVec 1} (h : IntOp.andi a b = 1#1) : a = 1#1 ∧ b = 1#1 := by revert a b; decide

/-- A word that is at least zero and below `n`, both read signed, is below `n` read unsigned. -/
theorem word_lt (v : BitVec 32) (n : Nat) (hn : n < 2 ^ 31) (e : IntOp.andi (IntOp.cmpi .sge v 0#32) (IntOp.cmpi .slt v (BitVec.ofNat 32 n)) = 1#1) : v.toNat < n := by
  obtain ⟨e0, e1⟩ := andi_bits e
  have hb : ∀ b : Bool, BitVec.ofBool b = 1#1 → b = true := by decide
  have h0 : (0#32).sle v = true := hb _ e0
  have h1 : v.slt (BitVec.ofNat 32 n) = true := hb _ e1
  rw [BitVec.sle_eq_decide, decide_eq_true_eq] at h0
  rw [BitVec.slt_eq_decide, decide_eq_true_eq] at h1
  rw [BitVec.toInt_eq_toNat_cond] at h0 h1
  have hm : n % 2 ^ 32 = n := Nat.mod_eq_of_lt (by omega)
  simp only [BitVec.toInt_eq_toNat_cond, BitVec.toNat_ofNat, hm] at h0 h1
  have := v.isLt
  split at h1 <;> split at h1 <;> omega

/-- The first word of a list, taken as a slice of one word read as a scalar. -/
theorem first_word (x : IVec (⟨1, ![24]⟩ : Shape) 32) (h : Shape.Slices (⟨1, ![24]⟩ : Shape) ![0] (⟨1, ![1]⟩ : Shape))
    (h' : Shape.ShapeCasts (⟨1, ![1]⟩ : Shape) (⟨0, ![]⟩ : Shape)) :
    (shapeCast (⟨0, ![]⟩ : Shape) (extractStridedSlice (⟨1, ![1]⟩ : Shape) ![0] x h) h') ix0 = x (ix1 0) := by
  refine congrArg x (funext fun a => ?_)
  fin_cases a
  refine Fin.ext ?_
  show 0 + _ = 0
  rw [Nat.zero_add]
  exact Nat.lt_one_iff.mp (Fin.isLt _)

/-- The tables name blocks of the activations and experts there are. -/
structure InRange (x0 x1 : IVec (⟨1, ![24]⟩ : Shape) 32) : Prop where
  block : ∀ i, (x0 i).toNat < 24
  expert : ∀ i, (x1 i).toNat < 8

theorem ranges_of (x0 x1 x2 : IVec Cert.Pre_ranges.S24 32) (x3 : FVec F Cert.Pre_ranges.S6144x768 .f32) (x4 : FVec F Cert.Pre_ranges.S8x3072x768 .f32)
    (x5 : FVec F Cert.Pre_ranges.S8x3072 .f32) (x6 : FVec F Cert.Pre_ranges.S8x768x3072 .f32) (x7 : FVec F Cert.Pre_ranges.S8x768 .f32)
    (h : Cert.Pre_ranges.fn (F := F) x0 x1 x2 x3 x4 x5 x6 x7 = fun _ => 1#1) : InRange x0 x1 := by
  haveI : Subsingleton Cert.Pre_ranges.S_.Idx := ⟨fun a b => funext fun k => k.elim0⟩
  obtain ⟨h0, h1⟩ := andi_bits (congrFun h ix0)
  exact ⟨fun i => word_lt _ 24 (by norm_num) (Host.reduce_andi_all _ _ _ _ ix0 h0 i),
    fun i => word_lt _ 8 (by norm_num) (Host.reduce_andi_all _ _ _ _ ix0 h1 i)⟩

/-- `n` blocks in use, `n` at least one: block `i` at point `i` as far as they go, the last one after that. -/
structure Laid (x0 x1 x2 : IVec (⟨1, ![24]⟩ : Shape) 32) (n : Nat) : Prop where
  count : n = (x2 (ix1 0)).toNat
  small : n < 2 ^ 31
  pos : 0 < n
  block : ∀ i : Fin 24, (x0 (ix1 i)).toNat = min i.val (n - 1)
  expert : ∀ i, (x1 i).toNat < 8

theorem Laid.inRange {x0 x1 x2 : IVec (⟨1, ![24]⟩ : Shape) 32} {n : Nat} (h : Laid x0 x1 x2 n) : InRange x0 x1 :=
  ⟨fun i => by
    obtain ⟨k, rfl⟩ : ∃ k : Fin 24, i = ix1 k := ⟨i 0, funext fun a => by fin_cases a; rfl⟩
    rw [h.block]; have := k.isLt; omega, h.expert⟩

theorem laid_of (x0 x1 x2 : IVec Cert.Pre_tables.S24 32) (x3 : FVec F Cert.Pre_tables.S6144x768 .f32) (x4 : FVec F Cert.Pre_tables.S8x3072x768 .f32)
    (x5 : FVec F Cert.Pre_tables.S8x3072 .f32) (x6 : FVec F Cert.Pre_tables.S8x768x3072 .f32) (x7 : FVec F Cert.Pre_tables.S8x768 .f32)
    (h : Cert.Pre_tables.fn (F := F) x0 x1 x2 x3 x4 x5 x6 x7 = fun _ => 1#1) : Laid x0 x1 x2 (x2 (ix1 0)).toNat := by
  haveI : Subsingleton Cert.Pre_tables.S_.Idx := ⟨fun a b => funext fun k => k.elim0⟩
  obtain ⟨h01, h2⟩ := andi_bits (congrFun h ix0)
  obtain ⟨h0, h1⟩ := andi_bits h01
  have hb : ∀ b : Bool, BitVec.ofBool b = 1#1 → b = true := by decide
  have hv := first_word x2 Cert.Pre_tables.Facts.slices_S24_S1_0 Cert.Pre_tables.Facts.shapeCasts_S1_S_
  have hn : (1#32).sle (x2 (ix1 0)) = true := by rw [← hv]; exact hb _ h0
  rw [BitVec.sle_eq_decide, decide_eq_true_eq, BitVec.toInt_eq_toNat_cond, BitVec.toInt_eq_toNat_cond] at hn
  simp only [BitVec.toNat_ofNat, Nat.reducePow, Nat.reduceMod] at hn
  have hlt := (x2 (ix1 0)).isLt
  have hn' : 0 < (x2 (ix1 0)).toNat ∧ (x2 (ix1 0)).toNat < 2 ^ 31 := by
    norm_num at hn ⊢; split at hn <;> omega
  refine ⟨rfl, hn'.2, hn'.1, fun i => ?_, fun i => word_lt _ 8 (by norm_num) (Host.reduce_andi_all _ _ _ _ ix0 h1 i)⟩
  have e : IntOp.cmpi .eq (x0 (ix1 i)) (IntOp.minsi (BitVec.ofNat 32 i.val) (IntOp.subi (x2 (ix1 0)) 1#32)) = 1#1 := by
    rw [← hv]; exact Host.reduce_andi_all _ _ _ _ ix0 h2 (ix1 i)
  have e' : x0 (ix1 i) = IntOp.minsi (BitVec.ofNat 32 i.val) (IntOp.subi (x2 (ix1 0)) 1#32) := by
    have := hb _ e
    simpa using this
  rw [e']
  have hs : (IntOp.subi (x2 (ix1 0)) 1#32).toNat = (x2 (ix1 0)).toNat - 1 := by
    show (x2 (ix1 0) - 1#32).toNat = _
    rw [BitVec.toNat_sub_of_le (by rw [BitVec.le_def]; exact hn'.1)]; rfl
  have hi : (BitVec.ofNat 32 i.val).toNat = i.val := by rw [BitVec.toNat_ofNat]; exact Nat.mod_eq_of_lt (by have := i.isLt; omega)
  have hil := i.isLt
  unfold IntOp.minsi
  rw [BitVec.slt_eq_decide, BitVec.toInt_eq_toNat_cond, BitVec.toInt_eq_toNat_cond, hs, hi]
  have c1 : 2 * i.val < 2 ^ 32 := by omega
  have c2 : 2 * ((x2 (ix1 0)).toNat - 1) < 2 ^ 32 := by omega
  rw [if_pos c1, if_pos c2]
  by_cases hd : i.val < (x2 (ix1 0)).toNat - 1
  · rw [if_pos (by rw [decide_eq_true_eq]; omega), hi]; omega
  · rw [if_neg (by rw [decide_eq_true_eq]; omega), hs]; omega

/-- Where the mask is one the row's block is in use. -/
theorem used_of {x0 x1 x2 : IVec Cert.On_used.S24 32} {n : Nat} (hl : Laid x0 x1 x2 n) (x3 : FVec F Cert.On_used.S6144x768 .f32) (x4 : FVec F Cert.On_used.S8x3072x768 .f32)
    (x5 : FVec F Cert.On_used.S8x3072 .f32) (x6 : FVec F Cert.On_used.S8x768x3072 .f32) (x7 : FVec F Cert.On_used.S8x768 .f32)
    (r : Fin 6144) (j : Fin 768) (h : Cert.On_used.fn (F := F) x0 x1 x2 x3 x4 x5 x6 x7 (ix2 r j) = 1#1) : r.val / 256 < n := by
  have hv := first_word x2 Cert.On_used.Facts.slices_S24_S1_0 Cert.On_used.Facts.shapeCasts_S1_S_
  have hr := r.isLt
  have e : IntOp.cmpi .slt (BitVec.ofNat 32 (r.val / 256)) (x2 (ix1 0)) = 1#1 := by
    rw [← hv, ← h]
    symm
    unfold Cert.On_used.fn
    refine (Routing.bcRows (n := 6144) (m := 768) Cert.On_used.Facts.bcast_S6144_S6144x1_0 Cert.On_used.Facts.bcast_S6144x1_S6144x768_0_1 _ r j).trans ?_
    refine (Routing.cast21 (a := 24) (b := 256) (n := 6144) _ _ (⟨r.val / 256, by omega⟩ : Fin 24) (⟨r.val % 256, by omega⟩ : Fin 256) r (by show r.val = r.val / 256 * 256 + r.val % 256; omega)).trans ?_
    refine (broadcastInDim_apply _ Cert.On_used.Facts.bcast_S24x1_S24x256_0_1 _ _ (ix2 (⟨r.val / 256, by omega⟩ : Fin 24) (0 : Fin 1)) fun a => ?_).trans ?_
    · fin_cases a <;> rfl
    refine congrArg₂ (IntOp.cmpi .slt) ?_ ?_
    · exact (Routing.bcCol (n := 24) Cert.On_used.Facts.bcast_S24_S24x1_0 _ (⟨r.val / 256, by omega⟩ : Fin 24)).trans rfl
    · exact Routing.bc0 Cert.On_used.Facts.bcast_S_S24x1 _ _
  have hb : ∀ b : Bool, BitVec.ofBool b = 1#1 → b = true := by decide
  have e' : (BitVec.ofNat 32 (r.val / 256)).slt (x2 (ix1 0)) = true := hb _ e
  rw [BitVec.slt_eq_decide, decide_eq_true_eq, BitVec.toInt_eq_toNat_cond, BitVec.toInt_eq_toNat_cond, ← hl.count, BitVec.toNat_ofNat,
    Nat.mod_eq_of_lt (by omega : r.val / 256 < 2 ^ 32)] at e'
  have := hl.small
  rw [if_pos (by omega), if_pos (by omega)] at e'
  omega

end Cert.Proof.Experts
-- ==== Proof.Experts.RangesIdeal.lean ====
/- The blocks the experts' call reads and writes, by the words of its tables; they lie in the arrays when
   the words are in range, and then the call keeps its arguments. -/
module

public import proofs.«01_k».proof.Proof.Experts.FrameIdeal
public import proofs.«01_k».proof.Proof.Experts.Tables

@[expose] public section

set_option maxRecDepth 16384

noncomputable section

namespace Cert.ExpertsIdeal.Own

open Idealize.ShloMosaic Idealize.ShloMosaic.TcCoe Idealize.ShloMosaic.ValueIdx
open Idealize.SL.Sem
open Cert.ExpertsIdeal.Gen Cert.ExpertsIdeal.Facts₀

variable {F : FTy → Type} [FloatOps F] [Named F]

variable (m : (ℓ : Loc nD τ sig) → Buf (Elt F) ℓ) (ρ : Dev nD → PrngReg)

/-- The tables as lists of words. -/
abbrev t0 : IVec S24 32 := m (((0 : Dev nD).tc : Thread nD τ).loc main_arg0)
abbrev t1 : IVec S24 32 := m (((0 : Dev nD).tc : Thread nD τ).loc main_arg1)
abbrev t2 : IVec S24 32 := m (((0 : Dev nD).tc : Thread nD τ).loc main_arg2)

/-- Point `i` as a place in a table. -/
abbrev at24 (i : grid0.Coords) : S24.Idx := ix1 (n := 24) (i 0)

theorem tbl_0 : tbl m 0 = t0 m := V_of_ne m 0 main_arg0 (by decide) (by decide)
theorem tbl_1 : tbl m 1 = t1 m := V_of_ne m 0 main_arg1 (by decide) (by decide)
theorem tbl_2 : tbl m 2 = t2 m := V_of_ne m 0 main_arg2 (by decide) (by decide)

theorem off_val (i : grid0.Coords) : (Scalar.indexCast (BitVec.ofNat 32 (i 0).val)).toNat = (i 0).val := by
  revert i; decide +kernel

theorem word_0 (i : grid0.Coords) :
    (tbl m).at 0 (Rect.unit (s := S24) ![(Scalar.indexCast (BitVec.ofNat 32 (i 0).val)).toNat] S1.size (Facts₀.k0_off1_inb i)) Facts₀.numel1_S1 = t0 m (at24 i) := by
  rw [← tbl_0]
  refine congrArg (tbl m 0) (funext fun a => ?_)
  fin_cases a
  exact Fin.ext ((Nat.add_zero _).trans (off_val i))
theorem word_1 (i : grid0.Coords) :
    (tbl m).at 1 (Rect.unit (s := S24) ![(Scalar.indexCast (BitVec.ofNat 32 (i 0).val)).toNat] S1.size (Facts₀.k0_off1_inb i)) Facts₀.numel1_S1 = t1 m (at24 i) := by
  rw [← tbl_1]
  refine congrArg (tbl m 1) (funext fun a => ?_)
  fin_cases a
  exact Fin.ext ((Nat.add_zero _).trans (off_val i))

theorem index_0 (i : grid0.Coords) : cc0_transform_0 Facts₀.k0_off1_inb Facts₀.numel1_S1 (tbl m) i = ![(t0 m (at24 i)).toNat, 0] := by
  rw [← word_0]; rfl
theorem index_1 (i : grid0.Coords) : cc0_transform_1 Facts₀.k0_off1_inb Facts₀.numel1_S1 (tbl m) i = ![(t1 m (at24 i)).toNat, 0, 0] := by
  rw [← word_1]; rfl
theorem index_2 (i : grid0.Coords) : cc0_transform_2 Facts₀.k0_off1_inb Facts₀.numel1_S1 (tbl m) i = ![(t1 m (at24 i)).toNat, 0, 0] := by
  rw [← word_1]; rfl
theorem index_3 (i : grid0.Coords) : cc0_transform_3 Facts₀.k0_off1_inb Facts₀.numel1_S1 (tbl m) i = ![(t1 m (at24 i)).toNat, 0, 0] := by
  rw [← word_1]; rfl
theorem index_4 (i : grid0.Coords) : cc0_transform_4 Facts₀.k0_off1_inb Facts₀.numel1_S1 (tbl m) i = ![(t1 m (at24 i)).toNat, 0, 0] := by
  rw [← word_1]; rfl
theorem index_5 (i : grid0.Coords) : cc0_transform_5 Facts₀.k0_off1_inb Facts₀.numel1_S1 (tbl m) i = ![(t0 m (at24 i)).toNat, 0] := by
  rw [← word_0]; rfl

theorem ok_of (h : Cert.Proof.Experts.InRange (t0 m) (t1 m)) : Ok m := by
  refine ⟨fun i => ⟨?_, .inl rfl⟩, fun i => ⟨?_, .inl rfl⟩, fun i => ⟨?_, .inl rfl⟩, fun i => ⟨?_, .inl rfl⟩, fun i => ⟨?_, .inl rfl⟩, fun i => ⟨?_, .inl rfl⟩⟩
  · rw [index_0]; intro a; have := h.block (at24 i)
    fin_cases a
    · show ((t0 m (at24 i)).toNat + 1) * 256 ≤ 6144; omega
    · show (0 + 1) * 768 ≤ 768; omega
  · rw [index_1]; intro a; have := h.expert (at24 i)
    fin_cases a
    · show ((t1 m (at24 i)).toNat + 1) * 1 ≤ 8; omega
    · show (0 + 1) * 3072 ≤ 3072; omega
    · show (0 + 1) * 768 ≤ 768; omega
  · rw [index_2]; intro a; have := h.expert (at24 i)
    fin_cases a
    · show ((t1 m (at24 i)).toNat + 1) * 1 ≤ 8; omega
    · show (0 + 1) * 1 ≤ 1; omega
    · show (0 + 1) * 3072 ≤ 3072; omega
  · rw [index_3]; intro a; have := h.expert (at24 i)
    fin_cases a
    · show ((t1 m (at24 i)).toNat + 1) * 1 ≤ 8; omega
    · show (0 + 1) * 768 ≤ 768; omega
    · show (0 + 1) * 3072 ≤ 3072; omega
  · rw [index_4]; intro a; have := h.expert (at24 i)
    fin_cases a
    · show ((t1 m (at24 i)).toNat + 1) * 1 ≤ 8; omega
    · show (0 + 1) * 1 ≤ 1; omega
    · show (0 + 1) * 768 ≤ 768; omega
  · rw [index_5]; intro a; have := h.block (at24 i)
    fin_cases a
    · show ((t0 m (at24 i)).toNat + 1) * 256 ≤ 6144; omega
    · show (0 + 1) * 768 ≤ 768; omega

end Cert.ExpertsIdeal.Own
-- ==== Proof.Experts.RunIdeal.lean ====
/- The experts' call run with its output followed: the output's buffer holds, after every point, what the body
   computed at the last block in use so far, and the array ends holding each block in use. -/
module

public import proofs.«01_k».proof.Proof.Experts.RangesIdeal
public import Idealize.ShloMosaic.Lib.Pipeline.ValueKit

@[expose] public section

set_option maxRecDepth 16384

noncomputable section

namespace Cert.ExpertsIdeal.Own

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.ExpertsIdeal.Gen
open Cert.Proof.Experts (Laid)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg) (hO : Ok m)
variable {n : ℕ} (hL : Laid (t0 m) (t1 m) (t2 m) n)

/-- Point `t`, or the last point of a block in use when `t` lies beyond it. -/
def upTo (n : ℕ) (t : Fin (cfgM m hO).N) : Fin (cfgM m hO).N := ⟨min t.val (n - 1), lt_of_le_of_lt (Nat.min_le_left _ _) t.isLt⟩

/-- What the output's buffer holds after point `t`. -/
def oVal (n : ℕ) (c : Dev nD) (t : Fin (cfgM m hO).N) : Vec F S256x768 .f32 := pay m hO c (upTo m hO n t)

theorem coord_val (t : Fin (cfgM m hO).N) : ((cfgM m hO).grid.coords t 0).val = t.val := by
  have h : ∀ t : Fin grid0.N, (grid0.coords t 0).val = t.val := by decide +kernel
  exact h t

theorem nrW_eq : nrW m = t2 m (ValueIdx.ix1 0) := by
  unfold nrW; rw [← tbl_2]
  unfold Pipeline.Prefetch.Contents.atD
  rw [dif_pos (by decide)]
  refine congrArg (tbl m 2) (funext fun a => ?_)
  fin_cases a; rfl

include hL in
theorem cond_iff (t : Fin (cfgM m hO).N) : k0_cond1 (grid0.coords t) (nrW m) = 1#1 ↔ t.val < n := by
  rw [nrW_eq]
  have h24 : t.val < 24 := t.isLt
  have hs := hL.small
  have hc := hL.count
  have e : k0_cond1 (grid0.coords t) (t2 m (ValueIdx.ix1 0)) = Scalar.cmpi .slt (BitVec.ofNat 32 t.val) (t2 m (ValueIdx.ix1 0)) := by
    unfold k0_cond1; dsimp only
    rw [show (grid0.coords t 0).val = t.val from coord_val m hO t]
    generalize Scalar.cmpi .slt (BitVec.ofNat 32 t.val) (t2 m (ValueIdx.ix1 0)) = b
    revert b; decide
  rw [e]
  refine IntOp.cmpi_slt.trans ?_
  rw [BitVec.toInt_eq_toNat_of_lt (by rw [BitVec.toNat_ofNat, Nat.mod_eq_of_lt (by omega)]; omega), BitVec.toInt_eq_toNat_of_lt (by omega),
    BitVec.toNat_ofNat, Nat.mod_eq_of_lt (by omega)]
  omega

theorem idle_all : (cfgM m hO).idle = idle0 (tbl m) := by
  unfold cfgM; rfl

theorem idle_5 (t : Fin (cfgM m hO).N) : (cfgM m hO).idle 5 ((cfgM m hO).grid.coords t) = !(k0_cond1 (grid0.coords t) (nrW m) == 1#1) := by
  rw [idle_all]; unfold nrW; dsimp only [idle0]; rfl

include hL in
theorem idle_iff (t : Fin (cfgM m hO).N) : (cfgM m hO).idle 5 ((cfgM m hO).grid.coords t) = true ↔ n ≤ t.val := by
  have := cond_iff m hO hL t
  rw [idle_5]; simp only [Bool.not_eq_true', beq_eq_false_iff_ne, ne_eq, this]; omega

/-- The block window 5 writes at point `t`. -/
theorem place_5 (t : Fin (cfgM m hO).N) : ((cfgM m hO).win 5).index t = ![(t0 m (at24 (grid0.coords t))).toNat, 0] :=
  index_5 m (grid0.coords t)

include hL in
theorem place_val (t : Fin (cfgM m hO).N) : ((cfgM m hO).win 5).index t = ![min t.val (n - 1), 0] := by
  rw [place_5]
  congr 1
  rw [show at24 (grid0.coords t) = ValueIdx.ix1 (n := 24) ⟨t.val, t.isLt⟩ from congrArg (ValueIdx.ix1 (n := 24)) (Fin.ext (coord_val m hO t)), hL.block]

include hL in
theorem flush_iff (t : Fin (cfgM m hO).N) : ((cfgM m hO).win 5).flush t = true ↔ t.val = 23 ∨ t.val + 1 < n := by
  have h24 : t.val < 24 := t.isLt
  have hp := hL.pos
  rw [Window.flush_eq_flushF]
  unfold Window.flushF
  rw [show ((cfgM m hO).win 5).isOut = true from rfl]
  simp only [Bool.true_and, Bool.or_eq_true, decide_eq_true_eq]
  constructor
  · rintro (h | ⟨h, a, ha⟩)
    · left; have : t.val + 1 = 24 := h; omega
    · right
      rw [place_val m hO hL, place_val m hO hL] at ha
      by_contra hn
      apply ha
      have e : min (t.val + 1) (n - 1) = min t.val (n - 1) := by omega
      show (![min (t.val + 1) (n - 1), 0] : Fin 2 → ℕ) a = (![min t.val (n - 1), 0] : Fin 2 → ℕ) a
      rw [e]
  · rintro (h | h)
    · left; show t.val + 1 = 24; omega
    · by_cases h23 : t.val = 23
      · left; show t.val + 1 = 24; omega
      · right
        refine ⟨show t.val + 1 < 24 by omega, (0 : Fin 2), ?_⟩
        rw [place_val m hO hL, place_val m hO hL]
        show min (t.val + 1) (n - 1) ≠ min t.val (n - 1)
        omega

include hL in
theorem not_fresh : ∀ (k : ℕ) (h : k < 24) (hn : n ≤ k), (cfgM m hO).fresh 5 k = false
  | 0, _, hn => absurd hL.pos (by omega)
  | k + 1, h, hn => by
    have hk : k < (cfgM m hO).N := show k < 24 by omega
    rw [(cfgM m hO).fresh_succ 5 k hk]
    have hf : ((cfgM m hO).win 5).flush ⟨k, hk⟩ = false := by
      rw [Bool.eq_false_iff]; intro e
      rcases (flush_iff m hO hL ⟨k, hk⟩).1 e with e | e
      · have : k = 23 := e; omega
      · have : k + 1 < n := e; omega
    rw [hf, Bool.false_or]
    by_cases hkn : n ≤ k
    · rw [not_fresh k (by omega) hkn, Bool.and_false]
    · rw [Bool.and_eq_false_iff]; left
      rw [Bool.eq_false_iff]; intro e
      exact hkn ((idle_iff m hO hL ⟨k, hk⟩).1 e)

include hL in
theorem upTo_pred (t : Fin (cfgM m hO).N) (h : n ≤ t.val) : upTo m hO n ⟨t.val - 1, lt_of_le_of_lt (Nat.sub_le _ _) t.isLt⟩ = upTo m hO n t := by
  have hp := hL.pos
  refine Fin.ext ?_
  show min (t.val - 1) (n - 1) = min t.val (n - 1)
  omega

include hL in
/-- Beyond the blocks in use the buffer is found as the last of them left it. -/
theorem before_5 (c : Dev nD) (t : Fin (cfgM m hO).N) (h : n ≤ t.val) (d) :
    (dats m hO (oVal m hO n) 0 c).before 5 t d = oVal m hO n c t := by
  rw [(dats m hO (oVal m hO n) 0 c).before_out_traj 5 rfl (fun _ _ => rfl) (fun t h0 hi _ => by
      rw [after_5, after_5]; unfold oVal; rw [upTo_pred m hO hL t ((idle_iff m hO hL t).1 hi)]) t.val t rfl d,
    not_fresh m hO hL t.val t.isLt h, if_neg Bool.false_ne_true, after_5]
  unfold oVal; rw [upTo_pred m hO hL t h]

theorem upTo_of_lt (t : Fin (cfgM m hO).N) (h : t.val < n) : upTo m hO n t = t :=
  Fin.ext (by show min t.val (n - 1) = t.val; omega)

set_option maxHeartbeats 800000 in
/-- The body at point `t`, whatever is wanted of the output's buffer after it. -/
theorem sound_val (c : Dev nD) (t : Fin (cfgM m hO).N) (R : sProp 𝕄)
    (hR : ∀ (d) (y : Vec F S256x768 .f32) (_ : (dats m hO (oVal m hO n) 0 c).before 5 t d = y),
      (owns (c : Thread nD τ) (ms_5 m hO t) fullShare (if k0_cond1 (grid0.coords t) (nrW m) = 1#1 then pay m hO c t else y) : sProp 𝕄) ⊢ R) :
    iprop((dats m hO (oVal m hO n) 0 c).Φ t.castSucc ∗ (dats m hO (oVal m hO n) 0 c).owesAt () t.castSucc
        ∗ (∃ d, owns (c : Thread nD τ) (ms_0 m hO t) fullShare ((dats m hO (oVal m hO n) 0 c).before 0 t d))
        ∗ (∃ d, owns (c : Thread nD τ) (ms_1 m hO t) fullShare ((dats m hO (oVal m hO n) 0 c).before 1 t d))
        ∗ (∃ d, owns (c : Thread nD τ) (ms_2 m hO t) fullShare ((dats m hO (oVal m hO n) 0 c).before 2 t d))
        ∗ (∃ d, owns (c : Thread nD τ) (ms_3 m hO t) fullShare ((dats m hO (oVal m hO n) 0 c).before 3 t d))
        ∗ (∃ d, owns (c : Thread nD τ) (ms_4 m hO t) fullShare ((dats m hO (oVal m hO n) 0 c).before 4 t d))
        ∗ (∃ d, owns (c : Thread nD τ) (ms_5 m hO t) fullShare ((dats m hO (oVal m hO n) 0 c).before 5 t d)))
      ⊢ (wp frame (wpE (defs₀ (F := F)) Variants.none c none) Set.univ (bodyAt m hO t) fun _ =>
        iprop((dats m hO (oVal m hO n) 0 c).Φ t.succ ∗ (dats m hO (oVal m hO n) 0 c).owesAt () t.succ
        ∗ owns (c : Thread nD τ) (ms_0 m hO t) fullShare ((dats m hO (oVal m hO n) 0 c).after 0 t)
        ∗ owns (c : Thread nD τ) (ms_1 m hO t) fullShare ((dats m hO (oVal m hO n) 0 c).after 1 t)
        ∗ owns (c : Thread nD τ) (ms_2 m hO t) fullShare ((dats m hO (oVal m hO n) 0 c).after 2 t)
        ∗ owns (c : Thread nD τ) (ms_3 m hO t) fullShare ((dats m hO (oVal m hO n) 0 c).after 3 t)
        ∗ owns (c : Thread nD τ) (ms_4 m hO t) fullShare ((dats m hO (oVal m hO n) 0 c).after 4 t)
        ∗ R) : sProp 𝕄) := by
  simp only [before_0, before_1, before_2, before_3, before_4]
  rw [after_0, after_1, after_2, after_3, after_4, Phi_eq, Phi_eq]
  iintro ⟨HΦ, Ho, ⟨%d0, H0⟩, ⟨%d1, H1⟩, ⟨%d2, H2⟩, ⟨%d3, H3⟩, ⟨%d4, H4⟩, ⟨%d5, H5⟩⟩
  iapply (sound m hO (oVal m hO n) c t ((dats m hO (oVal m hO n) 0 c).before 5 t d5) _)
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iintro ⟨HΦ, Ho, H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iapply (hR d5 _ rfl); iexact H5

include hL in
theorem obligation_val (c : Dev nD) :
    BodyObligation (dats (F := F) m hO (oVal m hO n) 0 c) (defs₀ (F := F)) Variants.none () Set.univ := fun t => by
  rw [bigSep_W0, bigSep_W0, defs₀_row]
  by_cases h : t.val < n
  · have hi : (cfgM m hO).idle (5 : Fin 6) ((cfgM m hO).grid.coords t) = false := by
      rw [Bool.eq_false_iff]; intro e; have := (idle_iff m hO hL t).1 e; omega
    rw [hi]
    refine triple_restated (sound_val (n := n) m hO c t _ fun d y hy => ?_) rfl .rfl fun _ => .rfl
    rw [if_pos ((cond_iff m hO hL t).2 h), after_5]; unfold oVal; rw [upTo_of_lt m hO t h]
  · have hi : (cfgM m hO).idle (5 : Fin 6) ((cfgM m hO).grid.coords t) = true := (idle_iff m hO hL t).2 (by omega)
    rw [hi]
    cases hf : ((cfgM m hO).win (5 : Fin 6)).flush t with
    | false =>
      refine triple_restated (sound_val (n := n) m hO c t _ fun d y hy => ?_) rfl .rfl fun _ => .rfl
      rw [if_neg (fun e => h ((cond_iff m hO hL t).1 e))]
      subst hy; iintro H; iexists d; iexact H
    | true =>
      refine triple_restated (sound_val (n := n) m hO c t _ fun d y hy => ?_) rfl .rfl fun _ => .rfl
      rw [if_neg (fun e => h ((cond_iff m hO hL t).1 e)), after_5, ← hy, before_5 m hO hL c t (by omega)]

set_option backward.isDefEq.respectTransparency.types false in
include hL in
theorem run_val : θ_run defs (onTc (τ := τ) (main (F := F))) (s₀ m ρ)
    (fun r => Pipeline.FramePost (fun _ : Fin 1 => cfgM m hO) (dats m hO (oVal m hO n)) 0 (V m) r ∧ r.2.sem = fun _ => 0) :=
  Pipeline.θ_run_frameP (Q' := _) pcfgs (fun _ => adm m hO) (dats m hO (oVal m hO n)) (0 : Fin 1) launch0 defs₀ Variants.none m ρ main
    (hbody := fun c => (obligation_val m hO hL c).loose) (hshare := fun c => (dats m hO (oVal m hO n) 0 c).share_full fun _ => rfl)
    (howed := fun _ _ => rfl) (V := V m) (hmain := hmain m Variants.none) (hA := A_eq m hO (oVal m hO n)) (hpf := fun c k => V_pre m c k) (hΦ := fun _ _ => rfl)

end Cert.ExpertsIdeal.Own
-- ==== Proof.Experts.ResultIdeal.lean ====
/- What the experts' call leaves in its result, at a row of a block in use: the body's value at the blocks
   of that point, and the blocks at their indices. -/
module

public import proofs.«01_k».proof.Proof.Experts.RunIdeal
public import Idealize.ShloMosaic.Lib.Pipeline.ReadBack
public import Idealize.ShloMosaic.Lib.Claim
public import Idealize.ShloMosaic.Lib.Pointwise

@[expose] public section

set_option maxRecDepth 16384

noncomputable section

namespace Cert.ExpertsIdeal.Own

open Idealize.ShloMosaic Idealize.ShloMosaic.TcCoe Idealize.SL.Sem
open Idealize.ShloMosaic.Pipeline (Dat Cfg Window)
open Cert.ExpertsIdeal.Gen
open Cert.Proof.Experts (Laid)

variable {F : FTy → Type} [FloatOps F] [Named F]

variable (m : (ℓ : Loc nD τ sig) → Buf (Elt F) ℓ) (ρ : Dev nD → PrngReg) (hO : Ok m)
variable {n : ℕ} (hL : Laid (t0 m) (t1 m) (t2 m) n)

/-- Point `k` of the grid. -/
abbrev pt (k : ℕ) (h : k < 24) : Fin (cfgM m hO).N := ⟨k, h⟩

/-- The array, row by row: each block holds what its point computed. -/
def whole (n : ℕ) (c : Dev nD) : Vec F S6144x768 .f32 := fun i =>
  oVal m hO n c (pt m hO ((i 0).val / 256) (by have h : (i 0).val < 6144 := (i 0).isLt; omega))
    (ValueIdx.ix2 (n0 := 256) (n1 := 768) ⟨(i 0).val % 256, Nat.mod_lt _ (by norm_num)⟩ (i 1))

/-! ## Where a block lies -/

theorem emb_5 (t : Fin (cfgM m hO).N) (p : Fin 256) (q : Fin 768) (k : ℕ) (hk : ((cfgM m hO).win 5).index t = ![k, 0]) (h : k * 256 + p.val < 6144) :
    (((cfgM m hO).win 5).blk t).view.emb (ValueIdx.ix2 p q) = ValueIdx.ix2 (n0 := 6144) (n1 := 768) ⟨k * 256 + p.val, h⟩ q := by
  funext a
  refine Fin.ext ((((cfgM m hO).win 5).rect_emb_val_off t (ValueIdx.ix2 p q) a).trans ?_)
  rw [hk]
  change Fin 2 at a
  fin_cases a
  · rfl
  · exact (congrArg (· + q.val) (Nat.zero_mul _)).trans (Nat.zero_add _)

theorem read_0 (c : Dev nD) (t : Fin (cfgM m hO).N) (p : Fin 256) (q : Fin 768) (k : ℕ) (hk : ((cfgM m hO).win 0).index t = ![k, 0]) (h : k * 256 + p.val < 6144) :
    iblk m hO c 0 t (ValueIdx.ix2 p q) = m ((c : Thread nD τ).loc main_arg3) (ValueIdx.ix2 (n0 := 6144) (n1 := 768) ⟨k * 256 + p.val, h⟩ q) := by
  refine Eq.trans ?_ (congrFun (V_of_ne m c main_arg3 (by decide) (by decide)) _)
  refine congrArg (V m c main_arg3) ?_
  funext a
  refine Fin.ext ((((cfgM m hO).win 0).rect_emb_val_off t (ValueIdx.ix2 p q) a).trans ?_)
  rw [hk]
  change Fin 2 at a
  fin_cases a
  · rfl
  · exact (congrArg (· + q.val) (Nat.zero_mul _)).trans (Nat.zero_add _)

theorem read_1 (c : Dev nD) (t : Fin (cfgM m hO).N) (p : Fin 3072) (q : Fin 768) (k : Fin 8) (hk : ((cfgM m hO).win 1).index t = ![k.val, 0, 0]) :
    iblk m hO c 1 t (ValueIdx.ix3 0 p q) = m ((c : Thread nD τ).loc main_arg4) (ValueIdx.ix3 (n0 := 8) (n1 := 3072) (n2 := 768) k p q) := by
  refine Eq.trans ?_ (congrFun (V_of_ne m c main_arg4 (by decide) (by decide)) _)
  refine congrArg (V m c main_arg4) ?_
  funext a
  refine Fin.ext ((((cfgM m hO).win 1).rect_emb_val_off t (ValueIdx.ix3 0 p q) a).trans ?_)
  rw [hk]
  change Fin 3 at a
  fin_cases a
  · exact (Nat.add_zero _).trans (Nat.mul_one _)
  · exact (congrArg (· + p.val) (Nat.zero_mul _)).trans (Nat.zero_add _)
  · exact (congrArg (· + q.val) (Nat.zero_mul _)).trans (Nat.zero_add _)

theorem read_3 (c : Dev nD) (t : Fin (cfgM m hO).N) (p : Fin 768) (q : Fin 3072) (k : Fin 8) (hk : ((cfgM m hO).win 3).index t = ![k.val, 0, 0]) :
    iblk m hO c 3 t (ValueIdx.ix3 0 p q) = m ((c : Thread nD τ).loc main_arg6) (ValueIdx.ix3 (n0 := 8) (n1 := 768) (n2 := 3072) k p q) := by
  refine Eq.trans ?_ (congrFun (V_of_ne m c main_arg6 (by decide) (by decide)) _)
  refine congrArg (V m c main_arg6) ?_
  funext a
  refine Fin.ext ((((cfgM m hO).win 3).rect_emb_val_off t (ValueIdx.ix3 0 p q) a).trans ?_)
  rw [hk]
  change Fin 3 at a
  fin_cases a
  · exact (Nat.add_zero _).trans (Nat.mul_one _)
  · exact (congrArg (· + p.val) (Nat.zero_mul _)).trans (Nat.zero_add _)
  · exact (congrArg (· + q.val) (Nat.zero_mul _)).trans (Nat.zero_add _)

theorem V_v0 (c : Dev nD) : V m c main_v0 = (shapeCast S8x1x3072 (m ((c : Thread nD τ).loc main_arg5)) shapeCasts_S8x3072_S8x1x3072 : Vec F S8x1x3072 .f32) := by
  rfl

theorem read_2 (c : Dev nD) (t : Fin (cfgM m hO).N) (q : Fin 3072) (k : Fin 8) (hk : ((cfgM m hO).win 2).index t = ![k.val, 0, 0]) :
    iblk m hO c 2 t (ValueIdx.ix3 0 0 q) = m ((c : Thread nD τ).loc main_arg5) (ValueIdx.ix2 (n0 := 8) (n1 := 3072) k q) := by
  refine Eq.trans (b := V m c main_v0 (ValueIdx.ix3 (n0 := 8) (n1 := 1) (n2 := 3072) k 0 q)) ?_ ?_
  · refine congrArg (V m c main_v0) ?_
    funext a
    refine Fin.ext ((((cfgM m hO).win 2).rect_emb_val_off t (ValueIdx.ix3 0 0 q) a).trans ?_)
    rw [hk]
    change Fin 3 at a
    fin_cases a
    · exact (Nat.add_zero _).trans (Nat.mul_one _)
    · rfl
    · exact (congrArg (· + q.val) (Nat.zero_mul _)).trans (Nat.zero_add _)
  · rw [V_v0]
    refine shapeCast_apply (s := S8x3072) _ _ _ _ ?_
    rw [Shape.rowMajor_val_three]
    refine (Shape.rowMajor_val_two _).trans ?_
    show k.val * 3072 + q.val = (k.val * 1 + 0) * 3072 + q.val
    rw [Nat.mul_one, Nat.add_zero]

theorem V_v1 (c : Dev nD) : V m c main_v1 = (shapeCast S8x1x768 (m ((c : Thread nD τ).loc main_arg7)) shapeCasts_S8x768_S8x1x768 : Vec F S8x1x768 .f32) := by
  rfl

theorem read_4 (c : Dev nD) (t : Fin (cfgM m hO).N) (q : Fin 768) (k : Fin 8) (hk : ((cfgM m hO).win 4).index t = ![k.val, 0, 0]) :
    iblk m hO c 4 t (ValueIdx.ix3 0 0 q) = m ((c : Thread nD τ).loc main_arg7) (ValueIdx.ix2 (n0 := 8) (n1 := 768) k q) := by
  refine Eq.trans (b := V m c main_v1 (ValueIdx.ix3 (n0 := 8) (n1 := 1) (n2 := 768) k 0 q)) ?_ ?_
  · refine congrArg (V m c main_v1) ?_
    funext a
    refine Fin.ext ((((cfgM m hO).win 4).rect_emb_val_off t (ValueIdx.ix3 0 0 q) a).trans ?_)
    rw [hk]
    change Fin 3 at a
    fin_cases a
    · exact (Nat.add_zero _).trans (Nat.mul_one _)
    · rfl
    · exact (congrArg (· + q.val) (Nat.zero_mul _)).trans (Nat.zero_add _)
  · rw [V_v1]
    refine shapeCast_apply (s := S8x768) _ _ _ _ ?_
    rw [Shape.rowMajor_val_three]
    refine (Shape.rowMajor_val_two _).trans ?_
    show k.val * 768 + q.val = (k.val * 1 + 0) * 768 + q.val
    rw [Nat.mul_one, Nat.add_zero]

/-! ## The array -/

include hL in
theorem array_5 (c : Dev nD) (r : Fin 6144) (j : Fin 768) (h : r.val / 256 < n) :
    (dats m hO (oVal m hO n) 0 c).arrAt 5 (cfgM m hO).N (ValueIdx.ix2 r j)
      = pay m hO c (pt m hO (r.val / 256) (by have := r.isLt; omega)) (ValueIdx.ix2 (n0 := 256) (n1 := 768) ⟨r.val % 256, Nat.mod_lt _ (by norm_num)⟩ j) := by
  have hr := r.isLt
  have hp := hL.pos
  obtain ⟨k, hk24, hkf, hkb⟩ : ∃ k : ℕ, ∃ _ : k < 24, (k = 23 ∨ k + 1 < n) ∧ min k (n - 1) = r.val / 256 := by
    by_cases h1 : r.val / 256 + 1 < n
    · exact ⟨r.val / 256, by omega, .inr h1, by omega⟩
    · exact ⟨23, by omega, .inl rfl, by omega⟩
  have key := (dats m hO (oVal m hO n) 0 c).arrAt_forall_of_flushed 5 (fun i v => v = whole m hO n c i) (fun t hf y => by
    obtain ⟨p, q, rfl⟩ : ∃ (p : Fin 256) (q : Fin 768), y = ValueIdx.ix2 p q := ⟨y (0 : Fin 2), y (1 : Fin 2), funext fun a => by change Fin 2 at a; fin_cases a <;> rfl⟩
    have hp' := p.isLt
    have ht : t.val < 24 := t.isLt
    have hb : min t.val (n - 1) * 256 + p.val < 6144 := by omega
    rw [emb_5 m hO t p q _ (place_val m hO hL t) hb]
    refine Eq.trans (b := oVal m hO n c t (ValueIdx.ix2 p q)) (congrFun (after_5 m hO (oVal m hO n) c t) _) ?_
    unfold whole oVal
    have e1 : upTo m hO n (pt m hO ((min t.val (n - 1) * 256 + p.val) / 256) (by omega)) = upTo m hO n t :=
      Fin.ext (by show min ((min t.val (n - 1) * 256 + p.val) / 256) (n - 1) = min t.val (n - 1); omega)
    have e2 : (⟨(min t.val (n - 1) * 256 + p.val) % 256, Nat.mod_lt _ (by norm_num)⟩ : Fin 256) = p :=
      Fin.ext (by show (min t.val (n - 1) * 256 + p.val) % 256 = p.val; omega)
    exact (congrArg₂ (fun t p => pay m hO c t (ValueIdx.ix2 (n0 := 256) (n1 := 768) p q)) e1 e2).symm)
    (cfgM m hO).N (pt m hO k hk24) (ValueIdx.ix2 r j) (Fin.isLt _)
    ((flush_iff m hO hL _).2 hkf)
    (by
      have e : ValueIdx.ix2 r j = (((cfgM m hO).win 5).blk (pt m hO k hk24)).view.emb (ValueIdx.ix2 (n0 := 256) (n1 := 768) ⟨r.val % 256, Nat.mod_lt _ (by norm_num)⟩ j) := by
        rw [emb_5 m hO _ _ j _ (place_val m hO hL _) (by show min k (n - 1) * 256 + r.val % 256 < 6144; omega)]
        exact congrArg (fun r => ValueIdx.ix2 r j) (Fin.ext (by show r.val = min k (n - 1) * 256 + r.val % 256; omega))
      rw [e]
      exact View.emb_mem_set _ _)
  refine key.trans ?_
  unfold whole oVal
  exact congrArg (fun t => pay m hO c t _) (upTo_of_lt m hO _ h)

/-- After the run the result holds, at a row of a block in use, the value of that block's point. -/
theorem end_5 {r : PUnit × MemSt nD τ sig (Elt F)} (h : Pipeline.FramePost (fun _ : Fin 1 => cfgM m hO) (dats m hO (oVal m hO n)) 0 (V m) r) (c : Dev nD) :
    r.2.mem ((c.tc : Thread nD τ).loc main_v2) = (dats m hO (oVal m hO n) 0 c).arrAt 5 (cfgM m hO).N := (h c).1 5

/-- The arguments end as they were. -/
theorem args_of {r : PUnit × MemSt nD τ sig (Elt F)} (h : Pipeline.FramePost (fun _ : Fin 1 => cfgM m hO) (dats m hO (oVal m hO n)) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  ⟨((h c).2 main_arg0 (Pipeline.mem_restRefs_of main_arg0 rfl (show ∀ w : Fin 6, (spec0 w).arr.view.ref ≠ main_arg0 by decide))).trans (V_of_ne m c _ (by decide) (by decide)),
   ((h c).2 main_arg1 (Pipeline.mem_restRefs_of main_arg1 rfl (show ∀ w : Fin 6, (spec0 w).arr.view.ref ≠ main_arg1 by decide))).trans (V_of_ne m c _ (by decide) (by decide)),
   ((h c).2 main_arg2 (Pipeline.mem_restRefs_of main_arg2 rfl (show ∀ w : Fin 6, (spec0 w).arr.view.ref ≠ main_arg2 by decide))).trans (V_of_ne m c _ (by decide) (by decide)),
   ((h c).1 0).trans (((dats m hO (oVal m hO n) 0 c).arrAt_in 0 rfl _).trans (V_of_ne m c main_arg3 (by decide) (by decide))),
   ((h c).1 1).trans (((dats m hO (oVal m hO n) 0 c).arrAt_in 1 rfl _).trans (V_of_ne m c main_arg4 (by decide) (by decide))),
   ((h c).2 main_arg5 (Pipeline.mem_restRefs_of main_arg5 rfl (show ∀ w : Fin 6, (spec0 w).arr.view.ref ≠ main_arg5 by decide))).trans (V_of_ne m c _ (by decide) (by decide)),
   ((h c).1 3).trans (((dats m hO (oVal m hO n) 0 c).arrAt_in 3 rfl _).trans (V_of_ne m c main_arg6 (by decide) (by decide))),
   ((h c).2 main_arg7 (Pipeline.mem_restRefs_of main_arg7 rfl (show ∀ w : Fin 6, (spec0 w).arr.view.ref ≠ main_arg7 by decide))).trans (V_of_ne m c _ (by decide) (by decide))⟩

end Cert.ExpertsIdeal.Own
-- ==== Proof.Experts.Payload.lean ====
/- What the experts' body computes and what the reference computes for one expert, read at an index, at ideal
   values: one row through the expert's two layers with the error-function gelu between them. -/
module

public import proofs.«01_k».proof.Proof.Gen.ExpertsIdeal.Skeleton
public import proofs.«01_k».proof.Proof.Gen.ExpertsRefIdeal.Run
public import Idealize.ShloMosaic.Lib.Pointwise

@[expose] public section

set_option maxRecDepth 16384

noncomputable section

namespace Cert.Proof.Experts

open Idealize.ShloMosaic

section Body
open Cert.ExpertsIdeal Cert.ExpertsIdeal.Gen

/-- The first layer's row before the gelu. -/
def first (x : FVec Ideal S256x768 .f32) (w : FVec Ideal S1x3072x768 .f32) (b : FVec Ideal S1x1x3072 .f32) : FVec Ideal S256x3072 .f32 :=
  addf (matmul dot_S256x768_S3072x768_S256x3072_1_1_0_0_n_n none (truncf .bf16 x bitsLt_bf16_f32)
      (truncf .bf16 (shapeCast S3072x768 w shapeCasts_S1x3072x768_S3072x768) bitsLt_bf16_f32) (constant S256x3072 .f32 0x00000000#32))
    (broadcastTo S256x3072 (shapeCast S1x3072 b shapeCasts_S1x1x3072_S1x3072) broadcasts_S1x3072_S256x3072)

theorem first_apply (x : FVec Ideal S256x768 .f32) (w : FVec Ideal S1x3072x768 .f32) (b : FVec Ideal S1x1x3072 .f32) (p : Fin 256) (h : Fin 3072) :
    first x w b (ix2 p h) = ∑ k : Fin 768, x (ix2 p k) * w (ix3 0 h k) + b (ix3 0 0 h) := by
  pointwise [first]

/-- The gelu as the body computes it. -/
def gelu (v : FVec Ideal S256x3072 .f32) : FVec Ideal S256x3072 .f32 :=
  mulf (mulf (broadcast S256x3072 (Scalar.ofBits .f32 0x3F000000#32)) v)
    (addf (broadcast S256x3072 (Scalar.ofBits .f32 0x3F800000#32)) (erf (mulf v (broadcast S256x3072 (Named.named κ "half_root" 0x3F3504F3#32)))))

/-- The second layer. -/
def second (a : FVec Ideal S256x3072 .f32) (w : FVec Ideal S1x768x3072 .f32) (b : FVec Ideal S1x1x768 .f32) : FVec Ideal S256x768 .f32 :=
  addf (matmul dot_S256x3072_S768x3072_S256x768_1_1_0_0_n_n none (truncf .bf16 a bitsLt_bf16_f32)
      (truncf .bf16 (shapeCast S768x3072 w shapeCasts_S1x768x3072_S768x3072) bitsLt_bf16_f32) (constant S256x768 .f32 0x00000000#32))
    (broadcastTo S256x768 (shapeCast S1x768 b shapeCasts_S1x1x768_S1x768) broadcasts_S1x768_S256x768)

theorem second_apply (a : FVec Ideal S256x3072 .f32) (w : FVec Ideal S1x768x3072 .f32) (b : FVec Ideal S1x1x768 .f32) (p : Fin 256) (j : Fin 768) :
    second a w b (ix2 p j) = ∑ h : Fin 3072, a (ix2 p h) * w (ix3 0 j h) + b (ix3 0 0 j) := by
  pointwise [second]

theorem pay_eq (v4 : FVec Ideal S256x768 .f32) (v6 : FVec Ideal S1x3072x768 .f32) (v10 : FVec Ideal S1x1x3072 .f32)
    (v23 : FVec Ideal S1x768x3072 .f32) (v27 : FVec Ideal S1x1x768 .f32) :
    k0_pay1 (F := Ideal) v4 v6 v10 v23 v27 = second (gelu (first v4 v6 v10)) v23 v27 := rfl

end Body

/-- The gelu of one value. -/
def bend (v : EReal) : EReal :=
  (Ideal.ofBits .f32 0x3F000000#32 * v) * (1 + Ideal.erf (v * (((Real.sqrt 2)⁻¹ : ℝ) : EReal)))

/-- The root of the constant two. -/
theorem root_two : Ideal.sqrt (Ideal.ofBits .f32 0x40000000#32) = ((Real.sqrt 2 : ℝ) : EReal) := by
  have e : Ideal.ofBits .f32 0x40000000#32 = ((2 : ℝ) : EReal) := by
    simp [Ideal.ofBits, Ideal.ieee, -EReal.coe_mul]; norm_num
  rw [e, Ideal.sqrt_coe, if_neg (by norm_num)]

theorem div_root (v : EReal) : Ideal.div v ((Real.sqrt 2 : ℝ) : EReal) = v * (((Real.sqrt 2)⁻¹ : ℝ) : EReal) := by
  rw [Ideal.div_coe (by positivity), one_div]

section Body
open Cert.ExpertsIdeal Cert.ExpertsIdeal.Gen

theorem gelu_apply (v : FVec Ideal S256x3072 .f32) (p : Fin 256) (h : Fin 3072) : gelu v (ix2 p h) = bend (v (ix2 p h)) := by
  pointwise [gelu]
  rfl

end Body

section Reference
open Cert.ExpertsRefIdeal Cert.ExpertsRefIdeal.Gen Cert.ExpertsRefIdeal.Value

variable (x : FVec Ideal S6144x768 .f32) (w1 : FVec Ideal S8x3072x768 .f32) (b1 : FVec Ideal S8x3072 .f32)
  (w2 : FVec Ideal S8x768x3072 .f32) (b2 : FVec Ideal S8x768 .f32) (x1 : IVec S24 32)

/-- Every row through expert `e`'s first layer. -/
def refFirst (e : ℕ) (hw : S8x3072x768.Slices ![e, 0, 0] S1x3072x768) (hb : S8x3072.Slices ![e, 0] S1x3072) : FVec Ideal S6144x3072 .f32 :=
  addf (Host.dotGeneral dot_S6144x768_S768x3072_S6144x3072_1_0_0_1_n_n none x
      (transpose S768x3072 [1, 0] (shapeCast _ (extractStridedSlice S1x3072x768 ![e, 0, 0] w1 hw) shapeCasts_S1x3072x768_S3072x768) transposes_S3072x768_S768x3072_1_0))
    (broadcastInDim S6144x3072 ![0, 1] bcast_S1x3072_S6144x3072_0_1 (broadcastInDim S1x3072 ![1] bcast_S3072_S1x3072_1
      (shapeCast _ (extractStridedSlice S1x3072 ![e, 0] b1 hb) shapeCasts_S1x3072_S3072)))

theorem refFirst_apply (e : Fin 8) (hw) (hb) (r : Fin 6144) (h : Fin 3072) :
    refFirst x w1 b1 e.val hw hb (ix2 r h) = ∑ k : Fin 768, x (ix2 r k) * w1 (ix3 e h k) + b1 (ix2 e h) := by
  pointwise [refFirst]

def refGelu (v : FVec Ideal S6144x3072 .f32) : FVec Ideal S6144x3072 .f32 :=
  mulf (mulf (broadcastInDim S6144x3072 ![] bcast_S_S6144x3072 (constant S_ .f32 0x3F000000#32)) v)
    (addf (broadcastInDim S6144x3072 ![] bcast_S_S6144x3072 (constant S_ .f32 0x3F800000#32))
      (Host.erf (Host.divf v (broadcastInDim S6144x3072 ![] bcast_S_S6144x3072 (id (Host.sqrt (constant S_ .f32 0x40000000#32)))))))

theorem refGelu_apply (v : FVec Ideal S6144x3072 .f32) (r : Fin 6144) (h : Fin 3072) : refGelu v (ix2 r h) = bend (v (ix2 r h)) := by
  pointwise [refGelu]
  rw [show (id (Host.sqrt (constant S_ FTy.f32 0x40000000#32)) : FVec Ideal S_ .f32) ix0 = Ideal.sqrt (Ideal.ofBits .f32 0x40000000#32) from rfl,
    root_two, div_root]
  rfl

/-- … and the second, for the rows whose block names expert `e`. -/
def refTerm (e : ℕ) (hw : S8x768x3072.Slices ![e, 0, 0] S1x768x3072) (hb : S8x768.Slices ![e, 0] S1x768) (a : FVec Ideal S6144x3072 .f32) (mk : IVec S6144 1) : FVec Ideal S6144x768 .f32 :=
  mulf (addf (Host.dotGeneral dot_S6144x3072_S3072x768_S6144x768_1_0_0_1_n_n none a
        (transpose S3072x768 [1, 0] (shapeCast _ (extractStridedSlice S1x768x3072 ![e, 0, 0] w2 hw) shapeCasts_S1x768x3072_S768x3072) transposes_S768x3072_S3072x768_1_0))
      (broadcastInDim S6144x768 ![0, 1] bcast_S1x768_S6144x768_0_1 (broadcastInDim S1x768 ![1] bcast_S768_S1x768_1
        (shapeCast _ (extractStridedSlice S1x768 ![e, 0] b2 hb) shapeCasts_S1x768_S768))))
    (broadcastInDim S6144x768 ![0, 1] bcast_S6144x1_S6144x768_0_1 (broadcastInDim S6144x1 ![0] bcast_S6144_S6144x1_0 (uitofp .f32 mk)))

theorem refTerm_apply (e : Fin 8) (hw) (hb) (a : FVec Ideal S6144x3072 .f32) (mk : IVec S6144 1) (r : Fin 6144) (j : Fin 768) :
    refTerm w2 b2 e.val hw hb a mk (ix2 r j) = (∑ h : Fin 3072, a (ix2 r h) * w2 (ix3 e j h) + b2 (ix2 e j)) * ((mk (ix1 r)).toNat : EReal) := by
  pointwise [refTerm]
  rfl

/-- The expert each row's block names. -/
def owner : IVec S6144 32 :=
  shapeCast _ (broadcastInDim S24x256 ![0, 1] bcast_S24x1_S24x256_0_1 (broadcastInDim S24x1 ![0] bcast_S24_S24x1_0 x1)) shapeCasts_S24x256_S6144

end Reference

end Cert.Proof.Experts
-- ==== Proof.Experts.Reference.lean ====
/- The reference's result, read at an index, at ideal values: of the eight experts' terms only the one that the row's
   block names is kept. -/
module

public import proofs.«01_k».proof.Proof.Experts.Payload
public import Idealize.ShloMosaic.Lib.Routing.Ops

@[expose] public section

set_option maxRecDepth 16384

noncomputable section

namespace Cert.Proof.Experts

open Idealize.ShloMosaic

/-- One entry of the products: row `r` through expert `e`'s two layers, column `j`. -/
def entry (x : (⟨2, ![6144, 768]⟩ : Shape).Idx → EReal) (w1 : (⟨3, ![8, 3072, 768]⟩ : Shape).Idx → EReal) (b1 : (⟨2, ![8, 3072]⟩ : Shape).Idx → EReal)
    (w2 : (⟨3, ![8, 768, 3072]⟩ : Shape).Idx → EReal) (b2 : (⟨2, ![8, 768]⟩ : Shape).Idx → EReal) (e : Fin 8) (r : Fin 6144) (j : Fin 768) : EReal :=
  ∑ h : Fin 3072, bend (∑ k : Fin 768, x (ix2 r k) * w1 (ix3 e h k) + b1 (ix2 e h)) * w2 (ix3 e j h) + b2 (ix2 e j)

section Reference
open Cert.ExpertsRefIdeal Cert.ExpertsRefIdeal.Gen Cert.ExpertsRefIdeal.Value

variable (x : FVec Ideal S6144x768 .f32) (w1 : FVec Ideal S8x3072x768 .f32) (b1 : FVec Ideal S8x3072 .f32)
  (w2 : FVec Ideal S8x768x3072 .f32) (b2 : FVec Ideal S8x768 .f32) (x1 : IVec S24 32)

theorem owner_apply (r : Fin 6144) : owner x1 (ix1 r) = x1 (ix1 (⟨r.val / 256, by have := r.isLt; omega⟩ : Fin 24)) := by
  have hr := r.isLt
  unfold owner
  refine (Routing.cast21 (a := 24) (b := 256) (n := 6144) _ _ (⟨r.val / 256, by omega⟩ : Fin 24) (⟨r.val % 256, by omega⟩ : Fin 256) r (by show r.val = r.val / 256 * 256 + r.val % 256; omega)).trans ?_
  refine (broadcastInDim_apply _ bcast_S24x1_S24x256_0_1 _ _ (ix2 (⟨r.val / 256, by omega⟩ : Fin 24) (0 : Fin 1)) fun a => ?_).trans ?_
  · fin_cases a <;> rfl
  · exact (Routing.bcCol (n := 24) bcast_S24_S24x1_0 _ (⟨r.val / 256, by omega⟩ : Fin 24)).trans rfl

/-- One expert's term of the reference's sum. -/
def part (e : ℕ) (h1 : S8x3072x768.Slices ![e, 0, 0] S1x3072x768) (h2 : S8x3072.Slices ![e, 0] S1x3072)
    (h3 : S8x768x3072.Slices ![e, 0, 0] S1x768x3072) (h4 : S8x768.Slices ![e, 0] S1x768) : FVec Ideal S6144x768 .f32 :=
  refTerm w2 b2 e h3 h4 (refGelu (refFirst x w1 b1 e h1 h2))
    (cmpi .eq (owner x1) (broadcastInDim S6144 ![] bcast_S_S6144 (constantI S_ 32 (BitVec.ofNat 32 e))))

theorem part_apply (e : Fin 8) (h1) (h2) (h3) (h4) (r : Fin 6144) (j : Fin 768) (k : Fin 8)
    (hk : (x1 (ix1 (⟨r.val / 256, by have := r.isLt; omega⟩ : Fin 24))).toNat = k.val) :
    part x w1 b1 w2 b2 x1 e.val h1 h2 h3 h4 (ix2 r j) = if k = e then entry x w1 b1 w2 b2 e r j else 0 := by
  unfold part
  rw [refTerm_apply]
  have hm : cmpi .eq (owner x1) (broadcastInDim S6144 ![] bcast_S_S6144 (constantI S_ 32 (BitVec.ofNat 32 e.val))) (ix1 r)
      = BitVec.ofBool (decide (k = e)) := by
    show BitVec.ofBool (owner x1 (ix1 r) == BitVec.ofNat 32 e.val) = _
    rw [owner_apply]
    congr 1
    have he := e.isLt
    rw [Bool.eq_iff_iff, beq_iff_eq, decide_eq_true_eq, ← BitVec.toNat_inj, hk, BitVec.toNat_ofNat, Nat.mod_eq_of_lt (by omega), Fin.ext_iff]
  rw [hm]
  by_cases h : k = e
  · rw [if_pos h, decide_eq_true h]
    show _ * ((1 : ℕ) : EReal) = _
    rw [Nat.cast_one, mul_one]
    unfold entry
    simp only [refGelu_apply, refFirst_apply]
  · rw [if_neg h, decide_eq_false h]
    show _ * ((0 : ℕ) : EReal) = _
    rw [Nat.cast_zero, mul_zero]

/-- The reference's result is the sum of the eight experts' terms, from zero. -/
theorem res_eq (V0 : Valuation τ sig (Elt Ideal)) (p : Fin 8 → FVec Ideal S6144x768 .f32)
    (hp : p = ![part (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg1)) 0 slices_S8x3072x768_S1x3072x768_0_0_0 slices_S8x3072_S1x3072_0_0 slices_S8x768x3072_S1x768x3072_0_0_0 slices_S8x768_S1x768_0_0,
      part (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg1)) 1 slices_S8x3072x768_S1x3072x768_1_0_0 slices_S8x3072_S1x3072_1_0 slices_S8x768x3072_S1x768x3072_1_0_0 slices_S8x768_S1x768_1_0,
      part (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg1)) 2 slices_S8x3072x768_S1x3072x768_2_0_0 slices_S8x3072_S1x3072_2_0 slices_S8x768x3072_S1x768x3072_2_0_0 slices_S8x768_S1x768_2_0,
      part (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg1)) 3 slices_S8x3072x768_S1x3072x768_3_0_0 slices_S8x3072_S1x3072_3_0 slices_S8x768x3072_S1x768x3072_3_0_0 slices_S8x768_S1x768_3_0,
      part (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg1)) 4 slices_S8x3072x768_S1x3072x768_4_0_0 slices_S8x3072_S1x3072_4_0 slices_S8x768x3072_S1x768x3072_4_0_0 slices_S8x768_S1x768_4_0,
      part (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg1)) 5 slices_S8x3072x768_S1x3072x768_5_0_0 slices_S8x3072_S1x3072_5_0 slices_S8x768x3072_S1x768x3072_5_0_0 slices_S8x768_S1x768_5_0,
      part (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg1)) 6 slices_S8x3072x768_S1x3072x768_6_0_0 slices_S8x3072_S1x3072_6_0 slices_S8x768x3072_S1x768x3072_6_0_0 slices_S8x768_S1x768_6_0,
      part (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg1)) 7 slices_S8x3072x768_S1x3072x768_7_0_0 slices_S8x3072_S1x3072_7_0 slices_S8x768x3072_S1x768x3072_7_0_0 slices_S8x768_S1x768_7_0]) :
    res_main_v283 V0 = addf (addf (addf (addf (addf (addf (addf (addf (broadcastInDim S6144x768 ![] bcast_S_S6144x768 (constant S_ .f32 0x00000000#32))
      (p 0)) (p 1)) (p 2)) (p 3)) (p 4)) (p 5)) (p 6)) (p 7) := by
  subst hp
  rfl

theorem res_apply (V0 : Valuation τ sig (Elt Ideal)) (r : Fin 6144) (j : Fin 768) (k : Fin 8)
    (hk : (V0 (Proc.devRef .tc main_arg1) (ix1 (⟨r.val / 256, by have := r.isLt; omega⟩ : Fin 24)) : BitVec 32).toNat = k.val) :
    (res_main_v283 V0 : FVec Ideal S6144x768 .f32) (ix2 r j) = entry (V0 (Proc.devRef .tc main_arg3)) (V0 (Proc.devRef .tc main_arg4)) (V0 (Proc.devRef .tc main_arg5)) (V0 (Proc.devRef .tc main_arg6)) (V0 (Proc.devRef .tc main_arg7)) k r j := by
  rw [res_eq V0 _ rfl]
  have hs : ∀ q : Fin 8 → FVec Ideal S6144x768 .f32, (∀ e, q e (ix2 r j) = if k = e then entry (V0 (Proc.devRef .tc main_arg3)) (V0 (Proc.devRef .tc main_arg4)) (V0 (Proc.devRef .tc main_arg5)) (V0 (Proc.devRef .tc main_arg6)) (V0 (Proc.devRef .tc main_arg7)) e r j else 0) →
      addf (addf (addf (addf (addf (addf (addf (addf (broadcastInDim S6144x768 ![] bcast_S_S6144x768 (constant S_ .f32 0x00000000#32))
      (q 0)) (q 1)) (q 2)) (q 3)) (q 4)) (q 5)) (q 6)) (q 7) (ix2 r j) = entry (V0 (Proc.devRef .tc main_arg3)) (V0 (Proc.devRef .tc main_arg4)) (V0 (Proc.devRef .tc main_arg5)) (V0 (Proc.devRef .tc main_arg6)) (V0 (Proc.devRef .tc main_arg7)) k r j := by
    intro q hq
    have e : addf (addf (addf (addf (addf (addf (addf (addf (broadcastInDim S6144x768 ![] bcast_S_S6144x768 (constant S_ .f32 0x00000000#32))
        (q 0)) (q 1)) (q 2)) (q 3)) (q 4)) (q 5)) (q 6)) (q 7) (ix2 r j) = ∑ e : Fin 8, q e (ix2 r j) := by
      rw [Fin.sum_univ_eight]
      show Ideal.ofBits .f32 0x00000000#32 + q 0 (ix2 r j) + q 1 (ix2 r j) + q 2 (ix2 r j) + q 3 (ix2 r j) + q 4 (ix2 r j) + q 5 (ix2 r j) + q 6 (ix2 r j) + q 7 (ix2 r j) = _
      rw [show Ideal.ofBits .f32 0x00000000#32 = 0 by simp [Ideal.ofBits, Ideal.ieee], zero_add]
    rw [e, Finset.sum_congr rfl fun e _ => hq e, Finset.sum_ite_eq, if_pos (Finset.mem_univ _)]
  refine hs _ fun e => ?_
  fin_cases e
  · exact part_apply _ _ _ _ _ _ 0 _ _ _ _ r j k hk
  · exact part_apply _ _ _ _ _ _ 1 _ _ _ _ r j k hk
  · exact part_apply _ _ _ _ _ _ 2 _ _ _ _ r j k hk
  · exact part_apply _ _ _ _ _ _ 3 _ _ _ _ r j k hk
  · exact part_apply _ _ _ _ _ _ 4 _ _ _ _ r j k hk
  · exact part_apply _ _ _ _ _ _ 5 _ _ _ _ r j k hk
  · exact part_apply _ _ _ _ _ _ 6 _ _ _ _ r j k hk
  · exact part_apply _ _ _ _ _ _ 7 _ _ _ _ r j k hk

end Reference

end Cert.Proof.Experts
-- ==== Proof.Experts.Same.lean ====
/- The experts' call's array at a row whose block is in use: the row through the expert that the block names. -/
module

public import proofs.«01_k».proof.Proof.Experts.ResultIdeal
public import proofs.«01_k».proof.Proof.Experts.Reference

@[expose] public section

set_option maxRecDepth 16384

noncomputable section

namespace Cert.ExpertsIdeal.Own

open Idealize.ShloMosaic Idealize.ShloMosaic.TcCoe Idealize.SL.Sem
open Cert.ExpertsIdeal.Gen
open Cert.Proof.Experts (Laid)

variable (m : (ℓ : Loc nD τ sig) → Buf (Elt Ideal) ℓ) (hO : Ok m)
variable {n : ℕ} (hL : Laid (t0 m) (t1 m) (t2 m) n)

theorem at_pt (t : Fin (cfgM m hO).N) : at24 (grid0.coords t) = ValueIdx.ix1 (n := 24) ⟨t.val, t.isLt⟩ :=
  congrArg (ValueIdx.ix1 (n := 24)) (Fin.ext (coord_val m hO t))

include hL in
/-- A point in use works on the block of its own number. -/
theorem block_at (t : Fin (cfgM m hO).N) (h : t.val < n) : ((cfgM m hO).win 0).index t = ![t.val, 0] := by
  refine (index_0 m (grid0.coords t)).trans ?_
  rw [at_pt m hO t, hL.block]
  congr 1
  show min t.val (n - 1) = t.val
  omega

include hL in
theorem array_entry (c : Dev nD) (r : Fin 6144) (j : Fin 768) (h : r.val / 256 < n) (e : Fin 8)
    (he : (t1 m (ValueIdx.ix1 (n := 24) ⟨r.val / 256, by have := r.isLt; omega⟩)).toNat = e.val) :
    (dats m hO (oVal m hO n) 0 c).arrAt 5 (cfgM m hO).N (ValueIdx.ix2 r j)
      = Cert.Proof.Experts.entry (m ((c : Thread nD τ).loc main_arg3)) (m ((c : Thread nD τ).loc main_arg4)) (m ((c : Thread nD τ).loc main_arg5))
          (m ((c : Thread nD τ).loc main_arg6)) (m ((c : Thread nD τ).loc main_arg7)) e r j := by
  have hr := r.isLt
  rw [array_5 m hO hL c r j h]
  generalize ht : pt m hO (r.val / 256) _ = t
  have htv : t.val = r.val / 256 := by rw [← ht]
  have ha : at24 (grid0.coords t) = ValueIdx.ix1 (n := 24) ⟨r.val / 256, by omega⟩ := (at_pt m hO t).trans (congrArg (ValueIdx.ix1 (n := 24)) (Fin.ext htv))
  have h0 : ((cfgM m hO).win 0).index t = ![r.val / 256, 0] := htv ▸ block_at m hO hL t (htv ▸ h)
  have h1 : ((cfgM m hO).win 1).index t = ![e.val, 0, 0] := (index_1 m (grid0.coords t)).trans (by rw [ha, he])
  have h2 : ((cfgM m hO).win 2).index t = ![e.val, 0, 0] := (index_2 m (grid0.coords t)).trans (by rw [ha, he])
  have h3 : ((cfgM m hO).win 3).index t = ![e.val, 0, 0] := (index_3 m (grid0.coords t)).trans (by rw [ha, he])
  have h4 : ((cfgM m hO).win 4).index t = ![e.val, 0, 0] := (index_4 m (grid0.coords t)).trans (by rw [ha, he])
  have hrow : (⟨r.val / 256 * 256 + r.val % 256, by omega⟩ : Fin 6144) = r := Fin.ext (by show r.val / 256 * 256 + r.val % 256 = r.val; omega)
  refine (congrFun (Cert.Proof.Experts.pay_eq (iblk m hO c 0 t) (iblk m hO c 1 t) (iblk m hO c 2 t) (iblk m hO c 3 t) (iblk m hO c 4 t)) _).trans ?_
  refine (Cert.Proof.Experts.second_apply _ _ _ _ _).trans ?_
  unfold Cert.Proof.Experts.entry
  refine congrArg₂ (· + ·) (Finset.sum_congr rfl fun h _ => congrArg₂ (· * ·) ?_ (read_3 m hO c t j h e h3)) (read_4 m hO c t j e h4)
  refine (Cert.Proof.Experts.gelu_apply _ _ _).trans (congrArg Cert.Proof.Experts.bend ((Cert.Proof.Experts.first_apply _ _ _ _ _).trans ?_))
  refine congrArg₂ (· + ·) (Finset.sum_congr rfl fun k _ => congrArg₂ (· * ·) ?_ (read_1 m hO c t h k e h1)) (read_2 m hO c t h e h2)
  refine (read_0 m hO c t ⟨r.val % 256, Nat.mod_lt _ (by norm_num)⟩ k (r.val / 256) h0 (by show r.val / 256 * 256 + r.val % 256 < 6144; omega)).trans ?_
  exact congrArg (fun q : Fin 6144 => m ((c : Thread nD τ).loc main_arg3) (ValueIdx.ix2 (n0 := 6144) (n1 := 768) q k)) hrow

end Cert.ExpertsIdeal.Own
-- ==== Proof.Experts.Claims.lean ====
/-
  The claims about the experts' products: the frames of the call and of its reference, that the call read at ideal values keeps
  the printed call but for one named constant, and that both compute the same rows in the blocks in use.
-/
module

public import proofs.«01_k».proof.Defs
public import proofs.«01_k».proof.Proof.Experts.Same
public import proofs.«01_k».proof.Proof.Experts.Ranges
public import proofs.«01_k».proof.Proof.Gen.Experts
public import proofs.«01_k».proof.Proof.Gen.ExpertsIdeal
public import proofs.«01_k».proof.Proof.Gen.ExpertsRefIdeal
public import proofs.«01_k».proof.Proof.Gen.ExpertsRefIdeal.Run
public import proofs.«01_k».proof.Proof.Gen.Pre_ranges
public import proofs.«01_k».proof.Proof.Gen.Pre_tables
public import proofs.«01_k».proof.Proof.Gen.On_used
public import Idealize.ShloMosaic.Lib.Quiescent

@[expose] public section

noncomputable section

namespace Cert.Proof.Experts

open Idealize.ShloMosaic Idealize.SL.Sem

theorem frame_call : Cert.quiescent_Experts := fun m ρ h =>
  Cert.Experts.Own.keeps_args m ρ (Cert.Experts.Own.ok_of m (ranges_of _ _ _ _ _ _ _ _ (h 0)))

theorem frame_ideal : Cert.quiescent_ExpertsIdeal := fun m ρ h =>
  Cert.ExpertsIdeal.Own.keeps_args m ρ (Cert.ExpertsIdeal.Own.ok_of m (ranges_of _ _ _ _ _ _ _ _ (h 0)))

theorem frame_ideal_tables : Cert.quiescent_ExpertsIdeal_pre_tables := fun m ρ h =>
  Cert.ExpertsIdeal.Own.keeps_args m ρ (Cert.ExpertsIdeal.Own.ok_of m (laid_of _ _ _ _ _ _ _ _ (h 0)).inRange)

theorem frame_reference : Cert.quiescent_ExpertsRefIdeal := fun m ρ _ =>
  (θ_run Cert.ExpertsRefIdeal.defs _ _).mono (fun r h => ⟨fun c => (h c).2, Idealize.ShloMosaic.sem_eq_zero_of_no_sems (by decide) r.2⟩)
    (Cert.ExpertsRefIdeal.Value.run (F := Ideal) m ρ)

theorem frame_reference_tables : Cert.quiescent_ExpertsRefIdeal_pre_tables := fun m ρ _ => frame_reference m ρ trivial

theorem keeps : Cert.preserves_Experts_ExpertsIdeal :=
  IdealRules.named_const.statement Cert.ExpertsIdeal.κ "half_root" .f32 0x3F3504F3#32 (((Real.sqrt 2)⁻¹ : ℝ) : EReal) rfl

/-- At a row whose block is in use the reference's result is the call's array. -/
theorem entry_same (m : (ℓ : Loc Cert.ExpertsIdeal.nD Cert.ExpertsIdeal.τ Cert.ExpertsIdeal.sig) → Buf (Elt Ideal) ℓ)
    (V0 : Valuation Cert.ExpertsRefIdeal.τ Cert.ExpertsRefIdeal.sig (Elt Ideal)) (hO : Cert.ExpertsIdeal.Own.Ok m) {n : ℕ}
    (hL : Laid (Cert.ExpertsIdeal.Own.t0 m) (Cert.ExpertsIdeal.Own.t1 m) (Cert.ExpertsIdeal.Own.t2 m) n) (c : Dev Cert.ExpertsIdeal.nD)
    (h1 : V0 (Proc.devRef .tc Cert.ExpertsRefIdeal.main_arg1) = Cert.ExpertsIdeal.Own.t1 m)
    (h3 : V0 (Proc.devRef .tc Cert.ExpertsRefIdeal.main_arg3) = m ((c.tc : Thread Cert.ExpertsIdeal.nD Cert.ExpertsIdeal.τ).loc Cert.ExpertsIdeal.main_arg3))
    (h4 : V0 (Proc.devRef .tc Cert.ExpertsRefIdeal.main_arg4) = m ((c.tc : Thread Cert.ExpertsIdeal.nD Cert.ExpertsIdeal.τ).loc Cert.ExpertsIdeal.main_arg4))
    (h5 : V0 (Proc.devRef .tc Cert.ExpertsRefIdeal.main_arg5) = m ((c.tc : Thread Cert.ExpertsIdeal.nD Cert.ExpertsIdeal.τ).loc Cert.ExpertsIdeal.main_arg5))
    (h6 : V0 (Proc.devRef .tc Cert.ExpertsRefIdeal.main_arg6) = m ((c.tc : Thread Cert.ExpertsIdeal.nD Cert.ExpertsIdeal.τ).loc Cert.ExpertsIdeal.main_arg6))
    (h7 : V0 (Proc.devRef .tc Cert.ExpertsRefIdeal.main_arg7) = m ((c.tc : Thread Cert.ExpertsIdeal.nD Cert.ExpertsIdeal.τ).loc Cert.ExpertsIdeal.main_arg7))
    (r : Fin 6144) (j : Fin 768) (hu : r.val / 256 < n) :
    Cert.ExpertsRefIdeal.Value.res_main_v283 V0 (ix2 r j)
      = (Cert.ExpertsIdeal.Own.dats m hO (Cert.ExpertsIdeal.Own.oVal m hO n) 0 c).arrAt 5 (Cert.ExpertsIdeal.Own.cfgM m hO).N (ix2 r j) := by
  have hr := r.isLt
  have he := hL.expert (ix1 (⟨r.val / 256, by omega⟩ : Fin 24))
  refine (res_apply V0 r j ⟨_, he⟩ (congrArg BitVec.toNat (congrFun h1 _))).trans ?_
  refine Eq.trans ?_ (Cert.ExpertsIdeal.Own.array_entry m hO hL c r j hu ⟨_, he⟩ rfl).symm
  rw [h3, h4, h5, h6, h7]

/-- The result of both runs, in the rows whose block is in use. -/
theorem same : Cert.algebraic_ExpertsIdeal_ExpertsRefIdeal_on_used_pre_tables := by
  intro m ρ m' ρ' hpre hagree
  have hL := laid_of _ _ _ _ _ _ _ _ (hpre 0)
  have hO := Cert.ExpertsIdeal.Own.ok_of m hL.inRange
  refine ⟨fun c => (Cert.ExpertsIdeal.Own.dats m hO (Cert.ExpertsIdeal.Own.oVal m hO _) 0 c).arrAt 5 (Cert.ExpertsIdeal.Own.cfgM m hO).N,
    (θ_run Cert.ExpertsIdeal.defs _ _).mono (fun r e c => ⟨fun i _ => congrFun (Cert.ExpertsIdeal.Own.end_5 m hO e.1 c) i, Cert.ExpertsIdeal.Own.args_of m hO e.1 c⟩)
      (Cert.ExpertsIdeal.Own.run_val m ρ hO hL), ?_⟩
  refine (θ_run Cert.ExpertsRefIdeal.defs _ _).mono (fun r e c => ⟨fun i hi => (congrFun (e c).1 i).trans ?_, (e c).2⟩)
    (Cert.ExpertsRefIdeal.Value.run (F := Ideal) m' ρ')
  obtain rfl : c = 0 := Subsingleton.elim _ _
  obtain ⟨r, j, rfl⟩ : ∃ (r : Fin 6144) (j : Fin 768), i = ix2 r j := ⟨i 0, i 1, by funext a; fin_cases a <;> rfl⟩
  have hu := used_of hL _ _ _ _ _ r j hi
  obtain ⟨-, h1, -, h3, h4, h5, h6, h7⟩ := hagree 0
  exact entry_same m (StableHlo.launchContents m' 0) hO hL 0 h1 h3 h4 h5 h6 h7 r j hu

end Cert.Proof.Experts

end
-- ==== Proof.lean ====
/- The claims, assembled, for the combining, the gating and the experts' call: the frames of each call, of its reading over
   the extended reals and of its reference; that the call keeps its meaning in that reading; and that call and reference
   compute one function. -/
module

public import proofs.«01_k».proof.Defs
public import proofs.«01_k».proof.Proof.Combine.Claims
public import proofs.«01_k».proof.Proof.Gate.Claims
public import proofs.«01_k».proof.Proof.Experts.Claims
public import proofs.«01_k».proof.Proof.Gen.Kernel
public import proofs.«01_k».proof.Proof.Gen.Experts
public import proofs.«01_k».proof.Proof.Gen.Experts.Launch
public import proofs.«01_k».proof.Proof.Gen.Experts.Skeleton
public import proofs.«01_k».proof.Proof.Gen.ExpertsIdeal
public import proofs.«01_k».proof.Proof.Gen.ExpertsIdeal.Launch
public import proofs.«01_k».proof.Proof.Gen.ExpertsIdeal.Skeleton
public import proofs.«01_k».proof.Proof.Gen.ExpertsRefIdeal
public import proofs.«01_k».proof.Proof.Gen.ExpertsRefIdeal.Run
public import proofs.«01_k».proof.Proof.Gen.Pre_tables
public import proofs.«01_k».proof.Proof.Gen.Pre_ranges
public import proofs.«01_k».proof.Proof.Gen.On_used
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Pre_pre
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Gate.Gen.facts, Cert.GateIdeal.Gen.facts,
  Cert.GateRefIdeal.Gen.facts, Cert.Experts.Gen.facts, Cert.ExpertsIdeal.Gen.facts, Cert.ExpertsRefIdeal.Gen.facts, Cert.Pre_pre.Gen.facts, Cert.Pre_finite.Gen.facts,
  Cert.Pre_ranges.Gen.facts, Cert.Pre_tables.Gen.facts, Cert.On_used.Gen.facts,
  Combine.frame_kernel, Combine.frame_ideal, Combine.frame_reference, Combine.frame_reference_pre,
  Gating.frame_gate, Gating.frame_ideal, Gating.frame_ideal_finite, Gating.frame_reference, Gating.frame_reference_finite,
  Experts.frame_call, Experts.frame_ideal, Experts.frame_ideal_tables, Experts.frame_reference, Experts.frame_reference_tables,
  trivial, Combine.same, Gating.keeps, Gating.same, Experts.keeps, Experts.same⟩

end Cert.Proof

end
